-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x1024 .f32) (main_arg2 : FVec F S1x2048x8x128 .f32) (main_arg3 : FVec F S1x2048x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn {F : FTy → Type} [FloatOps F] (main_arg0 : FVec F S1x2048x1024 .f32) (main_arg1 : FVec F S1024x1024 .f32) (main_arg2 : FVec F S1x16384x8x128 .f32) (main_arg3 : FVec F S1x16384x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x16384x8x128 .f32 := Host.absf main_arg2
  let main_cst_2 : FVec F S_ .f32 := constant S_ .f32 0x7F800000#32
  let main_v10 : FVec F S1x16384x8x128 .f32 := broadcastInDim S1x16384x8x128 ![] bcast_S_S1x16384x8x128 main_cst_2
  let main_v11 : IVec S1x16384x8x128 1 := cmpf .olt main_v9 main_v10
  let main_c_3 : IVec S_ 1 := constantI S_ 1 1#1
  let main_v12 : IVec S_ 1 := (fun x v => Host.reduce IntOp.andi x v reducesTo_S1x16384x8x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S32 : Shape := ⟨1, ![32]⟩
abbrev S32x64x1024 : Shape := ⟨3, ![32, 64, 1024]⟩
abbrev S_ : Shape := ⟨0, ![]⟩
abbrev S32x1 : Shape := ⟨2, ![32, 1]⟩
abbrev S2048x1024 : Shape := ⟨2, ![2048, 1024]⟩
abbrev S2048x8 : Shape := ⟨2, ![2048, 8]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x8 : Shape := ⟨2, ![512, 8]⟩
abbrev S1792x512 : Shape := ⟨2, ![1792, 512]⟩
abbrev S1792x4 : Shape := ⟨2, ![1792, 4]⟩
abbrev S2048x512 : Shape := ⟨2, ![2048, 512]⟩
abbrev S3 : Shape := ⟨1, ![3]⟩
abbrev S256x512 : Shape := ⟨2, ![256, 512]⟩
abbrev S256x4 : Shape := ⟨2, ![256, 4]⟩
abbrev S1 : Shape := ⟨1, ![1]⟩
abbrev S1024x512 : Shape := ⟨2, ![1024, 512]⟩
abbrev S1024x4 : Shape := ⟨2, ![1024, 4]⟩
abbrev S512x4 : Shape := ⟨2, ![512, 4]⟩
abbrev S256x128 : Shape := ⟨2, ![256, 128]⟩
abbrev S256x1 : Shape := ⟨2, ![256, 1]⟩
abbrev S256x1024 : Shape := ⟨2, ![256, 1024]⟩
abbrev S64x1024 : Shape := ⟨2, ![64, 1024]⟩
abbrev S64x512 : Shape := ⟨2, ![64, 512]⟩

abbrev nBuf : Space → Nat
  | .hbm => 48
  | .vmem => 22
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S32, .i32⟩
  | .hbm, ⟨6, _⟩ => ⟨S1x2048x1024, .bf16⟩
  | .hbm, ⟨7, _⟩ => ⟨S32x64x1024, .bf16⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S32x64x1024, .bf16⟩
  | .hbm, ⟨17, _⟩ => ⟨S2048x1024, .bf16⟩
  | .hbm, ⟨18, _⟩ => ⟨S1x2048x8x128, .bf16⟩
  | .hbm, ⟨19, _⟩ => ⟨S32x64x1024, .bf16⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .i32⟩
  | .hbm, ⟨27, _⟩ => ⟨S32x1, .i32⟩
  | .hbm, ⟨28, _⟩ => ⟨S32x64x1024, .bf16⟩
  | .hbm, ⟨29, _⟩ => ⟨S2048x1024, .bf16⟩
  | .hbm, ⟨30, _⟩ => ⟨S1x2048x8x128, .bf16⟩
  | .hbm, ⟨31, _⟩ => ⟨S32x64x1024, .bf16⟩
  | .hbm, ⟨32, _⟩ => ⟨S_, .i32⟩
  | .hbm, ⟨33, _⟩ => ⟨S32, .i32⟩
  | .hbm, ⟨34, _⟩ => ⟨S32, .i1⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S32, .i32⟩
  | .hbm, ⟨39, _⟩ => ⟨S32x1, .i32⟩
  | .hbm, ⟨40, _⟩ => ⟨S32x64x1024, .bf16⟩
  | .hbm, ⟨41, _⟩ => ⟨S2048x1024, .bf16⟩
  | .hbm, ⟨42, _⟩ => ⟨S1024x1024, .bf16⟩
  | .hbm, ⟨43, _⟩ => ⟨S2048x1024, .bf16⟩
  | .hbm, ⟨44, _⟩ => ⟨S2048x8, .f32⟩
  | .hbm, ⟨45, _⟩ => ⟨S1024x1024, .bf16⟩
  | .hbm, ⟨46, _⟩ => ⟨S2048x1024, .f32⟩
  | .hbm, ⟨47, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x8, .f32⟩
  | .local _ .vmem, ⟨6, _⟩ => ⟨S2048x1024, .bf16⟩
  | .local _ .vmem, ⟨7, _⟩ => ⟨S2048x8, .f32⟩
  | .local _ .vmem, ⟨8, _⟩ => ⟨S1024x1024, .bf16⟩
  | .local _ .vmem, ⟨9, _⟩ => ⟨S2048x1024, .f32⟩
  | .local _ .vmem, ⟨10, _⟩ => ⟨S2048x1024, .f32⟩
  | .local _ .vmem, ⟨11, _⟩ => ⟨S2048x8, .f32⟩
  | .local _ .vmem, ⟨12, _⟩ => ⟨S1792x512, .bf16⟩
  | .local _ .vmem, ⟨13, _⟩ => ⟨S1792x512, .bf16⟩
  | .local _ .vmem, ⟨14, _⟩ => ⟨S1792x4, .f32⟩
  | .local _ .vmem, ⟨15, _⟩ => ⟨S1792x4, .f32⟩
  | .local _ .vmem, ⟨16, _⟩ => ⟨S2048x512, .bf16⟩
  | .local _ .vmem, ⟨17, _⟩ => ⟨S1792x512, .bf16⟩
  | .local _ .vmem, ⟨18, _⟩ => ⟨S1792x512, .bf16⟩
  | .local _ .vmem, ⟨19, _⟩ => ⟨S1792x4, .f32⟩
  | .local _ .vmem, ⟨20, _⟩ => ⟨S1792x4, .f32⟩
  | .local _ .vmem, ⟨21, _⟩ => ⟨S2048x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc1_scratch3 : Ref sig .tc := ⟨.vmem, 13, rfl⟩
abbrev cc1_scratch4 : Ref sig .tc := ⟨.vmem, 14, rfl⟩
abbrev cc1_scratch5 : Ref sig .tc := ⟨.vmem, 15, rfl⟩
abbrev cc1_scratch6 : Ref sig .tc := ⟨.vmem, 16, rfl⟩
abbrev cc1_scratch7 : Ref sig .tc := ⟨.vmem, 17, rfl⟩
abbrev cc1_scratch8 : Ref sig .tc := ⟨.vmem, 18, rfl⟩
abbrev cc1_scratch9 : Ref sig .tc := ⟨.vmem, 19, rfl⟩
abbrev cc1_scratch10 : Ref sig .tc := ⟨.vmem, 20, rfl⟩
abbrev cc1_scratch11 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev barrier0 : Sem sig := 0

abbrev nD : Nat := 8
abbrev τ : Topo := Topo.v7x

variable {F : FTy → Type} [FloatOps F]

abbrev grid0 : Pipeline.Grid := .none

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k1_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k1_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k1_off1 (d0 : Dev nD) (c1_i32_17 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v24 : BitVec 32 := Scalar.xori v2 c1_i32_17
  let c256_i32 : BitVec 32 := 256#32
  let v25 : BitVec 32 := Scalar.muli v24 c256_i32
  let v26 : Index := Scalar.indexCast v25
  let c0_18 : Index := 0#32
  ![v26.toNat, 0]
def k1_off2 (d0 : Dev nD) (c1_i32_17 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v24 : BitVec 32 := Scalar.xori v2 c1_i32_17
  let c256_i32 : BitVec 32 := 256#32
  let v25 : BitVec 32 := Scalar.muli v24 c256_i32
  let v32 : Index := Scalar.indexCast v25
  let c0_21 : Index := 0#32
  ![v32.toNat, 0]
def k1_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_42 : BitVec 32 := 1#32
  let v76 : BitVec 32 := Scalar.xori v2 c1_i32_42
  let c1_i32_46 : BitVec 32 := 1#32
  let v78 : BitVec 32 := Scalar.muli v76 c1_i32_46
  let v79 : BitVec 32 := Scalar.addi c0_i32_47 v78
  v79.toNat
def k1_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v77 : BitVec 32 := Scalar.xori v2 c1_i32_43
  let c1_i32_54 : BitVec 32 := 1#32
  let v86 : BitVec 32 := Scalar.muli v77 c1_i32_54
  let v87 : BitVec 32 := Scalar.addi c0_i32_55 v86
  v87.toNat
def k1_off3 (d0 : Dev nD) (c4_i32_60 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v94 : BitVec 32 := Scalar.xori v2 c4_i32_60
  let c256_i32_61 : BitVec 32 := 256#32
  let v95 : BitVec 32 := Scalar.muli v94 c256_i32_61
  let v96 : Index := Scalar.indexCast v95
  let c512_62 : Index := 512#32
  ![v96.toNat, 512]
def k1_off4 (d0 : Dev nD) (c4_i32_60 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v94 : BitVec 32 := Scalar.xori v2 c4_i32_60
  let c256_i32_61 : BitVec 32 := 256#32
  let v95 : BitVec 32 := Scalar.muli v94 c256_i32_61
  let v102 : Index := Scalar.indexCast v95
  let c4 : Index := 4#32
  ![v102.toNat, 4]
def k1_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_90 : BitVec 32 := 4#32
  let v146 : BitVec 32 := Scalar.xori v2 c4_i32_90
  let c1_i32_94 : BitVec 32 := 1#32
  let v148 : BitVec 32 := Scalar.muli v146 c1_i32_94
  let v149 : BitVec 32 := Scalar.addi c0_i32_95 v148
  v149.toNat
def k1_dev7 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_91 : BitVec 32 := 4#32
  let v147 : BitVec 32 := Scalar.xori v2 c4_i32_91
  let c1_i32_102 : BitVec 32 := 1#32
  let v156 : BitVec 32 := Scalar.muli v147 c1_i32_102
  let v157 : BitVec 32 := Scalar.addi c0_i32_103 v156
  v157.toNat
def k1_dev8 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_262 : BitVec 32 := 3#32
  let v382 : BitVec 32 := Scalar.xori v2 c3_i32_262
  let c1_i32_266 : BitVec 32 := 1#32
  let v384 : BitVec 32 := Scalar.muli v382 c1_i32_266
  let v385 : BitVec 32 := Scalar.addi c0_i32_267 v384
  v385.toNat
def k1_dev9 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_263 : BitVec 32 := 3#32
  let v383 : BitVec 32 := Scalar.xori v2 c3_i32_263
  let c1_i32_273 : BitVec 32 := 1#32
  let v392 : BitVec 32 := Scalar.muli v383 c1_i32_273
  let v393 : BitVec 32 := Scalar.addi c0_i32_274 v392
  v393.toNat
def k1_dev10 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_295 : BitVec 32 := 1#32
  let v426 : BitVec 32 := Scalar.xori v2 c1_i32_295
  let c1_i32_299 : BitVec 32 := 1#32
  let v428 : BitVec 32 := Scalar.muli v426 c1_i32_299
  let v429 : BitVec 32 := Scalar.addi c0_i32_300 v428
  v429.toNat
def k1_dev11 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_296 : BitVec 32 := 1#32
  let v427 : BitVec 32 := Scalar.xori v2 c1_i32_296
  let c1_i32_307 : BitVec 32 := 1#32
  let v436 : BitVec 32 := Scalar.muli v427 c1_i32_307
  let v437 : BitVec 32 := Scalar.addi c0_i32_308 v436
  v437.toNat
def k1_dev12 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_420 : BitVec 32 := 4#32
  let v573 : BitVec 32 := Scalar.xori v2 c4_i32_420
  let c1_i32_424 : BitVec 32 := 1#32
  let v575 : BitVec 32 := Scalar.muli v573 c1_i32_424
  let v576 : BitVec 32 := Scalar.addi c0_i32_425 v575
  v576.toNat
def k1_dev13 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_421 : BitVec 32 := 4#32
  let v574 : BitVec 32 := Scalar.xori v2 c4_i32_421
  let c1_i32_431 : BitVec 32 := 1#32
  let v583 : BitVec 32 := Scalar.muli v574 c1_i32_431
  let v584 : BitVec 32 := Scalar.addi c0_i32_432 v583
  v584.toNat
def k1_dev14 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_445 : BitVec 32 := 3#32
  let v604 : BitVec 32 := Scalar.xori v2 c3_i32_445
  let c1_i32_449 : BitVec 32 := 1#32
  let v606 : BitVec 32 := Scalar.muli v604 c1_i32_449
  let v607 : BitVec 32 := Scalar.addi c0_i32_450 v606
  v607.toNat
def k1_dev15 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_446 : BitVec 32 := 3#32
  let v605 : BitVec 32 := Scalar.xori v2 c3_i32_446
  let c1_i32_457 : BitVec 32 := 1#32
  let v614 : BitVec 32 := Scalar.muli v605 c1_i32_457
  let v615 : BitVec 32 := Scalar.addi c0_i32_458 v614
  v615.toNat
def k1_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v701 : Index := Scalar.indexCast v700
  let c0_544 : Index := 0#32
  ![v701.toNat, 0]
def k1_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v703 : Index := Scalar.indexCast v700
  let c0_545 : Index := 0#32
  ![v703.toNat, 0]
def k1_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v707 : Index := Scalar.indexCast v700
  let c128 : Index := 128#32
  ![v707.toNat, 128]
def k1_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v709 : Index := Scalar.indexCast v700
  let c1 : Index := 1#32
  ![v709.toNat, 1]
def k1_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v713 : Index := Scalar.indexCast v700
  let c256_546 : Index := 256#32
  ![v713.toNat, 256]
def k1_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v715 : Index := Scalar.indexCast v700
  let c2 : Index := 2#32
  ![v715.toNat, 2]
def k1_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v719 : Index := Scalar.indexCast v700
  let c384 : Index := 384#32
  ![v719.toNat, 384]
def k1_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v721 : Index := Scalar.indexCast v700
  let c3 : Index := 3#32
  ![v721.toNat, 3]
def k1_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v725 : Index := Scalar.indexCast v700
  let c512_547 : Index := 512#32
  ![v725.toNat, 512]
def k1_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v727 : Index := Scalar.indexCast v700
  let c4_548 : Index := 4#32
  ![v727.toNat, 4]
def k1_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v731 : Index := Scalar.indexCast v700
  let c640 : Index := 640#32
  ![v731.toNat, 640]
def k1_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v733 : Index := Scalar.indexCast v700
  let c5 : Index := 5#32
  ![v733.toNat, 5]
def k1_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v737 : Index := Scalar.indexCast v700
  let c768_549 : Index := 768#32
  ![v737.toNat, 768]
def k1_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v739 : Index := Scalar.indexCast v700
  let c6 : Index := 6#32
  ![v739.toNat, 6]
def k1_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v743 : Index := Scalar.indexCast v700
  let c896 : Index := 896#32
  ![v743.toNat, 896]
def k1_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_543 : BitVec 32 := 256#32
  let v700 : BitVec 32 := Scalar.muli v2 c256_i32_543
  let v745 : Index := Scalar.indexCast v700
  let c7 : Index := 7#32
  ![v745.toNat, 7]
def k1_off21 (d0 : Dev nD) (c0_i32_553 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_552 : BitVec 32 := 4#32
  let v754 : BitVec 32 := Scalar.muli v2 c4_i32_552
  let v755 : BitVec 32 := Scalar.addi v754 c0_i32_553
  let c8_i32_554 : BitVec 32 := 8#32
  let v756 : BitVec 32 := Scalar.remsi v755 c8_i32_554
  let c4_i32_555 : BitVec 32 := 4#32
  let v757 : BitVec 32 := Scalar.muli v756 c4_i32_555
  let c8_i32_556 : BitVec 32 := 8#32
  let v758 : BitVec 32 := Scalar.divsi v755 c8_i32_556
  let v759 : BitVec 32 := Scalar.addi v757 v758
  let c64_i32 : BitVec 32 := 64#32
  let v761 : BitVec 32 := Scalar.muli v759 c64_i32
  let v762 : Index := Scalar.indexCast v761
  let c0_557 : Index := 0#32
  ![v762.toNat, 0]
def k1_dev16 (d0 : Dev nD) : Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_583 : BitVec 32 := 4#32
  let v804 : BitVec 32 := Scalar.xori v2 c4_i32_583
  let c1_i32_586 : BitVec 32 := 1#32
  let v805 : BitVec 32 := Scalar.muli v804 c1_i32_586
  let v806 : BitVec 32 := Scalar.addi c0_i32_587 v805
  v806.toNat
def k1_dev17 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_592 : BitVec 32 := 3#32
  let v813 : BitVec 32 := Scalar.xori v2 c3_i32_592
  let c1_i32_595 : BitVec 32 := 1#32
  let v814 : BitVec 32 := Scalar.muli v813 c1_i32_595
  let v815 : BitVec 32 := Scalar.addi c0_i32_596 v814
  v815.toNat
def k1_off22 (d0 : Dev nD) (c4_i32_618 : BitVec 32) (c0_i32_620 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v833 : BitVec 32 := Scalar.xori v2 c4_i32_618
  let c4_i32_619 : BitVec 32 := 4#32
  let v834 : BitVec 32 := Scalar.muli v833 c4_i32_619
  let v835 : BitVec 32 := Scalar.addi v834 c0_i32_620
  let c8_i32_621 : BitVec 32 := 8#32
  let v836 : BitVec 32 := Scalar.remsi v835 c8_i32_621
  let c4_i32_622 : BitVec 32 := 4#32
  let v837 : BitVec 32 := Scalar.muli v836 c4_i32_622
  let c8_i32_623 : BitVec 32 := 8#32
  let v838 : BitVec 32 := Scalar.divsi v835 c8_i32_623
  let v839 : BitVec 32 := Scalar.addi v837 v838
  let c64_i32_624 : BitVec 32 := 64#32
  let v842 : BitVec 32 := Scalar.muli v839 c64_i32_624
  let v843 : Index := Scalar.indexCast v842
  let c0_625 : Index := 0#32
  ![v843.toNat, 0]
def k1_off23 (d0 : Dev nD) (c3_i32_664 : BitVec 32) (c0_i32_666 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v889 : BitVec 32 := Scalar.xori v2 c3_i32_664
  let c4_i32_665 : BitVec 32 := 4#32
  let v890 : BitVec 32 := Scalar.muli v889 c4_i32_665
  let v891 : BitVec 32 := Scalar.addi v890 c0_i32_666
  let c8_i32_667 : BitVec 32 := 8#32
  let v892 : BitVec 32 := Scalar.remsi v891 c8_i32_667
  let c4_i32_668 : BitVec 32 := 4#32
  let v893 : BitVec 32 := Scalar.muli v892 c4_i32_668
  let c8_i32_669 : BitVec 32 := 8#32
  let v894 : BitVec 32 := Scalar.divsi v891 c8_i32_669
  let v895 : BitVec 32 := Scalar.addi v893 v894
  let c64_i32_670 : BitVec 32 := 64#32
  let v898 : BitVec 32 := Scalar.muli v895 c64_i32_670
  let v899 : Index := Scalar.indexCast v898
  let c512_671 : Index := 512#32
  ![v899.toNat, 512]
def k1_dev18 (d0 : Dev nD) : Nat :=
  let c0_i32_697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_693 : BitVec 32 := 3#32
  let v934 : BitVec 32 := Scalar.xori v2 c3_i32_693
  let c1_i32_696 : BitVec 32 := 1#32
  let v935 : BitVec 32 := Scalar.muli v934 c1_i32_696
  let v936 : BitVec 32 := Scalar.addi c0_i32_697 v935
  v936.toNat
def k1_dev19 (d0 : Dev nD) : Nat :=
  let c0_i32_705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_701 : BitVec 32 := 1#32
  let v943 : BitVec 32 := Scalar.xori v2 c1_i32_701
  let c1_i32_704 : BitVec 32 := 1#32
  let v944 : BitVec 32 := Scalar.muli v943 c1_i32_704
  let v945 : BitVec 32 := Scalar.addi c0_i32_705 v944
  v945.toNat
def k1_dev20 (d0 : Dev nD) : Nat :=
  let c0_i32_868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_864 : BitVec 32 := 1#32
  let v1156 : BitVec 32 := Scalar.xori v2 c1_i32_864
  let c1_i32_867 : BitVec 32 := 1#32
  let v1157 : BitVec 32 := Scalar.muli v1156 c1_i32_867
  let v1158 : BitVec 32 := Scalar.addi c0_i32_868 v1157
  v1158.toNat
def k1_dev21 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_873 : BitVec 32 := 4#32
  let v1165 : BitVec 32 := Scalar.xori v2 c4_i32_873
  let c1_i32_876 : BitVec 32 := 1#32
  let v1166 : BitVec 32 := Scalar.muli v1165 c1_i32_876
  let v1167 : BitVec 32 := Scalar.addi c0_i32_877 v1166
  v1167.toNat
abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S1x2048x1024 : Shape := ⟨3, ![1, 2048, 1024]⟩
abbrev S1024x1024 : Shape := ⟨2, ![1024, 1024]⟩
abbrev S1x16384x8x128 : Shape := ⟨4, ![1, 16384, 8, 128]⟩
abbrev S1x2048x8x128 : Shape := ⟨4, ![1, 2048, 8, 128]⟩
abbrev S2048 : Shape := ⟨1, ![2048]⟩
abbrev S_ : Shape := ⟨0, ![]⟩
abbrev S2048x1 : Shape := ⟨2, ![2048, 1]⟩
abbrev S16384 : Shape := ⟨1, ![16384]⟩
abbrev S1x16384 : Shape := ⟨2, ![1, 16384]⟩
abbrev S2048x16384 : Shape := ⟨2, ![2048, 16384]⟩
abbrev S1x8x2048x16384 : Shape := ⟨4, ![1, 8, 2048, 16384]⟩
abbrev S1x1x2048x16384 : Shape := ⟨4, ![1, 1, 2048, 16384]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 137
  | .vmem => 0
  | .smem => 0
  | _ => 0

abbrev hbmTy0_0 (i : Nat) : BufTy := match i % 128 with
  | 0 => ⟨S1x2048x1024, .f32⟩
  | 1 => ⟨S1024x1024, .f32⟩
  | 2 => ⟨S1x16384x8x128, .f32⟩
  | 3 => ⟨S1x16384x8x128, .f32⟩
  | 4 => ⟨S1024x1024, .f32⟩
  | 5 => ⟨S1x2048x1024, .f32⟩
  | 6 => ⟨S1x2048x8x128, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S16384, .i32⟩
  | 28 => ⟨S_, .i32⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i1⟩
  | 36 => ⟨S16384, .i32⟩
  | 37 => ⟨S16384, .i32⟩
  | 38 => ⟨S_, .i32⟩
  | 39 => ⟨S16384, .i32⟩
  | 40 => ⟨S16384, .i1⟩
  | 41 => ⟨S16384, .i1⟩
  | 42 => ⟨S_, .i32⟩
  | 43 => ⟨S16384, .i32⟩
  | 44 => ⟨S16384, .i32⟩
  | 45 => ⟨S16384, .i32⟩
  | 46 => ⟨S1x16384, .i32⟩
  | 47 => ⟨S2048x16384, .i32⟩
  | 48 => ⟨S2048x16384, .i32⟩
  | 49 => ⟨S2048x16384, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x16384, .i32⟩
  | 57 => ⟨S1x16384, .i32⟩
  | 58 => ⟨S_, .i32⟩
  | 59 => ⟨S1x16384, .i32⟩
  | 60 => ⟨S1x16384, .i1⟩
  | 61 => ⟨S_, .i32⟩
  | 62 => ⟨S1x16384, .i32⟩
  | 63 => ⟨S1x16384, .i1⟩
  | 64 => ⟨S_, .i32⟩
  | 65 => ⟨S_, .i1⟩
  | 66 => ⟨S1x16384, .i1⟩
  | 67 => ⟨S1x16384, .i1⟩
  | 68 => ⟨S1x16384, .i1⟩
  | 69 => ⟨S1x16384, .i32⟩
  | 70 => ⟨S1x16384, .i32⟩
  | 71 => ⟨S1x16384, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x16384, .i32⟩
  | 95 => ⟨S2048x16384, .i32⟩
  | 96 => ⟨S2048x16384, .i1⟩
  | 97 => ⟨S2048x16384, .i1⟩
  | 98 => ⟨S1x8x2048x16384, .f32⟩
  | 99 => ⟨S_, .f32⟩
  | 100 => ⟨S1x8x2048x16384, .f32⟩
  | 101 => ⟨S1x8x2048x16384, .f32⟩
  | 102 => ⟨S1x1x2048x16384, .i1⟩
  | 103 => ⟨S_, .f32⟩
  | 104 => ⟨S_, .f32⟩
  | 105 => ⟨S1x8x2048x16384, .i1⟩
  | 106 => ⟨S1x8x2048x16384, .f32⟩
  | 107 => ⟨S1x8x2048x16384, .f32⟩
  | 108 => ⟨S_, .f32⟩
  | 109 => ⟨S1x8x2048, .f32⟩
  | 110 => ⟨S1x8x2048x1, .f32⟩
  | 111 => ⟨S1x8x2048x16384, .f32⟩
  | 112 => ⟨S1x8x2048x16384, .f32⟩
  | 113 => ⟨S1x8x2048x16384, .f32⟩
  | 114 => ⟨S_, .i1⟩
  | 115 => ⟨S2048, .i1⟩
  | 116 => ⟨S1x1x2048x1, .i1⟩
  | 117 => ⟨S_, .f32⟩
  | 118 => ⟨S1x8x2048, .f32⟩
  | 119 => ⟨S1x8x2048x1, .f32⟩
  | 120 => ⟨S_, .f32⟩
  | 121 => ⟨S_, .f32⟩
  | 122 => ⟨S1x8x2048x1, .i1⟩
  | 123 => ⟨S1x8x2048x1, .f32⟩
  | 124 => ⟨S1x8x2048x1, .f32⟩
  | 125 => ⟨S1x8x2048x16384, .f32⟩
  | 126 => ⟨S1x8x2048x16384, .f32⟩
  | 127 => ⟨S1x1x2048x1, .i1⟩
  | _ => ⟨S1x2048x1024, .f32⟩

abbrev hbmTy0_1 (i : Nat) : BufTy := match i % 128 with
  | 0 => ⟨S_, .f32⟩
  | 1 => ⟨S_, .f32⟩
  | 2 => ⟨S1x8x2048x16384, .i1⟩
  | 3 => ⟨S1x8x2048x16384, .f32⟩
  | 4 => ⟨S1x8x2048x16384, .f32⟩
  | 5 => ⟨S1x8x128x2048, .f32⟩
  | 6 => ⟨S1x2048x8x128, .f32⟩
  | 7 => ⟨S1x2048x1024, .f32⟩
  | 8 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Model.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic

/-! # The combine region as a schedule

The printed body of the combine region is a straight line of some five hundred memory operations. It is
the unrolling of a schedule: three reduce-scatter stages and three all-gather stages, each run by two
trees (columns 0–511 and columns 512–1023) over the bits of the device number in different orders. This
module writes the schedule down — transfers indexed by tree, kind and stage — and the program it
unrolls to. `Model` is what the proofs are about; `Unroll` says that it is the printed body. -/

@[expose] public section

noncomputable section

namespace Cert.KernelIdeal.Gen

open Idealize.ShloMosaic Idealize.ShloMosaic.TcCoe
open Idealize.SL Idealize.SL.Sem

variable {F : FTy → Type} [FloatOps F]

/-- A two-dimensional shape. -/
abbrev Sh (R C : ℕ) : Shape := ⟨2, ![R, C]⟩

/-- A vmem memref of a two-dimensional shape. -/
abbrev M2 (R C : ℕ) (e : EltTy) : Type := Memref sig .tc .vmem (Sh R C) e

/-- The box of `R' × C'` elements at offset `o` fits. -/
abbrev Fits (R C : ℕ) (o : Fin 2 → ℕ) (R' C' : ℕ) : Prop := ∀ a, o a + (Sh R' C').size a ≤ (Sh R C).size a

/-- The box itself. -/
abbrev bx {R C : ℕ} (o : Fin 2 → ℕ) (R' C' : ℕ) (h : Fits R C o R' C') : Rect (Sh R C) :=
  Rect.unit (s := Sh R C) o (Sh R' C').size h

/-- The memref of a box. -/
abbrev sl {R C : ℕ} {e : EltTy} (m : M2 R C e) (o : Fin 2 → ℕ) (R' C' : ℕ) (h : Fits R C o R' C') : M2 R' C' e :=
  m.slice (bx o R' C' h) (fun _ => rfl)

/-- The core's programs. -/
abbrev PG (F : FTy → Type) [FloatOps F] (α : Type) := Prog (TpuEff nD τ sig (Elt F) Λ₀ .tc) α

/-- A load of a box. -/
def ld {R C : ℕ} {e : EltTy} (m : M2 R C e) (o : Fin 2 → ℕ) (R' C' : ℕ) (h : Fits R C o R' C') (hp : 0 < (Sh R' C').numel) :
    PG F (Vec F (Sh R' C') e) :=
  Prog.lift (.load m (bx o R' C' h).toLoadRect (View.loadsAt_vmem hp))

/-- A store of a whole box. -/
def st {R C : ℕ} {e : EltTy} (m : M2 R C e) (o : Fin 2 → ℕ) (R' C' : ℕ) (h : Fits R C o R' C')
    (hs : (m.access (bx o R' C' h)).Stores Finset.univ) (x : Vec F (Sh R' C') e) : PG F PUnit :=
  Prog.lift (.store m (bx o R' C' h) x Finset.univ hs (.inl rfl))

/-- Programs one after another. -/
def run : List (PG F PUnit) → PG F PUnit
  | [] => pure ⟨⟩
  | p :: l => p >>= fun _ => run l

/-! ## The devices -/

/-- The partner at mask 1, 3 or 4, as the kernel computes it. -/
def pr : Fin 3 → Dev nD → Dev nD
  | 0, c => ⟨k1_dev1 c, k1_dev1_lt c⟩
  | 1, c => ⟨k1_dev2 c, k1_dev2_lt c⟩
  | 2, c => ⟨k1_dev3 c, k1_dev3_lt c⟩

theorem pr_pr : ∀ (m : Fin 3) (c : Dev nD), pr m (pr m c) = c := by decide +kernel

/-! ## The schedule -/

/-- A transfer: its tree, its kind (0 the partial outputs, 1 the partial sums, 2 the gathered result) and its stage. -/
abbrev Tr : Type := Fin 2 × Fin 3 × Fin 3

/-- Which mask a transfer crosses. -/
def mi : Tr → Fin 3
  | (t, 2, k) => (![![2, 1, 0], ![1, 0, 2]] : Fin 2 → Fin 3 → Fin 3) t k
  | (t, _, k) => (![![0, 1, 2], ![2, 0, 1]] : Fin 2 → Fin 3 → Fin 3) t k

/-- The partner of a transfer. -/
def pt (i : Tr) (c : Dev nD) : Dev nD := pr (mi i) c

theorem pt_pt (i : Tr) (c : Dev nD) : pt i (pt i c) = c := pr_pr _ _

/-- The semaphore a transfer's sender waits on. -/
def sndS : Tr → DmaSem sig
  | (t, q, k) => ⟨10 + 18 * t.val + 6 * q.val + k.val, by
      show _ < 46; omega⟩

/-- The semaphore its receiver waits on. -/
def rcvS : Tr → DmaSem sig
  | (t, q, k) => ⟨13 + 18 * t.val + 6 * q.val + k.val, by
      show _ < 46; omega⟩

/-- Rows of the exchange buffers, by kind. -/
def RR : Fin 3 → ℕ
  | 2 => 2048
  | _ => 1792

/-- Columns, by kind. -/
def CC : Fin 3 → ℕ
  | 1 => 4
  | _ => 512

/-- Elements, by kind. -/
def EE : Fin 3 → EltTy
  | 1 => .f32
  | _ => .bf16

/-- The buffers sent from. -/
def srcM : (t : Fin 2) → (q : Fin 3) → M2 (RR q) (CC q) (EE q)
  | 0, 0 => Memref.whole cc1_scratch2
  | 0, 1 => Memref.whole cc1_scratch4
  | 0, 2 => Memref.whole cc1_scratch6
  | 1, 0 => Memref.whole cc1_scratch7
  | 1, 1 => Memref.whole cc1_scratch9
  | 1, 2 => Memref.whole cc1_scratch11

/-- The buffers received into. -/
def dstM : (t : Fin 2) → (q : Fin 3) → M2 (RR q) (CC q) (EE q)
  | 0, 0 => Memref.whole cc1_scratch3
  | 0, 1 => Memref.whole cc1_scratch5
  | 0, 2 => Memref.whole cc1_scratch6
  | 1, 0 => Memref.whole cc1_scratch8
  | 1, 1 => Memref.whole cc1_scratch10
  | 1, 2 => Memref.whole cc1_scratch11

/-- How many chunks of 256 rows a transfer moves. -/
def nn : (q : Fin 3) → (k : Fin 3) → ℕ
  | 2, k => (![1, 2, 4] : Fin 3 → ℕ) k
  | _, k => (![4, 2, 1] : Fin 3 → ℕ) k

/-- The first slot read. -/
def ss : (q : Fin 3) → (k : Fin 3) → ℕ
  | 2, _ => 0
  | _, k => (![0, 4, 6] : Fin 3 → ℕ) k

/-- The first slot written. -/
def ds : (q : Fin 3) → (k : Fin 3) → ℕ
  | 2, k => (![1, 2, 4] : Fin 3 → ℕ) k
  | _, k => (![0, 4, 6] : Fin 3 → ℕ) k

theorem fits_rows (q : Fin 3) (s n : ℕ) (h : 256 * (s + n) ≤ RR q) : Fits (RR q) (CC q) ![256 * s, 0] (256 * n) (CC q) := by
  intro a; fin_cases a
  · show 256 * s + 256 * n ≤ RR q; omega
  · show 0 + CC q ≤ CC q; omega

theorem fits_src : ∀ q k, Fits (RR q) (CC q) ![256 * ss q k, 0] (256 * nn q k) (CC q) := by decide
theorem fits_dst : ∀ q k, Fits (RR q) (CC q) ![256 * ds q k, 0] (256 * nn q k) (CC q) := by decide

theorem fits_ss : ∀ (q k : Fin 3) (j : Fin (nn q k)), Fits (RR q) (CC q) ![256 * (ss q k + j.val), 0] 256 (CC q) := by decide
theorem fits_ds : ∀ (q k : Fin 3) (j : Fin (nn q k)), Fits (RR q) (CC q) ![256 * (ds q k + j.val), 0] 256 (CC q) := by decide

/-- What a transfer reads. -/
def srcSl : (i : Tr) → M2 (256 * nn i.2.1 i.2.2) (CC i.2.1) (EE i.2.1)
  | (t, q, k) => sl (srcM t q) ![256 * ss q k, 0] (256 * nn q k) (CC q) (fits_src q k)

/-- What a transfer writes. -/
def dstSl : (i : Tr) → M2 (256 * nn i.2.1 i.2.2) (CC i.2.1) (EE i.2.1)
  | (t, q, k) => sl (dstM t q) ![256 * ds q k, 0] (256 * nn q k) (CC q) (fits_dst q k)

theorem words_src : ∀ q k, (bx ![256 * ss q k, 0] (256 * nn q k) (CC q) (fits_src q k)).WholeWords (EE q).packing := by decide
theorem words_dst : ∀ q k, (bx ![256 * ds q k, 0] (256 * nn q k) (CC q) (fits_dst q k)).WholeWords (EE q).packing := by decide

theorem srcM_whole : ∀ t q, (srcM t q).IsWhole
  | 0, 0 => Memref.isWhole_whole _
  | 0, 1 => Memref.isWhole_whole _
  | 0, 2 => Memref.isWhole_whole _
  | 1, 0 => Memref.isWhole_whole _
  | 1, 1 => Memref.isWhole_whole _
  | 1, 2 => Memref.isWhole_whole _

theorem dstM_whole : ∀ t q, (dstM t q).IsWhole
  | 0, 0 => Memref.isWhole_whole _
  | 0, 1 => Memref.isWhole_whole _
  | 0, 2 => Memref.isWhole_whole _
  | 1, 0 => Memref.isWhole_whole _
  | 1, 1 => Memref.isWhole_whole _
  | 1, 2 => Memref.isWhole_whole _

theorem srcSl_words : ∀ i, (srcSl i).view.WordExact
  | (t, q, k) => (srcM_whole t q).wordExact_slice rfl _ (words_src q k)

theorem dstSl_words : ∀ i, (dstSl i).view.WordExact
  | (t, q, k) => (dstM_whole t q).wordExact_slice rfl _ (words_dst q k)

/-- The send of a transfer. -/
def send (c : Dev nD) (i : Tr) : PG F PUnit :=
  Prog.lift (.enqueueDma (srcSl i) (.remote (Dev.tc (pt i c)) (dstSl i) (.dma (sndS i))) (.dma (rcvS i))
    (srcSl_words i) (dstSl_words i) ⟨⟨rfl, Or.inl rfl⟩, trivial⟩)

/-- The wait for its departure. -/
def waitS (i : Tr) : PG F PUnit :=
  Prog.lift (.waitDma2 (sndS i) (dstSl i) (srcSl i) (dstSl_words i) (srcSl_words i))

/-- The wait for its arrival. -/
def waitR (i : Tr) : PG F PUnit :=
  Prog.lift (.waitDma2 (rcvS i) (srcSl i) (dstSl i) (srcSl_words i) (dstSl_words i))

/-! ## The accumulators -/

/-- The accumulated outputs, and the accumulated sums. -/
abbrev accO : M2 2048 1024 .f32 := Memref.whole cc1_scratch0
abbrev accL : M2 2048 8 .f32 := Memref.whole cc1_scratch1

/-- Where a tree's chunk at distance `s` lies in them. -/
def offO : Fin 2 → Dev nD → Fin 8 → Fin 2 → ℕ
  | 0, c, s => k1_off1 c (BitVec.ofNat 32 s.val)
  | 1, c, s => k1_off3 c (BitVec.ofNat 32 s.val)
def offL : Fin 2 → Dev nD → Fin 8 → Fin 2 → ℕ
  | 0, c, s => k1_off2 c (BitVec.ofNat 32 s.val)
  | 1, c, s => k1_off4 c (BitVec.ofNat 32 s.val)

theorem fits_O : ∀ t c s, Fits 2048 1024 (offO t c s) 256 512
  | 0, c, s => k1_off1_inb c s
  | 1, c, s => k1_off3_inb c s
theorem fits_L : ∀ t c s, Fits 2048 8 (offL t c s) 256 4
  | 0, c, s => k1_off2_inb c s
  | 1, c, s => k1_off4_inb c s

/-- The distances of the chunks sent at a stage, slot by slot. -/
def sn : Fin 2 → (k : Fin 3) → ℕ → Fin 8
  | 0, 0, j => [1, 2, 5, 6].getD j 0
  | 0, 1, j => [3, 7].getD j 0
  | 0, 2, _ => 4
  | 1, 0, j => [4, 5, 7, 6].getD j 0
  | 1, 1, j => [1, 2].getD j 0
  | 1, 2, _ => 3

/-- The distances of the chunks they are added to. -/
def sp : Fin 2 → (k : Fin 3) → ℕ → Fin 8
  | 0, 0, j => [0, 3, 4, 7].getD j 0
  | 0, 1, j => [0, 4].getD j 0
  | 0, 2, _ => 0
  | 1, 0, j => [0, 1, 3, 2].getD j 0
  | 1, 1, j => [0, 3].getD j 0
  | 1, 2, _ => 0

theorem packed_o : ∀ (k : Fin 3) (j : Fin (nn 0 k)),
    (bx ![256 * (ss 0 k + j.val), 0] 256 512 (fits_ss 0 k j)).PackedRows (EltTy.packing .bf16) := by decide

/-- A chunk of the accumulators rounded into its slot. -/
def fill (c : Dev nD) (t : Fin 2) (k : Fin 3) (j : Fin 4) (hj : j.val < nn 0 k) : PG F PUnit := do
  let v ← ld accO (offO t c (sn t k j.val)) 256 512 (fits_O _ _ _) h_S256x512
  let _ ← ld (srcM t 0) ![256 * (ss 0 k + j.val), 0] 256 512 (fits_ss 0 k ⟨j.val, hj⟩) h_S256x512
  st (srcM t 0) ![256 * (ss 0 k + j.val), 0] 256 512 (fits_ss 0 k ⟨j.val, hj⟩)
    (View.stores_vmem h_S256x512 ((srcM_whole t 0).storeExact_slice rfl _ (packed_o k ⟨j.val, hj⟩)) (fun _ => rfl)) (k1_pay5 v)
  let w ← ld accL (offL t c (sn t k j.val)) 256 4 (fits_L _ _ _) h_S256x4
  let _ ← ld (srcM t 1) ![256 * (ss 1 k + j.val), 0] 256 4 (fits_ss 1 k ⟨j.val, hj⟩) h_S256x4
  st (srcM t 1) ![256 * (ss 1 k + j.val), 0] 256 4 (fits_ss 1 k ⟨j.val, hj⟩) (View.stores_vmem_bits_univ h_S256x4 rfl) (k1_pay6 w)

/-- A chunk received added to the accumulators. -/
def accum (c : Dev nD) (t : Fin 2) (k : Fin 3) (j : Fin 4) (hj : j.val < nn 0 k) : PG F PUnit := do
  let v ← ld accL (offL t c (sp t k j.val)) 256 4 (fits_L _ _ _) h_S256x4
  let r ← ld (dstM t 1) ![256 * (ds 1 k + j.val), 0] 256 4 (fits_ds 1 k ⟨j.val, hj⟩) h_S256x4
  let _ ← ld accL (offL t c (sp t k j.val)) 256 4 (fits_L _ _ _) h_S256x4
  st accL (offL t c (sp t k j.val)) 256 4 (fits_L _ _ _) (View.stores_vmem_bits_univ h_S256x4 rfl) (k1_pay22 v r)
  let v ← ld accO (offO t c (sp t k j.val)) 256 512 (fits_O _ _ _) h_S256x512
  let r ← ld (dstM t 0) ![256 * (ds 0 k + j.val), 0] 256 512 (fits_ds 0 k ⟨j.val, hj⟩) h_S256x512
  let _ ← ld accO (offO t c (sp t k j.val)) 256 512 (fits_O _ _ _) h_S256x512
  st accO (offO t c (sp t k j.val)) 256 512 (fits_O _ _ _) (View.stores_vmem_bits_univ h_S256x512 rfl) (k1_pay23 v r)

/-- The slots of a stage. -/
def slots : (k : Fin 3) → List { j : Fin 4 // j.val < nn 0 k }
  | 0 => [⟨0, by decide⟩, ⟨1, by decide⟩, ⟨2, by decide⟩, ⟨3, by decide⟩]
  | 1 => [⟨0, by decide⟩, ⟨1, by decide⟩]
  | 2 => [⟨0, by decide⟩]

/-- What is sent at a stage by one tree. -/
def give (c : Dev nD) (t : Fin 2) (k : Fin 3) : PG F PUnit := do
  run ((slots k).map fun j => fill c t k j.1 j.2)
  send c (t, 0, k)
  send c (t, 1, k)

/-- What is received at a stage by one tree. -/
def take (c : Dev nD) (t : Fin 2) (k : Fin 3) : PG F PUnit := do
  waitS (t, 0, k)
  waitR (t, 0, k)
  waitS (t, 1, k)
  waitR (t, 1, k)
  run ((slots k).map fun j => accum c t k j.1 j.2)

/-- A stage of the reduce-scatter. -/
def stageRS (c : Dev nD) (k : Fin 3) : PG F PUnit := do
  give c 0 k
  give c 1 k
  take c 0 k
  take c 1 k

/-! ## The result -/

/-- The result buffer. -/
abbrev outM : M2 2048 1024 .f32 := Memref.whole cc1_stg3_0

theorem fits_own (c : Dev nD) (j : Fin 4) : Fits 2048 1024 (k1_off21 c (BitVec.ofNat 32 j.val)) 64 1024 := k1_off21_inb c j

/-- Where a block of another chunk is stored. -/
def offR : Fin 2 → Dev nD → Fin 7 → Fin 4 → Fin 2 → ℕ
  | 0, c, x, j => k1_off22 c (BitVec.ofNat 32 (1 + x.val)) (BitVec.ofNat 32 j.val)
  | 1, c, x, j => k1_off23 c (BitVec.ofNat 32 (1 + x.val)) (BitVec.ofNat 32 j.val)

theorem fits_R : ∀ t c x j, Fits 2048 1024 (offR t c x j) 64 512
  | 0, c, x, j => k1_off22_inb c x j
  | 1, c, x, j => k1_off23_inb c x j

theorem slices_own : ∀ j : Fin 4, S256x1024.Slices ![64 * j.val, 0] S64x1024 := by decide
theorem slices_R : ∀ j : Fin 4, S256x512.Slices ![64 * j.val, 0] S64x512 := by decide

/-- A block of 64 rows of the device's own chunk of the result. -/
def ownP (j : Fin 4) (v : FVec F S256x1024 .f32) : FVec F S64x1024 .f32 :=
  extractStridedSlice S64x1024 ![64 * j.val, 0] v (slices_own j)

/-- A block of 64 rows of a chunk gathered. -/
def gotP (j : Fin 4) (v : FVec F S256x512 .bf16) : FVec F S64x512 .f32 :=
  extf .f32 (extractStridedSlice S64x512 ![64 * j.val, 0] v (slices_R j)) bitsLt_bf16_f32

/-- Store a block of the own chunk. -/
def putOwn (c : Dev nD) (v : FVec F S256x1024 .f32) (j : Fin 4) : PG F PUnit := do
  let _ ← ld outM (k1_off21 c (BitVec.ofNat 32 j.val)) 64 1024 (fits_own c j) h_S64x1024
  st outM (k1_off21 c (BitVec.ofNat 32 j.val)) 64 1024 (fits_own c j) (View.stores_vmem_bits_univ h_S64x1024 rfl) (ownP j v)

/-- Store a block of a chunk gathered. -/
def putGot (c : Dev nD) (t : Fin 2) (x : Fin 7) (v : FVec F S256x512 .bf16) (j : Fin 4) : PG F PUnit := do
  let _ ← ld outM (offR t c x j) 64 512 (fits_R t c x j) h_S64x512
  st outM (offR t c x j) 64 512 (fits_R t c x j) (View.stores_vmem_bits_univ h_S64x512 rfl) (gotP j v)

/-- The distance, less one, of the chunk that slot `1 + s` of the gathered buffer comes to hold. -/
def ax : Fin 2 → Fin 7 → Fin 7
  | 0 => ![3, 2, 6, 0, 4, 1, 5]
  | 1 => ![2, 0, 1, 3, 6, 4, 5]

theorem fits_ag : ∀ s : Fin 7, Fits 2048 512 ![256 * (1 + s.val), 0] 256 512 := by decide

/-- Read a slot of the gathered buffer and store its four blocks. -/
def unpack (c : Dev nD) (t : Fin 2) (s : Fin 7) : PG F PUnit := do
  let v ← ld (srcM t 2) ![256 * (1 + s.val), 0] 256 512 (fits_ag s) h_S256x512
  run ([0, 1, 2, 3].map fun j => putGot c t (ax t s) v j)

/-- The slots a gather stage fills. -/
def slotsAG : Fin 3 → List (Fin 7)
  | 0 => [0]
  | 1 => [1, 2]
  | 2 => [3, 4, 5, 6]

/-- One tree's wait and unpacking at a gather stage. -/
def takeAG (c : Dev nD) (t : Fin 2) (k : Fin 3) : PG F PUnit := do
  waitS (t, 2, k)
  waitR (t, 2, k)
  run ((slotsAG k).map fun s => unpack c t s)

/-- A stage of the all-gather. -/
def stageAG (c : Dev nD) (k : Fin 3) : PG F PUnit := do
  send c (0, 2, k)
  send c (1, 2, k)
  takeAG c 0 k
  takeAG c 1 k

/-- Read the accumulated output and sum of one head. -/
def readHead (k1o k1l : Fin 2 → ℕ) (ho : Fits 2048 1024 k1o 256 128) (hl : Fits 2048 8 k1l 256 1) :
    PG F (Vec F S256x128 .f32 × Vec F S256x1 .f32) := do
  let o ← ld accO k1o 256 128 ho h_S256x128
  let l ← ld accL k1l 256 1 hl h_S256x1
  pure (o, l)

/-- The finished chunk: every head divided by its sum, times the output projection. -/
def finish (c : Dev nD) : PG F (FVec F S256x1024 .f32) := do
  let h0 ← readHead (k1_off5 c) (k1_off6 c) (k1_off5_inb c) (k1_off6_inb c)
  let h1 ← readHead (k1_off7 c) (k1_off8 c) (k1_off7_inb c) (k1_off8_inb c)
  let h2 ← readHead (k1_off9 c) (k1_off10 c) (k1_off9_inb c) (k1_off10_inb c)
  let h3 ← readHead (k1_off11 c) (k1_off12 c) (k1_off11_inb c) (k1_off12_inb c)
  let h4 ← readHead (k1_off13 c) (k1_off14 c) (k1_off13_inb c) (k1_off14_inb c)
  let h5 ← readHead (k1_off15 c) (k1_off16 c) (k1_off15_inb c) (k1_off16_inb c)
  let h6 ← readHead (k1_off17 c) (k1_off18 c) (k1_off17_inb c) (k1_off18_inb c)
  let h7 ← readHead (k1_off19 c) (k1_off20 c) (k1_off19_inb c) (k1_off20_inb c)
  let w ← ld (Memref.whole cc1_stg2_0 : M2 1024 1024 .bf16) ![0, 0] 1024 1024 inb_S1024x1024_S1024x1024_0_0 h_S1024x1024
  pure (k1_pay68 (k1_pay66 h0.1 h0.2) h1.1 (k1_pay67 h1.2) h2.1 h2.2 h3.1 h3.2 h4.1 h4.2 h5.1 h5.2 h6.1 h6.2 h7.1 h7.2 w)

/-- Slot 0 of the gathered buffer. -/
def seed (t : Fin 2) (y : FVec F S256x512 .bf16) : PG F PUnit := do
  let _ ← ld (srcM t 2) ![0, 0] 256 512 inb_S2048x512_S256x512_0_0 h_S256x512
  st (srcM t 2) ![0, 0] 256 512 inb_S2048x512_S256x512_0_0
    (View.stores_vmem h_S256x512 ((srcM_whole t 2).storeExact_slice rfl _ packedbf16_S2048x512_S256x512_0_0) (fun _ => rfl)) y

/-- Store the own chunk and put it up for gathering. -/
def keep (c : Dev nD) (v : FVec F S256x1024 .f32) : PG F PUnit := do
  run ([0, 1, 2, 3].map fun j => putOwn c v j)
  seed 0 (k1_pay73 v)
  seed 1 (k1_pay74 v)

/-! ## The start -/

/-- The barrier with the three partners. -/
def barrier (c : Dev nD) : PG F PUnit := do
  semSignalWord (pr 0 c) (SemArray.scalar (sig.barrier 0 rfl) : Sems sig S_).sem 1#32
  semSignalWord (pr 1 c) (SemArray.scalar (sig.barrier 0 rfl) : Sems sig S_).sem 1#32
  semSignalWord (pr 2 c) (SemArray.scalar (sig.barrier 0 rfl) : Sems sig S_).sem 1#32
  semWaitWord (SemArray.scalar (sig.barrier 0 rfl) : Sems sig S_).sem 3#32

/-- The partials copied into the accumulators. -/
def start : PG F PUnit := do
  let v ← ld (Memref.whole cc1_stg0_0 : M2 2048 1024 .bf16) ![0, 0] 2048 1024 inb_S2048x1024_S2048x1024_0_0 h_S2048x1024
  let _ ← ld accO ![0, 0] 2048 1024 inb_S2048x1024_S2048x1024_0_0 h_S2048x1024
  st accO ![0, 0] 2048 1024 inb_S2048x1024_S2048x1024_0_0 (View.stores_vmem_bits_univ h_S2048x1024 rfl) (k1_pay3 v)
  let w ← ld (Memref.whole cc1_stg1_0 : M2 2048 8 .f32) ![0, 0] 2048 8 inb_S2048x8_S2048x8_0_0 h_S2048x8
  let _ ← ld accL ![0, 0] 2048 8 inb_S2048x8_S2048x8_0_0 h_S2048x8
  st accL ![0, 0] 2048 8 inb_S2048x8_S2048x8_0_0 (View.stores_vmem_bits_univ h_S2048x8 rfl) (k1_pay4 w)

/-- The body of the combine region, on the device it runs on. -/
def model (c : Dev nD) : PG F PUnit := do
  barrier c
  start
  stageRS c 0
  stageRS c 1
  stageRS c 2
  let v ← finish c
  keep c v
  stageAG c 0
  stageAG c 1
  stageAG c 2

end Cert.KernelIdeal.Gen
-- ==== Proof.Pieces.lean ====
module

public import proofs.«01_k».proof.Proof.Model

/-! # Buffers in pieces

A two-dimensional buffer is held as the boxes of it that the schedule reads, writes and sends. This module
holds the moves on such pieces: a load and a store of a box that is held, cutting a buffer into boxes and
putting it together again, and reading a box of what a copy has written. -/

@[expose] public section

noncomputable section

namespace Cert.KernelIdeal.Gen

open Idealize.ShloMosaic Idealize.ShloMosaic.TcCoe
open Idealize.SL
open Idealize.SL.BI (sProp bigSep)
open scoped Idealize.SL.BI
open Idealize.SL.BI.BIBase Idealize.SL.BI.Laws Idealize.SL.Sem Idealize.SL.ProofMode Idealize.SL.RA
open Idealize.ShloMosaic.Rounds Idealize.ShloMosaic.Tactic

variable {F : FTy → Type} [FloatOps F]

/-- The exchange's ghost state of rounds; the duties of a round are numbered 0, 1, 2. -/
abbrev UX : Type := URounds (GSem nD τ sig) (Fin 3)

/-- Beside the staging's. -/
abbrev UU : Type := URounds (GSem nD τ sig) Unit × UX

local notation "𝕄" => MT nD τ sig Unit (Elt F) ℕ UU ℕ

variable {R C : ℕ} {e : EltTy}

/-- A box of a buffer of device `c`, held whole, at contents `f` of the buffer. -/
abbrev ptw (c : Dev nD) (m : M2 R C e) (o : Fin 2 → ℕ) (R' C' : ℕ) (h : Fits R C o R' C')
    (f : Buf (Elt F) (m.view.loc (c : Thread nD τ))) : sProp 𝕄 :=
  m.view.loc (c : Thread nD τ) ↦[(m.access (bx o R' C' h)).set]{fullShare} f

/-- A box held at the value `x`. -/
def pc (c : Dev nD) (m : M2 R C e) (o : Fin 2 → ℕ) (R' C' : ℕ) (h : Fits R C o R' C') (x : Vec F (Sh R' C') e) : sProp 𝕄 :=
  ptw c m o R' C' h ((m.access (bx o R' C' h)).rep x)

/-- A box held at some value. -/
def pcAny (c : Dev nD) (m : M2 R C e) (o : Fin 2 → ℕ) (R' C' : ℕ) (h : Fits R C o R' C') : sProp 𝕄 :=
  iprop(∃ x : Vec F (Sh R' C') e, pc c m o R' C' h x)

theorem ptw_pc (c : Dev nD) (m : M2 R C e) (o : Fin 2 → ℕ) (R' C' : ℕ) (h : Fits R C o R' C')
    (f : Buf (Elt F) (m.view.loc (c : Thread nD τ))) :
    (ptw c m o R' C' h f : sProp 𝕄) = pc c m o R' C' h ((m.access (bx o R' C' h)).read (Elt F) f) := by
  unfold pc ptw
  refine pointsTo_congr fun i hi => ?_
  obtain ⟨y, -, rfl⟩ := Finset.mem_map.mp hi
  rw [View.rep_emb, View.read_apply, cast_cast, cast_eq]

theorem ptw_of_read {c : Dev nD} {m : M2 R C e} {o : Fin 2 → ℕ} {R' C' : ℕ} {h : Fits R C o R' C'}
    {f : Buf (Elt F) (m.view.loc (c : Thread nD τ))} {x : Vec F (Sh R' C') e}
    (hx : (m.access (bx o R' C' h)).read (Elt F) f = x) :
    (ptw c m o R' C' h f : sProp 𝕄) = pc c m o R' C' h x := by rw [ptw_pc, hx]

theorem ptw_any (c : Dev nD) (m : M2 R C e) (o : Fin 2 → ℕ) (R' C' : ℕ) (h : Fits R C o R' C')
    (f : Buf (Elt F) (m.view.loc (c : Thread nD τ))) : (ptw c m o R' C' h f : sProp 𝕄) ⊢ pcAny c m o R' C' h := by
  rw [ptw_pc]; unfold pcAny; iintro H; iexists _; iexact H

theorem pc_any (c : Dev nD) (m : M2 R C e) (o : Fin 2 → ℕ) (R' C' : ℕ) (h : Fits R C o R' C') (x : Vec F (Sh R' C') e) :
    (pc c m o R' C' h x : sProp 𝕄) ⊢ pcAny c m o R' C' h := by
  unfold pcAny; iintro H; iexists _; iexact H

instance pc_storable (c : Dev nD) (m : M2 R C e) (o : Fin 2 → ℕ) (R' C' : ℕ) (h : Fits R C o R' C') (x : Vec F (Sh R' C') e) :
    BI.Storable (upEmb : UEmb _ 𝕄) (pc c m o R' C' h x) := by unfold pc; infer_instance
instance pcAny_storable (c : Dev nD) (m : M2 R C e) (o : Fin 2 → ℕ) (R' C' : ℕ) (h : Fits R C o R' C') :
    BI.Storable (upEmb : UEmb _ 𝕄) (pcAny c m o R' C' h) := by unfold pcAny; infer_instance

variable {α : Type}

/-- The weakest precondition the proofs are about. -/
abbrev WP (c : Dev nD) (p : PG F α) (Q : α → sProp 𝕄) : sProp 𝕄 :=
  wp frame (wpE (defs₀ (F := F)) Variants.none (c : Thread nD τ) none) Set.univ p Q

/-- A load of a box that is held. -/
theorem wp_ld (c : Dev nD) (m : M2 R C e) (o : Fin 2 → ℕ) (R' C' : ℕ) (h : Fits R C o R' C') (hp : 0 < (Sh R' C').numel)
    (x : Vec F (Sh R' C') e) (k : Vec F (Sh R' C') e → PG F α) {Q : α → sProp 𝕄} :
    (pc c m o R' C' h x : sProp 𝕄) ⊢ iprop((pc c m o R' C' h x -∗ WP c (k x) Q) -∗ WP c (ld m o R' C' h hp >>= k) Q) := by
  unfold pc ptw
  have := wp_load_rect (defs := defs₀ (F := F)) (Γ := .empty) Variants.none (c : Thread nD τ) none Set.univ (m := m) (r := bx o R' C' h)
    (hl := View.loadsAt_vmem hp) (k := k) (Q := Q) (q := fullShare) (f := (m.access (bx o R' C' h)).rep x) (Finset.Subset.refl _)
  rw [View.read_rep] at this
  exact this

/-- A store of a box that is held. -/
theorem wp_st (c : Dev nD) (m : M2 R C e) (o : Fin 2 → ℕ) (R' C' : ℕ) (h : Fits R C o R' C')
    (hs : (m.access (bx o R' C' h)).Stores Finset.univ) (y x : Vec F (Sh R' C') e) (k : PUnit → PG F α) {Q : α → sProp 𝕄} :
    (pc c m o R' C' h y : sProp 𝕄) ⊢ iprop((pc c m o R' C' h x -∗ WP c (k ⟨⟩) Q) -∗ WP c (st m o R' C' h hs x >>= k) Q) := by
  have := wp_store (defs := defs₀ (F := F)) (Γ := .empty) Variants.none (c : Thread nD τ) none Set.univ (m := m) (r := bx o R' C' h)
    (w := x) (Mk := Finset.univ) (hx := hs) (hm := .inl rfl)
    (k := k) (Q := Q) (f := (m.access (bx o R' C' h)).rep y) (Finset.Subset.refl _)
  rw [View.setOn_univ] at this
  have e2 : (ptw c m o R' C' h ((m.access (bx o R' C' h)).write (Elt F) ((m.access (bx o R' C' h)).rep y) x Finset.univ) : sProp 𝕄) = pc c m o R' C' h x :=
    ptw_of_read (View.read_write_univ _ _)
  rw [← e2]
  exact this

/-- A load of a smaller box inside one that is held. -/
theorem wp_ld_in (c : Dev nD) (m : M2 R C e) (o : Fin 2 → ℕ) (R' C' : ℕ) (h : Fits R C o R' C') (x : Vec F (Sh R' C') e)
    (o' o₂ : Fin 2 → ℕ) (R₂ C₂ : ℕ) (h' : Fits R C o' R₂ C₂) (hp : 0 < (Sh R₂ C₂).numel) (h₂ : Fits R' C' o₂ R₂ C₂)
    (ho : ∀ a, o' a = o a + o₂ a) (k : Vec F (Sh R₂ C₂) e → PG F α) {Q : α → sProp 𝕄} :
    (pc c m o R' C' h x : sProp 𝕄) ⊢ iprop((pc c m o R' C' h x -∗ WP c (k (fun y => x ((bx o₂ R₂ C₂ h₂).emb y))) Q)
      -∗ WP c (ld m o' R₂ C₂ h' hp >>= k) Q) := by
  have hemb : ∀ y : (Sh R₂ C₂).Idx, (bx o' R₂ C₂ h').emb y = (bx o R' C' h).emb ((bx o₂ R₂ C₂ h₂).emb y) := fun y =>
    funext fun a => Fin.ext (by
      show o' a + 1 * (y a).val = o a + 1 * (o₂ a + 1 * (y a).val)
      have := ho a; omega)
  unfold pc ptw
  have := wp_load_rect (defs := defs₀ (F := F)) (Γ := .empty) Variants.none (c : Thread nD τ) none Set.univ (m := m) (r := bx o' R₂ C₂ h')
    (hl := View.loadsAt_vmem hp) (k := k) (Q := Q) (q := fullShare) (f := (m.access (bx o R' C' h)).rep x)
    (S := (m.access (bx o R' C' h)).set) (by
      intro i hi
      obtain ⟨y, -, rfl⟩ := Finset.mem_map.mp hi
      refine Finset.mem_map.mpr ⟨(bx o₂ R₂ C₂ h₂).emb y, Finset.mem_univ _, ?_⟩
      show m.view.emb _ = m.view.emb _
      rw [hemb])
  have e2 : (m.access (bx o' R₂ C₂ h')).read (Elt F) ((m.access (bx o R' C' h)).rep x) = fun y => x ((bx o₂ R₂ C₂ h₂).emb y) := by
    funext y
    rw [View.read_apply]
    have : (m.access (bx o' R₂ C₂ h')).emb y = (m.access (bx o R' C' h)).emb ((bx o₂ R₂ C₂ h₂).emb y) := by
      show m.view.emb _ = m.view.emb _
      rw [hemb]
    rw [this, View.rep_emb, cast_cast, cast_eq]
  rw [e2] at this
  exact this

/-! ## Cutting and joining -/

section Cut

variable {T : Type} [Fintype T] [DecidableEq T]

/-- The elements of a family of boxes. -/
def boxes (m : M2 R C e) (o : T → Fin 2 → ℕ) (R' C' : ℕ) (h : ∀ t, Fits R C (o t) R' C') : Finset m.view.ty.Idx :=
  Finset.univ.biUnion fun t => (m.access (bx (o t) R' C' (h t))).set

/-- Two boxes apart in rows or in columns. -/
abbrev Apart (o : Fin 2 → ℕ) (R' C' : ℕ) (o' : Fin 2 → ℕ) (R₂ C₂ : ℕ) : Prop :=
  o 0 + R' ≤ o' 0 ∨ o' 0 + R₂ ≤ o 0 ∨ o 1 + C' ≤ o' 1 ∨ o' 1 + C₂ ≤ o 1

theorem disjoint_bx (m : M2 R C e) (o : Fin 2 → ℕ) (R' C' : ℕ) (h : Fits R C o R' C') (o' : Fin 2 → ℕ) (R₂ C₂ : ℕ)
    (h' : Fits R C o' R₂ C₂) (ha : Apart o R' C' o' R₂ C₂) :
    Disjoint (m.access (bx o R' C' h)).set (m.access (bx o' R₂ C₂ h')).set := by
  rw [View.set_slice, View.set_slice, Finset.disjoint_map]
  refine Finset.disjoint_left.mpr fun i hi hi' => ?_
  have h0 := Rect.mem_set_unit.mp hi 0
  have h1 := Rect.mem_set_unit.mp hi 1
  have h0' := Rect.mem_set_unit.mp hi' 0
  have h1' := Rect.mem_set_unit.mp hi' 1
  change _ ∧ _ < o 0 + R' at h0
  change _ ∧ _ < o 1 + C' at h1
  change _ ∧ _ < o' 0 + R₂ at h0'
  change _ ∧ _ < o' 1 + C₂ at h1'
  omega

variable (c : Dev nD) (m : M2 R C e) (o : T → Fin 2 → ℕ) (R' C' : ℕ) (h : ∀ t, Fits R C (o t) R' C')
  (hd : ∀ t t', t ≠ t' → Apart (o t) R' C' (o t') R' C')

include hd in
theorem boxes_disjoint : ∀ t ∈ Finset.univ, ∀ t' ∈ Finset.univ, t ≠ t' →
    Disjoint (m.access (bx (o t) R' C' (h t))).set (m.access (bx (o t') R' C' (h t'))).set :=
  fun t _ t' _ ne => disjoint_bx m _ _ _ _ _ _ _ _ (hd t t' ne)

include hd in
/-- Elements held at `f`, cut into the boxes of a family inside them and what is left. -/
theorem carve {U : Finset m.view.ty.Idx} (hU : boxes m o R' C' h ⊆ U) (f : Buf (Elt F) (m.view.loc (c : Thread nD τ))) :
    (m.view.loc (c : Thread nD τ) ↦[U]{fullShare} f : sProp 𝕄)
      ⊢ iprop(bigSep Finset.univ (fun t => pc c m (o t) R' C' (h t) ((m.access (bx (o t) R' C' (h t))).read (Elt F) f))
        ∗ (m.view.loc (c : Thread nD τ) ↦[U \ boxes m o R' C' h]{fullShare} f)) := by
  refine (pointsTo_split_subset hU).1.trans (sep_mono_left (Entails.of_eq ?_))
  refine (pointsTo_biUnion Finset.univ _ (boxes_disjoint m o R' C' h hd)).trans (congrArg _ (funext fun t => ?_))
  exact ptw_pc c m (o t) R' C' (h t) f

include hd in
/-- The boxes of a family and the rest of some elements, joined. -/
theorem gather {U : Finset m.view.ty.Idx} (hU : boxes m o R' C' h ⊆ U) (x : ∀ t : T, Vec F (Sh R' C') e)
    (f : Buf (Elt F) (m.view.loc (c : Thread nD τ))) :
    iprop(bigSep Finset.univ (fun t => pc c m (o t) R' C' (h t) (x t))
        ∗ (m.view.loc (c : Thread nD τ) ↦[U \ boxes m o R' C' h]{fullShare} f))
      ⊢ (iprop(∃ g : Buf (Elt F) (m.view.loc (c : Thread nD τ)), ⌜(∀ t, (m.access (bx (o t) R' C' (h t))).read (Elt F) g = x t)
          ∧ ∀ i, i ∉ boxes m o R' C' h → g i = f i⌝
          ∗ m.view.loc (c : Thread nD τ) ↦[U]{fullShare} g) : sProp 𝕄) := by
  iintro ⟨H, Hr⟩
  unfold pc ptw
  ihave H := (pointsTo_biUnion_join Finset.univ (fun t => (m.access (bx (o t) R' C' (h t))).set) (fun t => (m.access (bx (o t) R' C' (h t))).rep (x t)) f
    (boxes_disjoint m o R' C' h hd)) $$ H
  icases H with ⟨%g, %hg, H⟩
  ihave H := (pointsTo_join_subset (ℓ := m.view.loc (c : Thread nD τ)) (I := boxes m o R' C' h) (S := U) hU) $$ [H Hr]
  · isplitl [H]; · iexact H
    iexact Hr
  iexists _
  isplitr
  swap
  · iexact H
  ipureintro
  constructor
  · intro t
    funext y
    have hm : (m.access (bx (o t) R' C' (h t))).emb y ∈ (m.access (bx (o t) R' C' (h t))).set := View.emb_mem_set _ _
    have hb : (m.access (bx (o t) R' C' (h t))).emb y ∈ boxes m o R' C' h := Finset.mem_biUnion.mpr ⟨t, Finset.mem_univ _, hm⟩
    rw [View.read_apply, Finset.piecewise_eq_of_mem _ _ _ hb, hg t (Finset.mem_univ _) _ hm, View.rep_emb, cast_cast, cast_eq]
  · intro i hi
    exact Finset.piecewise_eq_of_notMem _ _ _ hi

end Cut

/-- Reading a box of a box. -/
theorem read_in (m : M2 R C e) (o : Fin 2 → ℕ) (R' C' : ℕ) (h : Fits R C o R' C') (o' o₂ : Fin 2 → ℕ) (R₂ C₂ : ℕ)
    (h' : Fits R C o' R₂ C₂) (h₂ : Fits R' C' o₂ R₂ C₂) (ho : ∀ a, o' a = o a + o₂ a) (f : m.view.ty.Contents (Elt F)) :
    (m.access (bx o' R₂ C₂ h')).read (Elt F) f = fun y => (m.access (bx o R' C' h)).read (Elt F) f ((bx o₂ R₂ C₂ h₂).emb y) := by
  funext y
  rw [View.read_apply, View.read_apply]
  have : (m.access (bx o' R₂ C₂ h')).emb y = (m.access (bx o R' C' h)).emb ((bx o₂ R₂ C₂ h₂).emb y) := by
    show m.view.emb _ = m.view.emb _
    refine congrArg _ (funext fun a => Fin.ext ?_)
    show o' a + 1 * (y a).val = o a + 1 * (o₂ a + 1 * (y a).val)
    have := ho a; omega
  rw [this]

end Cert.KernelIdeal.Gen
-- ==== Proof.Attn.lean ====
module

public import proofs.«01_k».proof.Proof.Pieces

/-! # The attention region's body -/

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic

variable {F : FTy → Type} [FloatOps F]

local notation "𝕄" => MT nD τ sig Unit (Elt F) ℕ UU ℕ

/-- A buffer's contents on core `c`, and the buffer held whole. -/
abbrev Bf (c : Dev nD) {sp : Space} {S : Shape} {e : EltTy} (M : Memref sig .tc sp S e) : Type := Buf (Elt F) (M.view.loc (c : Thread nD τ))
abbrev hold (c : Dev nD) {sp : Space} {S : Shape} {e : EltTy} (M : Memref sig .tc sp S e) (f : Bf (F := F) c M) : sProp 𝕄 :=
  M.view.loc (c : Thread nD τ) ↦{fullShare} f

set_option maxRecDepth 65536 in
/-- What the body leaves in its two result buffers, with its run. -/
noncomputable def attnRun (c : Dev nD) (M0 : Memref sig .tc .vmem S2048x1024 .bf16) (h0 : M0.IsWhole) (M1 : Memref sig .tc .vmem S1024x1024 .bf16) (h1 : M1.IsWhole)
    (M2 : Memref sig .tc .vmem S2048x1024 .bf16) (h2 : M2.IsWhole) (M3 : Memref sig .tc .vmem S2048x1024 .bf16) (h3 : M3.IsWhole)
    (M4 : Memref sig .tc .vmem S2048x1024 .bf16) (h4 : M4.IsWhole) (M5 : Memref sig .tc .vmem S2048x8 .f32) (h5 : M5.IsWhole)
    (f0 : Bf (F := F) c M0) (f1 : Bf (F := F) c M1) (f2 : Bf (F := F) c M2) (f3 : Bf (F := F) c M3) :
    { W : Bf (F := F) c M4 × Bf (F := F) c M5 // ∀ (f4 : Bf (F := F) c M4) (f5 : Bf (F := F) c M5) (E : Set ℕ) (Q : PUnit → sProp 𝕄),
        iprop(hold c M0 f0 ∗ hold c M1 f1 ∗ hold c M2 f2 ∗ hold c M3 f3 ∗ hold c M4 f4 ∗ hold c M5 f5
            ∗ (iprop(hold c M0 f0 ∗ hold c M1 f1 ∗ hold c M2 f2 ∗ hold c M3 f3 ∗ hold c M4 W.1 ∗ hold c M5 W.2) -∗ Q ⟨⟩))
          ⊢ wp frame (wpE (defs₀ (F := F)) Variants.none c none) E (cc0__attn_body M0 h0 M1 h1 M2 h2 M3 h3 M4 h4 M5 h5) Q } := by
  refine ⟨(?_, ?_), fun f4 f5 E Q => ?run⟩
  case run =>
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

end Cert.KernelIdeal.Gen
-- ==== Proof.Proto.lean ====
module

public import proofs.«01_k».proof.Proof.Pieces

/-! # The protocol of the combine region

Every device has one barrier cell, paid one unit by each of its three partners, and for each of the
eighteen transfers a cell that says that its own copy has departed and one that says that its partner's copy
has arrived. Every cell serves one round. A partner's barrier unit hands over the boxes that the device is
to write on that partner; an arrival hands over the boxes written, at the values that the partner had
accumulated. -/

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic

variable {F : FTy → Type} [FloatOps F]

local notation "𝕄" => MT nD τ sig Unit (Elt F) ℕ UU ℕ

abbrev EP : Emb (URounds (GSem nD τ sig) Unit) (MT nD τ sig Unit (Elt F) ℕ UU ℕ) := embL
abbrev ER : Emb UX (MT nD τ sig Unit (Elt F) ℕ UU ℕ) := embR

/-! ## The values -/

/-- What every device brings to the combine region. -/
structure Ins (F : FTy → Type) [FloatOps F] where
  /-- partial outputs -/
  o : Dev nD → Vec F S2048x1024 .bf16
  /-- partial sums -/
  l : Dev nD → Vec F S2048x8 .f32
  /-- the output projection -/
  w : Dev nD → Vec F S1024x1024 .bf16

/-- The device at distance `s`. -/
def xr (s : Fin 8) (c : Dev nD) : Dev nD := ⟨(c.val ^^^ s.val) % 8, Nat.mod_lt _ (by decide)⟩

/-- The accumulated values of one tree, by device and distance. -/
abbrev StO (F : FTy → Type) [FloatOps F] : Type := Dev nD → Fin 8 → Vec F (Sh 256 512) .f32
abbrev StL (F : FTy → Type) [FloatOps F] : Type := Dev nD → Fin 8 → Vec F (Sh 256 4) .f32

/-- The accumulators at the start. -/
def O0 (I : Ins F) (t : Fin 2) : StO F := fun c s y => k1_pay3 (I.o c) ((bx (offO t c s) 256 512 (fits_O t c s)).emb y)
def L0 (I : Ins F) (t : Fin 2) : StL F := fun c s y => k1_pay4 (I.l c) ((bx (offL t c s) 256 4 (fits_L t c s)).emb y)

/-- One device's accumulators after the chunks `r` have been added at the slots `l` of a stage. -/
def addO (t : Fin 2) (k : Fin 3) (X : Fin 8 → Vec F (Sh 256 512) .f32) (r : ℕ → Vec F (Sh 256 512) .bf16)
    (l : List { j : Fin 4 // j.val < nn 0 k }) : Fin 8 → Vec F (Sh 256 512) .f32 :=
  l.foldl (fun X j => Function.update X (sp t k j.1.val) (k1_pay23 (X (sp t k j.1.val)) (r j.1.val))) X
def addL (t : Fin 2) (k : Fin 3) (X : Fin 8 → Vec F (Sh 256 4) .f32) (r : ℕ → Vec F (Sh 256 4) .f32)
    (l : List { j : Fin 4 // j.val < nn 0 k }) : Fin 8 → Vec F (Sh 256 4) .f32 :=
  l.foldl (fun X j => Function.update X (sp t k j.1.val) (k1_pay22 (X (sp t k j.1.val)) (r j.1.val))) X

/-- A stage of the reduce-scatter on all devices. -/
def stepO (t : Fin 2) (k : Fin 3) (X : StO F) : StO F := fun c =>
  addO t k (X c) (fun j => k1_pay5 (X (pt (t, 0, k) c) (sn t k j))) (slots k)
def stepL (t : Fin 2) (k : Fin 3) (X : StL F) : StL F := fun c =>
  addL t k (X c) (fun j => k1_pay6 (X (pt (t, 1, k) c) (sn t k j))) (slots k)

/-- The accumulators before each stage, and after the last. -/
def AO (I : Ins F) (t : Fin 2) : ℕ → StO F
  | 0 => O0 I t
  | 1 => stepO t 0 (O0 I t)
  | 2 => stepO t 1 (stepO t 0 (O0 I t))
  | _ => stepO t 2 (stepO t 1 (stepO t 0 (O0 I t)))
def AL (I : Ins F) (t : Fin 2) : ℕ → StL F
  | 0 => L0 I t
  | 1 => stepL t 0 (L0 I t)
  | 2 => stepL t 1 (stepL t 0 (L0 I t))
  | _ => stepL t 2 (stepL t 1 (stepL t 0 (L0 I t)))

theorem AO_succ (I : Ins F) (t : Fin 2) : ∀ k : Fin 3, AO I t (k.val + 1) = stepO t k (AO I t k.val)
  | 0 => rfl
  | 1 => rfl
  | 2 => rfl
theorem AL_succ (I : Ins F) (t : Fin 2) : ∀ k : Fin 3, AL I t (k.val + 1) = stepL t k (AL I t k.val)
  | 0 => rfl
  | 1 => rfl
  | 2 => rfl

theorem fits_head : ∀ h : Fin 4, Fits 256 512 ![0, 128 * h.val] 256 128 := by decide
theorem fits_sum : ∀ h : Fin 4, Fits 256 4 ![0, h.val] 256 1 := by decide

/-- One head of a chunk of outputs, and its sums. -/
def headO (x : Vec F (Sh 256 512) .f32) (h : Fin 4) : Vec F (Sh 256 128) .f32 :=
  fun y => x ((bx (R := 256) (C := 512) ![0, 128 * h.val] 256 128 (fits_head h)).emb y)
def headL (x : Vec F (Sh 256 4) .f32) (h : Fin 4) : Vec F (Sh 256 1) .f32 :=
  fun y => x ((bx (R := 256) (C := 4) ![0, h.val] 256 1 (fits_sum h)).emb y)

/-- The finished chunk from the accumulated halves. -/
def fin (x0 x1 : Vec F (Sh 256 512) .f32) (l0 l1 : Vec F (Sh 256 4) .f32) (w : Vec F S1024x1024 .bf16) : FVec F S256x1024 .f32 :=
  k1_pay68 (k1_pay66 (headO x0 0) (headL l0 0)) (headO x0 1) (k1_pay67 (headL l0 1)) (headO x0 2) (headL l0 2) (headO x0 3) (headL l0 3)
    (headO x1 0) (headL l1 0) (headO x1 1) (headL l1 1) (headO x1 2) (headL l1 2) (headO x1 3) (headL l1 3) w

/-- A device's finished chunk. -/
def done (I : Ins F) (c : Dev nD) : FVec F S256x1024 .f32 :=
  fin (AO I 0 3 c 0) (AO I 1 3 c 0) (AL I 0 3 c 0) (AL I 1 3 c 0) (I.w c)

/-- Its halves as gathered. -/
def YY (I : Ins F) : Fin 2 → Dev nD → Vec F (Sh 256 512) .bf16
  | 0, c => k1_pay73 (done I c)
  | 1, c => k1_pay74 (done I c)

/-- The distance of the chunk that a slot of the gathered buffer holds. -/
def gx (t : Fin 2) : ℕ → Fin 8
  | 0 => 0
  | n + 1 => (ax t (Fin.ofNat 7 n)).succ

/-- What a device sends: chunk `j` of a transfer. -/
def val (I : Ins F) : (i : Tr) → Dev nD → ℕ → Vec F (Sh 256 (CC i.2.1)) (EE i.2.1)
  | (t, 0, k), c, j => k1_pay5 (AO I t k.val c (sn t k j))
  | (t, 1, k), c, j => k1_pay6 (AL I t k.val c (sn t k j))
  | (t, 2, _), c, j => YY I t (xr (gx t j) c)

/-! ## The pieces that travel -/

abbrev js (q k : Fin 3) : List (Fin (nn q k)) := List.finRange _

/-- One chunk of the source, and of the destination, of a transfer. -/
def srcPc (i : Tr) (c : Dev nD) (j : Fin (nn i.2.1 i.2.2)) (x : Vec F (Sh 256 (CC i.2.1)) (EE i.2.1)) : sProp 𝕄 :=
  pc c (srcM i.1 i.2.1) ![256 * (ss i.2.1 i.2.2 + j.val), 0] 256 (CC i.2.1) (fits_ss i.2.1 i.2.2 j) x
def dstPc (i : Tr) (c : Dev nD) (j : Fin (nn i.2.1 i.2.2)) (x : Vec F (Sh 256 (CC i.2.1)) (EE i.2.1)) : sProp 𝕄 :=
  pc c (dstM i.1 i.2.1) ![256 * (ds i.2.1 i.2.2 + j.val), 0] 256 (CC i.2.1) (fits_ds i.2.1 i.2.2 j) x

/-- The source of a transfer holding what it sends; its destination holding what the partner sent. -/
def srcPcs (I : Ins F) (i : Tr) (c : Dev nD) : sProp 𝕄 := bigSepL (js i.2.1 i.2.2) fun j => srcPc i c j (val I i c j.val)
def dstPcs (I : Ins F) (i : Tr) (c : Dev nD) : sProp 𝕄 := bigSepL (js i.2.1 i.2.2) fun j => dstPc i c j (val I i (pt i c) j.val)

/-- The same, holding anything. -/
def srcAny (i : Tr) (c : Dev nD) : sProp 𝕄 := bigSepL (js i.2.1 i.2.2) fun j => iprop(∃ x, srcPc (F := F) i c j x)
def dstAny (i : Tr) (c : Dev nD) : sProp 𝕄 := bigSepL (js i.2.1 i.2.2) fun j => iprop(∃ x, dstPc (F := F) i c j x)

instance bigSepL_storable {T : Type} (l : List T) (Φ : T → sProp 𝕄) [∀ t, BI.Storable (upEmb : UEmb _ 𝕄) (Φ t)] :
    BI.Storable (upEmb : UEmb _ 𝕄) (bigSepL l Φ) := by
  induction l with
  | nil => exact inferInstanceAs (BI.Storable upEmb (iprop(emp) : sProp 𝕄))
  | cons a l ih => rw [BI.bigSepL_cons]; exact inferInstanceAs (BI.Storable upEmb iprop(_ ∗ _))

instance srcPc_storable (i : Tr) (c : Dev nD) (j) (x : Vec F _ _) : BI.Storable (upEmb : UEmb _ 𝕄) (srcPc i c j x) := by
  unfold srcPc; infer_instance
instance dstPc_storable (i : Tr) (c : Dev nD) (j) (x : Vec F _ _) : BI.Storable (upEmb : UEmb _ 𝕄) (dstPc i c j x) := by
  unfold dstPc; infer_instance
instance srcPcs_storable (I : Ins F) (i : Tr) (c : Dev nD) : BI.Storable (upEmb : UEmb _ 𝕄) (srcPcs I i c) := by unfold srcPcs; infer_instance
instance dstPcs_storable (I : Ins F) (i : Tr) (c : Dev nD) : BI.Storable (upEmb : UEmb _ 𝕄) (dstPcs I i c) := by unfold dstPcs; infer_instance
instance dstAny_storable (i : Tr) (c : Dev nD) : BI.Storable (upEmb : UEmb _ 𝕄) (dstAny (F := F) i c) := by unfold dstAny; infer_instance

/-! ## The cells -/

/-- The barrier semaphore. -/
abbrev barS : Sem sig := (SemArray.scalar (sig.barrier 0 rfl) : Sems sig S_).sem

/-- A semaphore of the protocol: the barrier's, or whether it is the receiver's and the transfer. -/
abbrev Ci : Type := Option (Bool × Tr)

def semOf : Ci → SemLoc sig
  | none => .reg barS
  | some (false, i) => .dma (sndS i)
  | some (true, i) => .dma (rcvS i)

/-- Its cell on device `c`. -/
abbrev cell (c : Dev nD) (x : Ci) : GSem nD τ sig := ((c : Thread nD τ), semOf x)
abbrev barCell (c : Dev nD) : GSem nD τ sig := ((c : Thread nD τ), .reg barS)
abbrev sndCell (c : Dev nD) (i : Tr) : GSem nD τ sig := ((c : Thread nD τ), .dma (sndS i))
abbrev rcvCell (c : Dev nD) (i : Tr) : GSem nD τ sig := ((c : Thread nD τ), .dma (rcvS i))

/-- The transfers, by number. -/
def trOf (n : ℕ) : Tr := (Fin.ofNat 2 (n / 18), Fin.ofNat 3 (n / 6), Fin.ofNat 3 n)

/-- Reading a semaphore back. -/
def ciOf : SemLoc sig → Option Ci
  | .reg s => if s = barS then some none else none
  | .dma s => if 10 ≤ s.val then some (some (decide (3 ≤ (s.val - 10) % 6), trOf (s.val - 10))) else none

theorem ciOf_semOf : ∀ x : Ci, ciOf (semOf x) = some x := by
  have h1 : ∀ i : Tr, ciOf (.dma (sndS i)) = some (some (false, i)) := by decide +kernel
  have h2 : ∀ i : Tr, ciOf (.dma (rcvS i)) = some (some (true, i)) := by decide +kernel
  rintro (_ | ⟨_ | _, i⟩)
  · show (if barS = barS then some none else none) = _
    exact if_pos rfl
  · exact h1 i
  · exact h2 i

theorem semOf_inj : Function.Injective semOf := fun x y h => Option.some.inj ((ciOf_semOf x).symm.trans ((congrArg ciOf h).trans (ciOf_semOf y)))

/-- What a transfer credits. -/
def NN (i : Tr) : ℕ := (dstSl i).view.dmaCredit

theorem numel_pos : ∀ q k : Fin 3, 0 < (Sh (256 * nn q k) (CC q)).numel := by decide

theorem NN_pos (i : Tr) : 0 < NN i := View.dmaCredit_pos _ (numel_pos i.2.1 i.2.2)

theorem credit_src : ∀ i : Tr, (srcSl i).view.dmaCredit = NN i
  | (0, 0, _) => rfl
  | (0, 1, _) => rfl
  | (0, 2, _) => rfl
  | (1, 0, _) => rfl
  | (1, 1, _) => rfl
  | (1, 2, _) => rfl

/-! ## The schedule -/

/-- What the device writes on its partner, ready to be written. -/
def Land (i : Tr) (c : Dev nD) : sProp 𝕄 := iprop(dstAny (F := F) i (pt i c) ∗ reached ER (rcvCell (pt i c) i) 0)

/-- The transfers across a mask. -/
def across : Fin 3 → List Tr
  | 0 => [(0, 0, 0), (0, 1, 0), (1, 0, 1), (1, 1, 1), (0, 2, 2), (1, 2, 1)]
  | 1 => [(0, 0, 1), (0, 1, 1), (1, 0, 2), (1, 1, 2), (0, 2, 1), (1, 2, 0)]
  | 2 => [(0, 0, 2), (0, 1, 2), (1, 0, 0), (1, 1, 0), (0, 2, 0), (1, 2, 2)]

theorem mi_across : ∀ m, ∀ i ∈ across m, mi i = m := by decide

/-- Paid to device `c`'s barrier cell by its partner at mask `m`. -/
def barPay (c : Dev nD) (m : Fin 3) : sProp 𝕄 := bigSepL (across m) fun i => Land (F := F) i c

instance Land_storable (i : Tr) (c : Dev nD) : BI.Storable (upEmb : UEmb _ 𝕄) (Land (F := F) i c) := by unfold Land; infer_instance
instance barPay_storable (c : Dev nD) (m : Fin 3) : BI.Storable (upEmb : UEmb _ 𝕄) (barPay (F := F) c m) := by unfold barPay; infer_instance

def dutiesX : Option Ci → Finset (Fin 3)
  | some none => Finset.univ
  | some (some _) => {0}
  | none => ∅
def amountX : Option Ci → ℕ
  | some (some (_, i)) => NN i
  | _ => 1
def payX (I : Ins F) (c : Dev nD) (m : Fin 3) : Option Ci → sProp 𝕄
  | some none => barPay c m
  | some (some (false, i)) => srcPcs I i c
  | some (some (true, i)) => dstPcs I i c
  | none => iprop(emp)

instance payX_storable (I : Ins F) (c : Dev nD) (m : Fin 3) (x : Option Ci) : BI.Storable (upEmb : UEmb _ 𝕄) (payX I c m x) := by
  unfold payX; split <;> infer_instance

/-- One round on every cell. -/
def Rd (I : Ins F) : Rounds.Schedule (GSem nD τ sig) (Fin 3) 𝕄 where
  duties g r := if r = 0 ∧ g.1.2 = .tc then dutiesX (ciOf g.2) else ∅
  unitless _ := False
  amount g _ _ := amountX (ciOf g.2)
  payload g _ d := payX I g.1.1 d (ciOf g.2)
  amount_pos g _ _ _ := by
    rcases ciOf g.2 with _ | _ | ⟨b, i⟩
    · exact Nat.one_pos
    · exact Nat.one_pos
    · exact NN_pos i

instance Rd_storable (I : Ins F) (g : GSem nD τ sig) (r : ℕ) (d : Fin 3) : BI.Storable (upEmb : UEmb _ 𝕄) ((Rd I).payload g r d) := by
  show BI.Storable upEmb (payX I g.1.1 d (ciOf g.2)); infer_instance

variable (I : Ins F)

theorem duties_cell (c : Dev nD) (x : Ci) : (Rd I).duties (cell c x) 0 = dutiesX (some x) := by
  show (if (0 = 0 ∧ (c : Thread nD τ).2 = .tc) then dutiesX (ciOf (semOf x)) else ∅) = _
  rw [if_pos ⟨rfl, rfl⟩, ciOf_semOf]
theorem amount_cell (c : Dev nD) (x : Ci) (d : Fin 3) : (Rd I).amount (cell c x) 0 d = amountX (some x) := by
  show amountX (ciOf (semOf x)) = _; rw [ciOf_semOf]
theorem payload_cell (c : Dev nD) (x : Ci) (d : Fin 3) : (Rd I).payload (cell c x) 0 d = payX I c d (some x) := by
  show payX I c d (ciOf (semOf x)) = _; rw [ciOf_semOf]
theorem duties_later (g : GSem nD τ sig) : ∀ r, 1 ≤ r → (Rd I).duties g r = ∅ := fun r hr => if_neg fun h => by omega

theorem expect_some (c : Dev nD) (b : Bool) (i : Tr) : (Rd I).expect (cell c (some (b, i))) 0 = NN i := by
  unfold Schedule.expect Schedule.amountOf
  rw [duties_cell]
  exact (Finset.sum_singleton _ _).trans (amount_cell I c _ 0)
theorem expect_bar (c : Dev nD) : (Rd I).expect (cell c none) 0 = 3 := by
  unfold Schedule.expect Schedule.amountOf
  rw [duties_cell]
  exact (Finset.sum_congr rfl fun d _ => amount_cell I c none d).trans (by rfl)
theorem rest_some (c : Dev nD) (b : Bool) (i : Tr) :
    bigSep ((Rd I).duties (cell c (some (b, i))) 0 \ ∅) (fun d => (Rd I).payload (cell c (some (b, i))) 0 d) = payX I c 0 (some (some (b, i))) := by
  rw [Finset.sdiff_empty, duties_cell]
  exact (BI.bigSep_singleton).trans (payload_cell I c _ 0)
theorem rest_bar (c : Dev nD) :
    bigSep ((Rd I).duties (cell c none) 0 \ ∅) (fun d => (Rd I).payload (cell c none) 0 d) = bigSepL [0, 1, 2] fun m => barPay c m := by
  rw [Finset.sdiff_empty, duties_cell]
  refine (BI.bigSep_congr fun d _ => payload_cell I c none d).trans ?_
  exact BI.bigSep_univ_eq_bigSepL [0, 1, 2] (by decide) (by decide) _

/-! ## What is owed, and the levels -/

/-- The transfers in the order in which they start. -/
def rsTr (k : Fin 3) : List Tr := [(0, 0, k), (0, 1, k), (1, 0, k), (1, 1, k)]
def agTr (k : Fin 3) : List Tr := [(0, 2, k), (1, 2, k)]
def order : List Tr := rsTr 0 ++ (rsTr 1 ++ (rsTr 2 ++ (agTr 0 ++ (agTr 1 ++ (agTr 2 ++ [])))))

/-- What device `c` owes for a list of transfers not yet started. -/
def owe (c : Dev nD) : List Tr → CellTallies nD τ sig Unit
  | [] => 0
  | i :: l => owe c l + tallyAt (rcvCell (pt i c) i) () (NN i)

/-- What it owes from the launch on: the transfers and the three barrier units. -/
def O₀ (c : Dev nD) : CellTallies nD τ sig Unit :=
  owe c order + tallyAt (barCell (pr 2 c)) () 1 + tallyAt (barCell (pr 1 c)) () 1 + tallyAt (barCell (pr 0 c)) () 1

def L (g : GSem nD τ sig) : Finset Unit := if g.1.2 = .tc then {()} else ∅

/-- The level of an arrival. -/
def rl (i : Tr) : ℕ := 2 + (if i.2.1 = 2 then 3 else 0) + i.2.2.val

def lvX : Option Ci → ℕ
  | some none => 1
  | some (some (true, i)) => rl i
  | _ => 0
def lv (g : GSem nD τ sig) (_ : Unit) : ℕ := lvX (ciOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Ci) : lv (cell c x) () = lvX (some x) := by
  show lvX (ciOf (semOf x)) = _; rw [ciOf_semOf]

theorem owe_mem (c : Dev nD) (l : List Tr) (g : GSem nD τ sig) (u : Unit) (h : 0 < owe c l g u) : ∃ i ∈ l, g = rcvCell (pt i c) i := by
  induction l with
  | nil => exact absurd h (Nat.lt_irrefl 0)
  | cons i l ih =>
    have e : owe c (i :: l) g u = owe c l g u + tallyAt (rcvCell (pt i c) i) () (NN i) g u := rfl
    by_cases hg : g = rcvCell (pt i c) i
    · exact ⟨i, List.mem_cons_self, hg⟩
    · rw [e, tallyAt_apply, if_neg (fun hh => hg hh.1), Nat.add_zero] at h
      obtain ⟨i', hi', e'⟩ := ih h
      exact ⟨i', List.mem_cons_of_mem _ hi', e'⟩

/-- A wait on a cell below everything still owed. -/
theorem mayWait (c : Dev nD) (x : Ci) (n : ℕ) (l : List Tr) (hx : lvX (some x) ≤ n) (hl : ∀ i ∈ l, n < rl i) :
    (levAts L lv : sProp 𝕄) ⊢ MayWait (c : Thread nD τ) (semOf x) () (owe c l) :=
  MayOwe.of_cut (L := L) (lev := lv) n (fun p hp => by rw [Finset.mem_singleton.mp hp, L_tc]; exact Finset.mem_singleton_self _)
    (fun g u hg => by
      obtain ⟨i, -, rfl⟩ := owe_mem c l g u hg
      rw [L_tc]; exact Finset.mem_singleton_self _)
    (fun p hp => by rw [Finset.mem_singleton.mp hp]; exact (lv_cell c x).trans_le hx)
    (fun g u hg => by
      obtain ⟨i, hi, rfl⟩ := owe_mem c l g u hg
      exact (hl i hi).trans_eq (lv_cell (pt i c) (some (true, i))).symm)

end Cert.KernelIdeal.Gen
-- ==== Proof.Quiet.lean ====
/-
  The attention region: what it leaves, and its body's obligation.
-/
module

public import proofs.«01_k».proof.Proof.Attn
public import proofs.«01_k».proof.Proof.Proto
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.RegionArraysS

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic
open Idealize.ShloMosaic.Pipeline (Dat BodyObligation)

variable {F : FTy → Type} [FloatOps F]

local notation "𝕄" => MT nD τ sig Unit (Elt F) ℕ UU ℕ

-- what each buffer holds when the region is entered
variable (V : Dev nD → Valuation τ sig (Elt F))

/-- The operands' blocks as they are fetched. -/
abbrev fed0_0 (c : Dev nD) : (cfg0.win 0).block.Idx → Elt F (cfg0.win 0).elt :=
  ((cfg0.win 0).blk t0_0).view.read (Elt F) (V c (Proc.devRef .tc <| Pipeline.arrRef spec0 0))
abbrev fed0_1 (c : Dev nD) : (cfg0.win 1).block.Idx → Elt F (cfg0.win 1).elt :=
  ((cfg0.win 1).blk t0_0).view.read (Elt F) (V c (Proc.devRef .tc <| Pipeline.arrRef spec0 1))
abbrev fed0_2 (c : Dev nD) : (cfg0.win 2).block.Idx → Elt F (cfg0.win 2).elt :=
  ((cfg0.win 2).blk t0_0).view.read (Elt F) (V c (Proc.devRef .tc <| Pipeline.arrRef spec0 2))
abbrev fed0_3 (c : Dev nD) : (cfg0.win 3).block.Idx → Elt F (cfg0.win 3).elt :=
  ((cfg0.win 3).blk t0_0).view.read (Elt F) (V c (Proc.devRef .tc <| Pipeline.arrRef spec0 3))

/-- The body's run at the blocks fetched. -/
abbrev ran0 (c : Dev nD) := attnRun (F := F) c (st0_0 t0_0) (hstage0_0 0) (st0_1 t0_0) (hstage0_1 0) (st0_2 t0_0) (hstage0_2 0)
  (st0_3 t0_0) (hstage0_3 0) (st0_4 t0_0) (hstage0_4 0) (st0_5 t0_0) (hstage0_5 0) (fed0_0 V c) (fed0_1 V c) (fed0_2 V c) (fed0_3 V c)

/-- The scoped buffers that the region does not stage. -/
abbrev Rest0Buf (c : Dev nD) : sProp 𝕄 := Pipeline.scopedRest (Ix := Unit) (Name := ℕ) (U := UU) (Lvl := ℕ) (Val := Elt F) spec0 c

/-- The region's data: operands as fetched, results as the run leaves them; the exchange's dues stay owed throughout. -/
def dat0 (c : Dev nD) : Dat τ (Elt F) Unit ℕ UU ℕ cfg0 c where
  A w := V c (Proc.devRef .tc (Pipeline.arrRef spec0 w))
  after w _ := match w with
    | ⟨0, _⟩ => fed0_0 V c
    | ⟨1, _⟩ => fed0_1 V c
    | ⟨2, _⟩ => fed0_2 V c
    | ⟨3, _⟩ => fed0_3 V c
    | ⟨4, _⟩ => (ran0 V c).1.1
    | ⟨5, _⟩ => (ran0 V c).1.2
  Φ _ := Rest0Buf c
  q _ := fullShare
  owed _ := O₀ c

theorem before0_0 (c : Dev nD) (d) : (dat0 V c).before 0 t0_0 d = fed0_0 V c := by
  unfold Dat.before; rw [if_pos (fetch0_0 _)]; rfl
theorem before0_1 (c : Dev nD) (d) : (dat0 V c).before 1 t0_0 d = fed0_1 V c := by
  unfold Dat.before; rw [if_pos (fetch0_1 _)]; rfl
theorem before0_2 (c : Dev nD) (d) : (dat0 V c).before 2 t0_0 d = fed0_2 V c := by
  unfold Dat.before; rw [if_pos (fetch0_2 _)]; rfl
theorem before0_3 (c : Dev nD) (d) : (dat0 V c).before 3 t0_0 d = fed0_3 V c := by
  unfold Dat.before; rw [if_pos (fetch0_3 _)]; rfl

theorem body0 (c : Dev nD) : BodyObligation (dat0 V c) (defs₀ (F := F)) Variants.none () Set.univ := fun t => by
  obtain rfl := fin_N0 t
  rw [bigSep_W0, bigSep_W0]
  simp only [owns_whole_eq]
  rw [show (dat0 V c).Φ t0_0.castSucc = Rest0Buf c from rfl, show (dat0 V c).Φ t0_0.succ = Rest0Buf c from rfl,
    show (dat0 V c).owesAt () t0_0.succ = (dat0 V c).owesAt () t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  rw [before0_0] at hf0; rw [before0_1] at hf1; rw [before0_2] at hf2; rw [before0_3] at hf3
  subst hf0 hf1 hf2 hf3
  iapply ((ran0 V c).2 f4 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  iexists _; isplitr; swap; (· iexact H5); ipureintro; dsimp only [dat0]

variable (m : (ℓ : Loc nD τ sig) → Buf (Elt F) ℓ)

/-- What each buffer holds after the region. -/
def W2 (c : Dev nD) : Valuation τ sig (Elt F) := Pipeline.afterRegion (dat0 (V1 m) c) (V1 m c)
/-- And after the output projection's cast. -/
def W3 (c : Dev nD) : Valuation τ sig (Elt F) := StableHlo.after hostOps1 (W2 m c)

end Cert.KernelIdeal.Gen
-- ==== Proof.Steps.lean ====
module

public import proofs.«01_k».proof.Proof.Proto

/-! # The steps of the protocol

One transfer: its start hands over the source and the partner's boxes, its two waits bring back the source
and the own boxes at what the partner sent. The barrier: three signals and a wait. -/

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic

variable {F : FTy → Type} [FloatOps F]

local notation "𝕄" => MT nD τ sig Unit (Elt F) ℕ UU ℕ

/-! ## A run of rows as chunks -/

section Chunks

variable {R C : ℕ} {e : EltTy} (m : M2 R C e) (s n : ℕ) (h : Fits R C ![256 * s, 0] (256 * n) C)
  (h' : ∀ j : Fin n, Fits R C ![256 * (s + j.val), 0] 256 C)

theorem chunks_set : (m.access (bx ![256 * s, 0] (256 * n) C h)).set = boxes m (fun j : Fin n => ![256 * (s + j.val), 0]) 256 C h' := by
  unfold boxes
  ext i
  rw [Finset.mem_biUnion, View.set_slice, Finset.mem_map]
  constructor
  · rintro ⟨y, hy, rfl⟩
    have h0 := Rect.mem_set_unit.mp hy 0
    have h1 := Rect.mem_set_unit.mp hy 1
    change 256 * s ≤ (y 0).val ∧ (y 0).val < 256 * s + 256 * n at h0
    have hj : ((y 0).val - 256 * s) / 256 < n := by omega
    refine ⟨⟨((y 0).val - 256 * s) / 256, hj⟩, Finset.mem_univ _, ?_⟩
    rw [View.set_slice]
    refine Finset.mem_map.mpr ⟨y, Rect.mem_set_unit.mpr ?_, rfl⟩
    intro a; fin_cases a
    · show 256 * (s + ((y 0).val - 256 * s) / 256) ≤ (y 0).val ∧ (y 0).val < 256 * (s + ((y 0).val - 256 * s) / 256) + 256
      omega
    · exact h1
  · rintro ⟨j, -, hi⟩
    rw [View.set_slice] at hi
    obtain ⟨y, hy, rfl⟩ := Finset.mem_map.mp hi
    refine ⟨y, Rect.mem_set_unit.mpr ?_, rfl⟩
    have h0 := Rect.mem_set_unit.mp hy 0
    have h1 := Rect.mem_set_unit.mp hy 1
    change 256 * (s + j.val) ≤ (y 0).val ∧ (y 0).val < 256 * (s + j.val) + 256 at h0
    have := j.isLt
    intro a; fin_cases a
    · show 256 * s ≤ (y 0).val ∧ (y 0).val < 256 * s + 256 * n
      omega
    · exact h1

theorem chunks_apart : ∀ j j' : Fin n, j ≠ j' → Apart ![256 * (s + j.val), 0] 256 C ![256 * (s + j'.val), 0] 256 C := by
  intro j j' ne
  have : j.val ≠ j'.val := fun e => ne (Fin.ext e)
  show 256 * (s + j.val) + 256 ≤ 256 * (s + j'.val) ∨ 256 * (s + j'.val) + 256 ≤ 256 * (s + j.val) ∨ _
  omega

theorem univ_list {n : ℕ} (Φ : Fin n → sProp 𝕄) : bigSep Finset.univ Φ = bigSepL (List.finRange n) Φ :=
  BI.bigSep_univ_eq_bigSepL _ (by ext; simp) (List.nodup_finRange n) Φ

theorem chunks_split (c : Dev nD) (g : Buf (Elt F) (m.view.loc (c : Thread nD τ))) (x : Fin n → Vec F (Sh 256 C) e)
    (hx : ∀ j, (m.access (bx ![256 * (s + j.val), 0] 256 C (h' j))).read (Elt F) g = x j) :
    (ptw c m ![256 * s, 0] (256 * n) C h g : sProp 𝕄)
      ⊢ bigSepL (List.finRange n) fun j => pc c m ![256 * (s + j.val), 0] 256 C (h' j) (x j) := by
  have := carve c m (fun j : Fin n => ![256 * (s + j.val), 0]) 256 C h' (chunks_apart s n)
    (U := (m.access (bx ![256 * s, 0] (256 * n) C h)).set) (by rw [chunks_set m s n h h']) g
  rw [← univ_list]
  unfold ptw
  refine this.trans ?_
  iintro ⟨H, Hr⟩
  rw [chunks_set m s n h h', Finset.sdiff_self, pointsTo_empty]
  simp only [hx]
  iexact H

theorem chunks_join (c : Dev nD) (x : Fin n → Vec F (Sh 256 C) e) :
    (bigSepL (List.finRange n) fun j => pc c m ![256 * (s + j.val), 0] 256 C (h' j) (x j))
      ⊢ (iprop(∃ g, ⌜∀ j, (m.access (bx ![256 * (s + j.val), 0] 256 C (h' j))).read (Elt F) g = x j⌝
        ∗ ptw c m ![256 * s, 0] (256 * n) C h g) : sProp 𝕄) := by
  have := gather c m (fun j : Fin n => ![256 * (s + j.val), 0]) 256 C h' (chunks_apart s n)
    (U := (m.access (bx ![256 * s, 0] (256 * n) C h)).set) (by rw [chunks_set m s n h h']) x (m.view.junk)
  rw [← univ_list]
  unfold ptw
  rw [chunks_set m s n h h', Finset.sdiff_self, pointsTo_empty] at this
  rw [chunks_set m s n h h']
  iintro H
  ihave H := this $$ [H]
  · isplitl [H]; · iexact H
    iempintro
  icases H with ⟨%g, %hg, H⟩
  iexists g
  isplitr; · ipureintro; exact hg.1
  iexact H

theorem chunks_any (c : Dev nD) :
    (bigSepL (List.finRange n) fun j => iprop(∃ x, pc c m ![256 * (s + j.val), 0] 256 C (h' j) x))
      ⊢ (iprop(∃ g, ptw c m ![256 * s, 0] (256 * n) C h g) : sProp 𝕄) := by
  rw [← univ_list]
  refine (BI.bigSep_exists_pi (Y := fun _ => Vec F (Sh 256 C) e) Finset.univ _).trans ?_
  rw [show (fun x : (Fin n → Vec F (Sh 256 C) e) => bigSep Finset.univ fun j => (pc c m ![256 * (s + j.val), 0] 256 C (h' j) (x j) : sProp 𝕄))
    = fun x => bigSepL (List.finRange n) fun j => pc c m ![256 * (s + j.val), 0] 256 C (h' j) (x j) from funext fun x => univ_list _]
  iintro ⟨%x, H⟩
  ihave H := (chunks_join m s n h h' c x) $$ H
  icases H with ⟨%g, -, H⟩
  iexists g; iexact H

end Chunks

/-- A chunk of what a copy wrote is that chunk of what it read. -/
theorem chunk_copied {R C R₂ : ℕ} {e : EltTy} (a : M2 R C e) (b : M2 R₂ C e) (s s' n : ℕ) (h : Fits R C ![256 * s, 0] (256 * n) C)
    (h₂ : Fits R₂ C ![256 * s', 0] (256 * n) C) (j : Fin n) (hj : Fits R C ![256 * (s + j.val), 0] 256 C)
    (hj₂ : Fits R₂ C ![256 * (s' + j.val), 0] 256 C) (fd : b.view.ty.Contents (Elt F)) (g : a.view.ty.Contents (Elt F)) :
    (b.access (bx ![256 * (s' + j.val), 0] 256 C hj₂)).read (Elt F)
      ((b.access (bx ![256 * s', 0] (256 * n) C h₂)).write (Elt F) fd ((a.access (bx ![256 * s, 0] (256 * n) C h)).read (Elt F) g) Finset.univ)
      = (a.access (bx ![256 * (s + j.val), 0] 256 C hj)).read (Elt F) g := by
  have hin : Fits (256 * n) C ![256 * j.val, 0] 256 C := by
    have := j.isLt
    intro a; fin_cases a
    · show 256 * j.val + 256 ≤ 256 * n; omega
    · show 0 + C ≤ C; omega
  have ho : ∀ (s : ℕ) (a : Fin 2), (![256 * (s + j.val), 0] : Fin 2 → ℕ) a = (![256 * s, 0] : Fin 2 → ℕ) a + (![256 * j.val, 0] : Fin 2 → ℕ) a := by
    intro s a; fin_cases a
    · show 256 * (s + j.val) = 256 * s + 256 * j.val; omega
    · rfl
  rw [read_in b ![256 * s', 0] (256 * n) C h₂ _ ![256 * j.val, 0] 256 C hj₂ hin (ho s'),
    read_in a ![256 * s, 0] (256 * n) C h _ ![256 * j.val, 0] 256 C hj hin (ho s), View.read_write_univ]

/-! ## The records -/

/-- The barrier cells, and the cells of the transfers. -/
def barEmb : Dev nD ↪ GSem nD τ sig := ⟨fun c => barCell c, fun _ _ h => congrArg (fun g : GSem nD τ sig => g.1.1) h⟩
def trEmb : Dev nD × (Bool × Tr) ↪ GSem nD τ sig :=
  ⟨fun x => cell x.1 (some x.2), fun _ _ h =>
    Prod.ext (congrArg (fun g : GSem nD τ sig => g.1.1) h) (Option.some.inj (semOf_inj (congrArg Prod.snd h)))⟩
abbrev barCells : Finset (GSem nD τ sig) := Finset.univ.map barEmb
abbrev trCells : Finset (GSem nD τ sig) := Finset.univ.map trEmb

theorem cell_mem (c : Dev nD) : ∀ x : Ci, cell c x ∈ (barCells ∪ trCells : Finset (GSem nD τ sig))
  | none => Finset.mem_union_left _ (Finset.mem_map_of_mem barEmb (Finset.mem_univ c))
  | some x => Finset.mem_union_right _ (Finset.mem_map_of_mem trEmb (Finset.mem_univ (c, x)))

variable (I : Ins F)

/-- What every device may consult: all the cells' invariants, round 0 of every barrier cell, the levels. -/
def Rec (K : GSem nD τ sig → ℕ) : sProp 𝕄 :=
  iprop((bigSep (barCells ∪ trCells) fun g => cellInv ER (Rd I) (K g) g) ∗ (bigSep barCells fun g => reached ER g 0) ∗ levAts L lv)

instance Rec_persistent (K : GSem nD τ sig → ℕ) : BI.Persistent (Rec I K) := by unfold Rec; infer_instance

theorem inv_at (K : GSem nD τ sig → ℕ) (c : Dev nD) (x : Ci) : Rec I K ⊢ cellInv ER (Rd I) (K (cell c x)) (cell c x) := by
  unfold Rec
  have h : (bigSep (barCells ∪ trCells) fun g => (cellInv ER (Rd I) (K g) g : sProp 𝕄)) ⊢ cellInv ER (Rd I) (K (cell c x)) (cell c x) :=
    BI.bigSep_elim (cell_mem c x)
  iintro ⟨H, -⟩
  iapply h; iexact H
theorem reached_at (K : GSem nD τ sig → ℕ) (c : Dev nD) : Rec I K ⊢ reached ER (barCell c) 0 := by
  unfold Rec
  have h : (bigSep barCells fun g => (reached ER g 0 : sProp 𝕄)) ⊢ reached ER (barCell c) 0 :=
    BI.bigSep_elim (Finset.mem_map_of_mem barEmb (Finset.mem_univ c))
  iintro ⟨-, H, -⟩
  iapply h; iexact H
theorem lev_at (K : GSem nD τ sig → ℕ) : Rec I K ⊢ levAts L lv := by
  unfold Rec
  iintro ⟨-, -, H⟩
  iexact H

/-- What a device still owes, whatever it has waited for. -/
def Ow (c : Dev nD) (l : List Tr) : sProp 𝕄 := iprop(∃ W, owes (c : Thread nD τ) (owe c l) W)

/-- A transfer not yet started: the positions on its two cells, the two tokens, its cell's round, the credit to wait with. -/
def Ready (c : Dev nD) (i : Tr) : sProp 𝕄 :=
  iprop(atPos ER (sndCell c i) 0 ∅ 0 ∗ atPos ER (rcvCell c i) 0 ∅ 0 ∗ dutyTok ER (sndCell c i) 0 0 ∗ dutyTok ER (rcvCell (pt i c) i) 0 0
    ∗ reached ER (sndCell c i) 0 ∗ cred (tallyAt (rcvCell c i) () (NN i)))

/-- One under way. -/
def Sent (c : Dev nD) (i : Tr) : sProp 𝕄 :=
  iprop(atPos ER (sndCell c i) 0 ∅ 0 ∗ atPos ER (rcvCell c i) 0 ∅ 0 ∗ cred (tallyAt (sndCell c i) () (NN i)) ∗ cred (tallyAt (rcvCell c i) () (NN i)))

/-- One that has departed, and one that has been received. -/
def Gone (c : Dev nD) (i : Tr) : sProp 𝕄 := atPos ER (sndCell c i) (0 + 1) ∅ 0
def Came (c : Dev nD) (i : Tr) : sProp 𝕄 := atPos ER (rcvCell c i) (0 + 1) ∅ 0

variable {α : Type} {I}

theorem pay_src (i : Tr) (c : Dev nD) (g : Buf (Elt F) ((srcM i.1 i.2.1).view.loc (c : Thread nD τ)))
    (hg : ∀ j, ((srcM i.1 i.2.1).access (bx ![256 * (ss i.2.1 i.2.2 + j.val), 0] 256 (CC i.2.1) (fits_ss i.2.1 i.2.2 j))).read (Elt F) g = val I i c j.val) :
    (ptw c (srcM i.1 i.2.1) ![256 * ss i.2.1 i.2.2, 0] (256 * nn i.2.1 i.2.2) (CC i.2.1) (fits_src i.2.1 i.2.2) g : sProp 𝕄) ⊢ srcPcs I i c :=
  chunks_split (srcM i.1 i.2.1) (ss i.2.1 i.2.2) (nn i.2.1 i.2.2) (fits_src i.2.1 i.2.2) (fits_ss i.2.1 i.2.2) c g (fun j => val I i c j.val) hg

theorem pay_dst (i : Tr) (c : Dev nD) (g : Buf (Elt F) ((srcM i.1 i.2.1).view.loc (c : Thread nD τ)))
    (hg : ∀ j, ((srcM i.1 i.2.1).access (bx ![256 * (ss i.2.1 i.2.2 + j.val), 0] 256 (CC i.2.1) (fits_ss i.2.1 i.2.2 j))).read (Elt F) g = val I i c j.val)
    (fd : Buf (Elt F) ((dstM i.1 i.2.1).view.loc (pt i c : Thread nD τ))) :
    (ptw (pt i c) (dstM i.1 i.2.1) ![256 * ds i.2.1 i.2.2, 0] (256 * nn i.2.1 i.2.2) (CC i.2.1) (fits_dst i.2.1 i.2.2)
      (((dstM i.1 i.2.1).access (bx ![256 * ds i.2.1 i.2.2, 0] (256 * nn i.2.1 i.2.2) (CC i.2.1) (fits_dst i.2.1 i.2.2))).write (Elt F) fd
        (((srcM i.1 i.2.1).access (bx ![256 * ss i.2.1 i.2.2, 0] (256 * nn i.2.1 i.2.2) (CC i.2.1) (fits_src i.2.1 i.2.2))).read (Elt F) g) Finset.univ) : sProp 𝕄)
      ⊢ dstPcs I i (pt i c) := by
  unfold dstPcs dstPc
  rw [pt_pt]
  have hx := fun j => (chunk_copied (srcM i.1 i.2.1) (dstM i.1 i.2.1) (ss i.2.1 i.2.2) (ds i.2.1 i.2.2) (nn i.2.1 i.2.2)
    (fits_src i.2.1 i.2.2) (fits_dst i.2.1 i.2.2) j (fits_ss i.2.1 i.2.2 j) (fits_ds i.2.1 i.2.2 j) fd g).trans (hg j)
  exact chunks_split (dstM i.1 i.2.1) (ds i.2.1 i.2.2) (nn i.2.1 i.2.2) (fits_dst i.2.1 i.2.2) (fits_ds i.2.1 i.2.2) (pt i c) _ (fun j => val I i c j.val) hx

theorem mem_snd (c : Dev nD) (i : Tr) : (0 : Fin 3) ∈ (Rd I).duties (sndCell c i) 0 := by
  have h := duties_cell I c (some (false, i))
  change (Rd I).duties (sndCell c i) 0 = {0} at h
  rw [h]; exact Finset.mem_singleton_self _
theorem mem_rcv (c : Dev nD) (i : Tr) : (0 : Fin 3) ∈ (Rd I).duties (rcvCell c i) 0 := by
  have h := duties_cell I c (some (true, i))
  change (Rd I).duties (rcvCell c i) 0 = {0} at h
  rw [h]; exact Finset.mem_singleton_self _
theorem mem_bar (c : Dev nD) (m : Fin 3) : m ∈ (Rd I).duties (barCell c) 0 := by
  have h := duties_cell I c none
  change (Rd I).duties (barCell c) 0 = Finset.univ at h
  rw [h]; exact Finset.mem_univ _
theorem pay_snd (c : Dev nD) (i : Tr) : (Rd I).payload (sndCell c i) 0 0 = srcPcs I i c := payload_cell I c (some (false, i)) 0
theorem pay_rcv (c : Dev nD) (i : Tr) : (Rd I).payload (rcvCell c i) 0 0 = dstPcs I i c := payload_cell I c (some (true, i)) 0
theorem pay_bar (c : Dev nD) (m : Fin 3) : (Rd I).payload (barCell c) 0 m = barPay c m := payload_cell I c none m

/-- The start of a transfer. -/
theorem wp_sendTr (K : GSem nD τ sig → ℕ) (c : Dev nD) (i : Tr) (l : List Tr) (k : PUnit → PG F α) {Q : α → sProp 𝕄} :
    iprop(Rec I K ∗ Ready c i ∗ Land i c ∗ srcPcs I i c ∗ Ow c (i :: l))
      ⊢ iprop(((Sent c i ∗ Ow c l) -∗ WP c (k ⟨⟩) Q) -∗ WP c (send c i >>= k) Q) := by
  unfold Ready Land srcPcs srcPc Ow
  iintro ⟨#HR, ⟨HaS, HaR, HtS, HtR, #HrS, HcR⟩, ⟨Hd, #HrR⟩, Hs, ⟨%W, HO⟩⟩ Hk
  ihave Hs := (chunks_join (srcM i.1 i.2.1) (ss i.2.1 i.2.2) (nn i.2.1 i.2.2) (fits_src i.2.1 i.2.2) (fits_ss i.2.1 i.2.2) c (fun j => val I i c j.val)) $$ Hs
  icases Hs with ⟨%g, %hg, Hs⟩
  unfold dstAny dstPc
  ihave Hd := (chunks_any (dstM i.1 i.2.1) (ds i.2.1 i.2.2) (nn i.2.1 i.2.2) (fits_dst i.2.1 i.2.2) (fits_ds i.2.1 i.2.2) (pt i c)) $$ Hd
  icases Hd with ⟨%fd, Hd⟩
  iapply (Rounds.wp_send_pointsTo Variants.none ER (Rd I) (c : Thread nD τ) none (c' := (pt i c : Thread nD τ)) (src := srcSl i) (dst := dstSl i)
      (sS := .dma (sndS i)) (sem := .dma (rcvS i)) (q := fullShare) (fs := g) (κ₁ := K (sndCell c i)) (κ₂ := K (rcvCell (pt i c) i))
      (r₁ := 0) (r₂ := 0) (d₁ := 0) (d₂ := 0) (fd := fd)
      (mem_snd c i) (mem_rcv (pt i c) i)
      () () (NN i) rfl (amount_cell I c (some (false, i)) 0) (amount_cell I (pt i c) (some (true, i)) 0) (owe c l) rfl (W := W)
      ((pay_src i c g hg).trans (Entails.of_eq (pay_snd c i).symm))
      ((pay_dst i c g hg fd).trans (Entails.of_eq (pay_rcv (pt i c) i).symm))) $$ [Hs Hd HO HtS HtR]
  · isplitr; · iapply (inv_at I K c (some (false, i))); iexact HR
    isplitr; · iapply (inv_at I K (pt i c) (some (true, i))); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  unfold Sent
  isplitr [HO]
  · isplitl [HaS]; · iexact HaS
    isplitl [HaR]; · iexact HaR
    isplitl [HcS] <;> iassumption
  iexists W; iexact HO

theorem rest_snd (c : Dev nD) (i : Tr) :
    (bigSep ((Rd I).duties (sndCell c i) 0 \ ∅) fun d => (Rd I).payload (sndCell c i) 0 d) = srcPcs I i c := rest_some I c false i
theorem rest_rcv (c : Dev nD) (i : Tr) :
    (bigSep ((Rd I).duties (rcvCell c i) 0 \ ∅) fun d => (Rd I).payload (rcvCell c i) 0 d) = dstPcs I i c := rest_some I c true i

/-- The wait for departure: the source comes back. -/
theorem wp_waitS (K : GSem nD τ sig → ℕ) (c : Dev nD) (i : Tr) (l : List Tr) (hl : ∀ i' ∈ l, 0 < rl i') (k : PUnit → PG F α) {Q : α → sProp 𝕄} :
    iprop(Rec I K ∗ atPos ER (sndCell c i) 0 ∅ 0 ∗ cred (tallyAt (sndCell c i) () (NN i)) ∗ Ow c l)
      ⊢ iprop(((Gone c i ∗ srcPcs I i c ∗ Ow c l) -∗ WP c (k ⟨⟩) Q) -∗ WP c (waitS i >>= k) Q) := by
  unfold Ow
  iintro ⟨#HR, Ha, Hc, ⟨%W, HO⟩⟩ Hk
  iapply (Rounds.wp_wait_rest_token Variants.none ER (Rd I) (c : Thread nD τ) none (κ := K (sndCell c i))
      (wpE_waitDma2_eq (src := dstSl i) (dst := srcSl i) Variants.none (c : Thread nD τ) none Set.univ) (Set.mem_univ _) () (O := owe c l) (W := W) (R := 0) (m := 0) (T := ∅)
      ((Nat.zero_add _).trans ((credit_src i).trans (expect_some I c false i).symm))) $$ [Hc HO Ha]
  · isplitr; · iapply (inv_at I K c (some (false, i))); iexact HR
    isplitl [Hc]; · rw [credit_src]; iexact Hc
    isplitl [HO]; · iexact HO
    isplitr; · iapply (mayWait c (some (false, i)) 0 l (Nat.le_refl 0) hl); iapply (lev_at I K); iexact HR
    iexact Ha
  iintro ⟨HO, Ha, -, Hp⟩
  ihave Hp := (Entails.of_eq (rest_snd (I := I) c i)) $$ Hp
  iapply Hk
  unfold Gone
  isplitl [Ha]; · iexact Ha
  isplitl [Hp]; · iexact Hp
  iexists _; iexact HO

/-- The wait for arrival: the own boxes come back at what the partner sent. -/
theorem wp_waitR (K : GSem nD τ sig → ℕ) (c : Dev nD) (i : Tr) (l : List Tr) (hl : ∀ i' ∈ l, rl i < rl i') (k : PUnit → PG F α) {Q : α → sProp 𝕄} :
    iprop(Rec I K ∗ atPos ER (rcvCell c i) 0 ∅ 0 ∗ cred (tallyAt (rcvCell c i) () (NN i)) ∗ Ow c l)
      ⊢ iprop(((Came c i ∗ dstPcs I i c ∗ Ow c l) -∗ WP c (k ⟨⟩) Q) -∗ WP c (waitR i >>= k) Q) := by
  unfold Ow
  iintro ⟨#HR, Ha, Hc, ⟨%W, HO⟩⟩ Hk
  iapply (Rounds.wp_wait_rest_token Variants.none ER (Rd I) (c : Thread nD τ) none (κ := K (rcvCell c i))
      (wpE_waitDma2_eq (src := srcSl i) (dst := dstSl i) Variants.none (c : Thread nD τ) none Set.univ) (Set.mem_univ _) () (O := owe c l) (W := W) (R := 0) (m := 0) (T := ∅)
      ((Nat.zero_add _).trans (expect_some I c true i).symm)) $$ [Hc HO Ha]
  · isplitr; · iapply (inv_at I K c (some (true, i))); iexact HR
    isplitl [Hc]; · iexact Hc
    isplitl [HO]; · iexact HO
    isplitr; · iapply (mayWait c (some (true, i)) (rl i) l (Nat.le_refl _) hl); iapply (lev_at I K); iexact HR
    iexact Ha
  iintro ⟨HO, Ha, -, Hp⟩
  ihave Hp := (Entails.of_eq (rest_rcv (I := I) c i)) $$ Hp
  iapply Hk
  unfold Came
  isplitl [Ha]; · iexact Ha
  isplitl [Hp]; · iexact Hp
  iexists _; iexact HO

/-! ## The barrier -/

theorem barPay_eq (c : Dev nD) (m : Fin 3) :
    (barPay (pr m c) m : sProp 𝕄) = bigSepL (across m) fun i => iprop(dstAny (F := F) i c ∗ reached ER (rcvCell c i) 0) := by
  have h : ∀ i ∈ across m, pt i (pr m c) = c := fun i hi => by
    rw [show pt i (pr m c) = pr (mi i) (pr m c) from rfl, mi_across m i hi, pr_pr]
  unfold barPay Land
  generalize across m = l at h
  induction l with
  | nil => rfl
  | cons i l ih =>
    rw [BI.bigSepL_cons, BI.bigSepL_cons, ih fun i hi => h i (List.mem_cons_of_mem _ hi), h i List.mem_cons_self]

/-- One signal, to the partner at mask `m`. -/
theorem wp_sig (K : GSem nD τ sig → ℕ) (c : Dev nD) (m : Fin 3) (O : CellTallies nD τ sig Unit) (W : Waits sig Unit)
    (k : PUnit → PG F α) {Q : α → sProp 𝕄} :
    iprop(Rec I K ∗ dutyTok ER (barCell (pr m c)) 0 m ∗ (bigSepL (across m) fun i => iprop(dstAny (F := F) i c ∗ reached ER (rcvCell c i) 0))
        ∗ owes (c : Thread nD τ) (O + tallyAt (barCell (pr m c)) () 1) W)
      ⊢ iprop((owes (c : Thread nD τ) O W -∗ WP c (k ⟨⟩) Q) -∗ WP c (semSignalWord (pr m c) barS 1#32 >>= k) Q) := by
  iintro ⟨#HR, Ht, Hp, HO⟩ Hk
  iapply (Rounds.wp_signal Variants.none ER (Rd I) (c : Thread nD τ) none (dst := (pr m c : Thread nD τ)) (sem := barS) (r := 0) (d := m) (κ := K (barCell (pr m c)))
      (mem_bar (pr m c) m) (amount_cell I (pr m c) none m) () O rfl)
    $$ [HO Ht Hp]
  · isplitr; · iapply (inv_at I K (pr m c) none); iexact HR
    isplitl [HO]; · iexact HO
    isplitl [Ht]; · iexact Ht
    isplitl [Hp]
    · rw [pay_bar, barPay_eq]; iexact Hp
    · iapply (reached_at I K (pr m c)); iexact HR
  iexact Hk

end Cert.KernelIdeal.Gen
-- ==== Proof.Stages.lean ====
module

public import proofs.«01_k».proof.Proof.Steps
public import Idealize.ShloMosaic.Lib.Pipeline.BigSepL

/-! # The stages of the combine region

Each macro of the schedule with what it takes and what it leaves: the loops of a reduce-scatter stage, its
four transfers, the normalisation, the loops of a gather stage. -/

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic

variable {F : FTy → Type} [FloatOps F]

local notation "𝕄" => MT nD τ sig Unit (Elt F) ℕ UU ℕ

/-! ## Lists of assertions -/

theorem eq_of_equiv {P Q : sProp 𝕄} (h : P ⊣⊢ Q) : P = Q := BI.equiv_iff.mp ⟨h.1, h.2⟩

theorem bigSepL_perm {T : Type} {l₁ l₂ : List T} (p : l₁.Perm l₂) (Φ : T → sProp 𝕄) : bigSepL l₁ Φ = bigSepL l₂ Φ := by
  induction p with
  | nil => rfl
  | cons a _ ih => rw [BI.bigSepL_cons', BI.bigSepL_cons', ih]
  | swap a b l =>
    rw [BI.bigSepL_cons', BI.bigSepL_cons', BI.bigSepL_cons', BI.bigSepL_cons']
    exact eq_of_equiv sep_left_comm
  | trans _ _ h₁ h₂ => exact h₁.trans h₂

theorem bigSepL_sep {T : Type} (l : List T) (Φ Ψ : T → sProp 𝕄) : bigSepL l (fun a => iprop(Φ a ∗ Ψ a)) = iprop(bigSepL l Φ ∗ bigSepL l Ψ) := by
  induction l with
  | nil => exact (eq_of_equiv sep_emp).symm
  | cons a l ih =>
    rw [BI.bigSepL_cons', BI.bigSepL_cons', BI.bigSepL_cons', ih]
    exact eq_of_equiv sep_sep_sep_comm

theorem bigSepL_cong {T : Type} {l : List T} {Φ Ψ : T → sProp 𝕄} (h : ∀ a ∈ l, Φ a = Ψ a) : bigSepL l Φ = bigSepL l Ψ := by
  induction l with
  | nil => rfl
  | cons a l ih => rw [BI.bigSepL_cons', BI.bigSepL_cons', h a List.mem_cons_self, ih fun b hb => h b (List.mem_cons_of_mem _ hb)]

variable {α : Type}

/-- A loop: at every turn a resource of its own changes and a shared state steps. -/
theorem wp_run {T σ : Type} (c : Dev nD) (f : T → PG F PUnit) (S : σ → sProp 𝕄) (g : σ → T → σ) (Pre Post : T → sProp 𝕄) {Q : α → sProp 𝕄}
    (hstep : ∀ (s : σ) (j : T) (k : PUnit → PG F α),
      iprop(Pre j ∗ S s) ⊢ iprop(((Post j ∗ S (g s j)) -∗ WP c (k ⟨⟩) Q) -∗ WP c (f j >>= k) Q)) :
    ∀ (l : List T) (s : σ) (k : PUnit → PG F α),
      iprop(bigSepL l Pre ∗ S s) ⊢ iprop(((bigSepL l Post ∗ S (l.foldl g s)) -∗ WP c (k ⟨⟩) Q) -∗ WP c (run (l.map f) >>= k) Q)
  | [], s, k => by
    rw [List.foldl_nil]
    iintro ⟨-, HS⟩ Hk
    iapply Hk
    isplitr; · iempintro
    iexact HS
  | j :: l, s, k => by
    rw [BI.bigSepL_cons', BI.bigSepL_cons', List.foldl_cons]
    show _ ⊢ iprop(_ -∗ WP c ((f j >>= fun _ => run (l.map f)) >>= k) Q)
    rw [bind_assoc]
    iintro ⟨⟨Hj, Hl⟩, HS⟩ Hk
    iapply (hstep s j _) $$ [Hj HS]
    · isplitl [Hj] <;> iassumption
    iintro ⟨Hj, HS⟩
    iapply (wp_run c f S g Pre Post hstep l (g s j) k) $$ [Hl HS]
    · isplitl [Hl] <;> iassumption
    iintro ⟨Hl, HS⟩
    iapply Hk
    isplitr [HS]
    · isplitl [Hj] <;> iassumption
    iexact HS

/-! ## The accumulators -/

/-- A tree's chunks of the accumulators. -/
def accs (c : Dev nD) (t : Fin 2) (X : Fin 8 → Vec F (Sh 256 512) .f32) : sProp 𝕄 :=
  bigSep Finset.univ fun s => pc c accO (offO t c s) 256 512 (fits_O t c s) (X s)
def sums (c : Dev nD) (t : Fin 2) (Y : Fin 8 → Vec F (Sh 256 4) .f32) : sProp 𝕄 :=
  bigSep Finset.univ fun s => pc c accL (offL t c s) 256 4 (fits_L t c s) (Y s)

theorem accs_turn (c : Dev nD) (t : Fin 2) (X : Fin 8 → Vec F (Sh 256 512) .f32) (s : Fin 8) :
    (accs c t X : sProp 𝕄) ⊢ iprop(pc c accO (offO t c s) 256 512 (fits_O t c s) (X s)
      ∗ ∀ v, pc c accO (offO t c s) 256 512 (fits_O t c s) v -∗ accs c t (Function.update X s v)) :=
  BI.bigSep_univ_turn (fun s v => pc c accO (offO t c s) 256 512 (fits_O t c s) v) X s
theorem sums_turn (c : Dev nD) (t : Fin 2) (X : Fin 8 → Vec F (Sh 256 4) .f32) (s : Fin 8) :
    (sums c t X : sProp 𝕄) ⊢ iprop(pc c accL (offL t c s) 256 4 (fits_L t c s) (X s)
      ∗ ∀ v, pc c accL (offL t c s) 256 4 (fits_L t c s) v -∗ sums c t (Function.update X s v)) :=
  BI.bigSep_univ_turn (fun s v => pc c accL (offL t c s) 256 4 (fits_L t c s) v) X s

/-- The slots of a stage as chunks of its transfers. -/
theorem slots_o : ∀ k : Fin 3, (slots k).map (fun j => (⟨j.1.val, j.2⟩ : Fin (nn 0 k))) = js 0 k := by decide
theorem slots_l : ∀ k : Fin 3, (slots k).map (fun j => (⟨j.1.val, j.2⟩ : Fin (nn 1 k))) = js 1 k := by decide

theorem byslots_o (k : Fin 3) (Φ : Fin (nn 0 k) → sProp 𝕄) : bigSepL (js 0 k) Φ = bigSepL (slots k) fun j => Φ ⟨j.1.val, j.2⟩ := by
  rw [← slots_o, BI.bigSepL_map]
theorem byslots_l (k : Fin 3) (Φ : Fin (nn 1 k) → sProp 𝕄) : bigSepL (js 1 k) Φ = bigSepL (slots k) fun j => Φ ⟨j.1.val, j.2⟩ := by
  rw [← slots_l, BI.bigSepL_map]

/-- The slots of the exchange buffers. -/
def gO (c : Dev nD) (t : Fin 2) (k : Fin 3) (j : { j : Fin 4 // j.val < nn 0 k }) (x : Vec F (Sh 256 512) .bf16) : sProp 𝕄 :=
  pc c (srcM t 0) ![256 * (ss 0 k + j.1.val), 0] 256 512 (fits_ss 0 k ⟨j.1.val, j.2⟩) x
def gL (c : Dev nD) (t : Fin 2) (k : Fin 3) (j : { j : Fin 4 // j.val < nn 0 k }) (x : Vec F (Sh 256 4) .f32) : sProp 𝕄 :=
  pc c (srcM t 1) ![256 * (ss 1 k + j.1.val), 0] 256 4 (fits_ss 1 k ⟨j.1.val, j.2⟩) x
def hO (c : Dev nD) (t : Fin 2) (k : Fin 3) (j : { j : Fin 4 // j.val < nn 0 k }) (x : Vec F (Sh 256 512) .bf16) : sProp 𝕄 :=
  pc c (dstM t 0) ![256 * (ds 0 k + j.1.val), 0] 256 512 (fits_ds 0 k ⟨j.1.val, j.2⟩) x
def hL (c : Dev nD) (t : Fin 2) (k : Fin 3) (j : { j : Fin 4 // j.val < nn 0 k }) (x : Vec F (Sh 256 4) .f32) : sProp 𝕄 :=
  pc c (dstM t 1) ![256 * (ds 1 k + j.1.val), 0] 256 4 (fits_ds 1 k ⟨j.1.val, j.2⟩) x

variable (I : Ins F)

theorem any_o (c : Dev nD) (t : Fin 2) (k : Fin 3) : (srcAny (t, 0, k) c : sProp 𝕄) = bigSepL (slots k) fun j => iprop(∃ x, gO (F := F) c t k j x) :=
  byslots_o k fun j => iprop(∃ x, srcPc (F := F) (t, 0, k) c j x)
theorem any_l (c : Dev nD) (t : Fin 2) (k : Fin 3) : (srcAny (t, 1, k) c : sProp 𝕄) = bigSepL (slots k) fun j => iprop(∃ x, gL (F := F) c t k j x) :=
  byslots_l k fun j => iprop(∃ x, srcPc (F := F) (t, 1, k) c j x)
theorem src_o (c : Dev nD) (t : Fin 2) (k : Fin 3) :
    (srcPcs I (t, 0, k) c : sProp 𝕄) = bigSepL (slots k) fun j => gO (F := F) c t k j (k1_pay5 (AO I t k.val c (sn t k j.1.val))) :=
  byslots_o k fun j => srcPc (F := F) (t, 0, k) c j (val I (t, 0, k) c j.val)
theorem src_l (c : Dev nD) (t : Fin 2) (k : Fin 3) :
    (srcPcs I (t, 1, k) c : sProp 𝕄) = bigSepL (slots k) fun j => gL (F := F) c t k j (k1_pay6 (AL I t k.val c (sn t k j.1.val))) :=
  byslots_l k fun j => srcPc (F := F) (t, 1, k) c j (val I (t, 1, k) c j.val)
theorem dst_o (c : Dev nD) (t : Fin 2) (k : Fin 3) :
    (dstPcs I (t, 0, k) c : sProp 𝕄) = bigSepL (slots k) fun j => hO (F := F) c t k j (k1_pay5 (AO I t k.val (pt (t, 0, k) c) (sn t k j.1.val))) :=
  byslots_o k fun j => dstPc (F := F) (t, 0, k) c j (val I (t, 0, k) (pt (t, 0, k) c) j.val)
theorem dst_l (c : Dev nD) (t : Fin 2) (k : Fin 3) :
    (dstPcs I (t, 1, k) c : sProp 𝕄) = bigSepL (slots k) fun j => hL (F := F) c t k j (k1_pay6 (AL I t k.val (pt (t, 1, k) c) (sn t k j.1.val))) :=
  byslots_l k fun j => dstPc (F := F) (t, 1, k) c j (val I (t, 1, k) (pt (t, 1, k) c) j.val)

/-- Rounding a chunk into its slot. -/
theorem wp_fill (c : Dev nD) (t : Fin 2) (k : Fin 3) (j : { j : Fin 4 // j.val < nn 0 k }) (X : Fin 8 → Vec F (Sh 256 512) .f32)
    (Y : Fin 8 → Vec F (Sh 256 4) .f32) (kk : PUnit → PG F α) {Q : α → sProp 𝕄} :
    iprop(((∃ x, gO (F := F) c t k j x) ∗ ∃ x, gL (F := F) c t k j x) ∗ (accs c t X ∗ sums c t Y))
      ⊢ iprop((((gO c t k j (k1_pay5 (X (sn t k j.1.val))) ∗ gL c t k j (k1_pay6 (Y (sn t k j.1.val))))
          ∗ (accs c t X ∗ sums c t Y)) -∗ WP c (kk ⟨⟩) Q) -∗ WP c (fill c t k j.1 j.2 >>= kk) Q) := by
  unfold fill gO gL
  simp only [bind_assoc]
  iintro ⟨⟨⟨%x, Hx⟩, ⟨%y, Hy⟩⟩, HX, HY⟩ Hk
  ihave HX := (accs_turn c t X (sn t k j.1.val)) $$ HX
  icases HX with ⟨Ha, HX⟩
  iapply (wp_ld c accO _ 256 512 _ _ _ _) $$ Ha
  iintro Ha
  iapply (wp_ld c (srcM t 0) ![256 * (ss 0 k + j.1.val), 0] 256 512 (fits_ss 0 k ⟨j.1.val, j.2⟩) h_S256x512 x _) $$ Hx
  iintro Hx
  iapply (wp_st c (srcM t 0) ![256 * (ss 0 k + j.1.val), 0] 256 512 (fits_ss 0 k ⟨j.1.val, j.2⟩) _ x _ _) $$ Hx
  iintro Hx
  ihave HX := HX $$ %(X (sn t k j.1.val)) Ha
  rw [Function.update_eq_self]
  ihave HY := (sums_turn c t Y (sn t k j.1.val)) $$ HY
  icases HY with ⟨Ha, HY⟩
  iapply (wp_ld c accL _ 256 4 _ _ _ _) $$ Ha
  iintro Ha
  iapply (wp_ld c (srcM t 1) ![256 * (ss 1 k + j.1.val), 0] 256 4 (fits_ss 1 k ⟨j.1.val, j.2⟩) h_S256x4 y _) $$ Hy
  iintro Hy
  iapply (wp_st c (srcM t 1) ![256 * (ss 1 k + j.1.val), 0] 256 4 (fits_ss 1 k ⟨j.1.val, j.2⟩) _ y _ _) $$ Hy
  iintro Hy
  ihave HY := HY $$ %(Y (sn t k j.1.val)) Ha
  rw [Function.update_eq_self]
  iapply Hk
  isplitl [Hx Hy]
  · isplitl [Hx] <;> iassumption
  isplitl [HX] <;> iassumption

/-- Adding a chunk received. -/
theorem wp_accum (c : Dev nD) (t : Fin 2) (k : Fin 3) (j : { j : Fin 4 // j.val < nn 0 k }) (X : Fin 8 → Vec F (Sh 256 512) .f32)
    (Y : Fin 8 → Vec F (Sh 256 4) .f32) (r : Vec F (Sh 256 512) .bf16) (u : Vec F (Sh 256 4) .f32) (kk : PUnit → PG F α) {Q : α → sProp 𝕄} :
    iprop((hO c t k j r ∗ hL c t k j u) ∗ (accs c t X ∗ sums c t Y))
      ⊢ iprop((((hO c t k j r ∗ hL c t k j u)
          ∗ (accs c t (Function.update X (sp t k j.1.val) (k1_pay23 (X (sp t k j.1.val)) r))
            ∗ sums c t (Function.update Y (sp t k j.1.val) (k1_pay22 (Y (sp t k j.1.val)) u)))) -∗ WP c (kk ⟨⟩) Q)
        -∗ WP c (accum c t k j.1 j.2 >>= kk) Q) := by
  unfold accum hO hL
  simp only [bind_assoc]
  iintro ⟨⟨Hx, Hy⟩, HX, HY⟩ Hk
  ihave HY := (sums_turn c t Y (sp t k j.1.val)) $$ HY
  icases HY with ⟨Ha, HY⟩
  iapply (wp_ld c accL _ 256 4 _ _ _ _) $$ Ha
  iintro Ha
  iapply (wp_ld c (dstM t 1) ![256 * (ds 1 k + j.1.val), 0] 256 4 (fits_ds 1 k ⟨j.1.val, j.2⟩) h_S256x4 u _) $$ Hy
  iintro Hy
  iapply (wp_ld c accL _ 256 4 _ _ _ _) $$ Ha
  iintro Ha
  iapply (wp_st c accL _ 256 4 _ _ _ _ _) $$ Ha
  iintro Ha
  ihave HY := HY $$ %_ Ha
  ihave HX := (accs_turn c t X (sp t k j.1.val)) $$ HX
  icases HX with ⟨Ha, HX⟩
  iapply (wp_ld c accO _ 256 512 _ _ _ _) $$ Ha
  iintro Ha
  iapply (wp_ld c (dstM t 0) ![256 * (ds 0 k + j.1.val), 0] 256 512 (fits_ds 0 k ⟨j.1.val, j.2⟩) h_S256x512 r _) $$ Hx
  iintro Hx
  iapply (wp_ld c accO _ 256 512 _ _ _ _) $$ Ha
  iintro Ha
  iapply (wp_st c accO _ 256 512 _ _ _ _ _) $$ Ha
  iintro Ha
  ihave HX := HX $$ %_ Ha
  iapply Hk
  isplitl [Hx Hy]
  · isplitl [Hx] <;> iassumption
  isplitl [HX] <;> iassumption

/-- Filling all the slots of a stage. -/
theorem wp_fills (c : Dev nD) (t : Fin 2) (k : Fin 3) (X : Fin 8 → Vec F (Sh 256 512) .f32) (Y : Fin 8 → Vec F (Sh 256 4) .f32)
    (kk : PUnit → PG F α) {Q : α → sProp 𝕄} :
    iprop((bigSepL (slots k) fun j => iprop((∃ x, gO (F := F) c t k j x) ∗ ∃ x, gL (F := F) c t k j x)) ∗ (accs c t X ∗ sums c t Y))
      ⊢ iprop((((bigSepL (slots k) fun j => iprop(gO c t k j (k1_pay5 (X (sn t k j.1.val))) ∗ gL c t k j (k1_pay6 (Y (sn t k j.1.val)))))
          ∗ (accs c t X ∗ sums c t Y)) -∗ WP c (kk ⟨⟩) Q) -∗ WP c (run ((slots k).map fun j => fill c t k j.1 j.2) >>= kk) Q) := by
  have := wp_run (Q := Q) c (fun j => fill c t k j.1 j.2) (fun _ : Unit => iprop(accs c t X ∗ sums c t Y)) (fun _ _ => ())
    (fun j => iprop((∃ x, gO (F := F) c t k j x) ∗ ∃ x, gL (F := F) c t k j x))
    (fun j => iprop(gO c t k j (k1_pay5 (X (sn t k j.1.val))) ∗ gL c t k j (k1_pay6 (Y (sn t k j.1.val)))))
    (fun _ j k' => by
      have h := wp_fill (Q := Q) c t k j X Y k'
      exact h) (slots k) () kk
  exact this

/-- Adding all the chunks of a stage. -/
theorem wp_accums (c : Dev nD) (t : Fin 2) (k : Fin 3) (X : Fin 8 → Vec F (Sh 256 512) .f32) (Y : Fin 8 → Vec F (Sh 256 4) .f32)
    (r : ℕ → Vec F (Sh 256 512) .bf16) (u : ℕ → Vec F (Sh 256 4) .f32) (kk : PUnit → PG F α) {Q : α → sProp 𝕄} :
    iprop((bigSepL (slots k) fun j => iprop(hO c t k j (r j.1.val) ∗ hL c t k j (u j.1.val))) ∗ (accs c t X ∗ sums c t Y))
      ⊢ iprop((((bigSepL (slots k) fun j => iprop(hO c t k j (r j.1.val) ∗ hL c t k j (u j.1.val)))
          ∗ (accs c t (addO t k X r (slots k)) ∗ sums c t (addL t k Y u (slots k)))) -∗ WP c (kk ⟨⟩) Q)
        -∗ WP c (run ((slots k).map fun j => accum c t k j.1 j.2) >>= kk) Q) := by
  have e : ∀ (l : List { j : Fin 4 // j.val < nn 0 k }) (X : Fin 8 → Vec F (Sh 256 512) .f32) (Y : Fin 8 → Vec F (Sh 256 4) .f32),
      l.foldl (fun (s : (Fin 8 → Vec F (Sh 256 512) .f32) × (Fin 8 → Vec F (Sh 256 4) .f32)) j =>
        (Function.update s.1 (sp t k j.1.val) (k1_pay23 (s.1 (sp t k j.1.val)) (r j.1.val)),
          Function.update s.2 (sp t k j.1.val) (k1_pay22 (s.2 (sp t k j.1.val)) (u j.1.val)))) (X, Y)
      = (addO t k X r l, addL t k Y u l) := by
    intro l
    induction l with
    | nil => intro X Y; rfl
    | cons j l ih => intro X Y; exact ih _ _
  have := wp_run (Q := Q) c (fun j => accum c t k j.1 j.2)
    (fun s : (Fin 8 → Vec F (Sh 256 512) .f32) × (Fin 8 → Vec F (Sh 256 4) .f32) => iprop(accs c t s.1 ∗ sums c t s.2))
    (fun s j => (Function.update s.1 (sp t k j.1.val) (k1_pay23 (s.1 (sp t k j.1.val)) (r j.1.val)),
      Function.update s.2 (sp t k j.1.val) (k1_pay22 (s.2 (sp t k j.1.val)) (u j.1.val))))
    (fun j => iprop(hO c t k j (r j.1.val) ∗ hL c t k j (u j.1.val))) (fun j => iprop(hO c t k j (r j.1.val) ∗ hL c t k j (u j.1.val)))
    (fun s j k' => by
      have h := wp_accum (Q := Q) c t k j s.1 s.2 (r j.1.val) (u j.1.val) k'
      exact h) (slots k) (X, Y) kk
  rw [e] at this
  exact this

/-- A tree's accumulators before stage `k`. -/
def Acc (c : Dev nD) (t : Fin 2) (k : ℕ) : sProp 𝕄 := iprop(accs c t (AO I t k c) ∗ sums c t (AL I t k c))

variable {I}

/-- What a tree gives at a stage. -/
theorem wp_give (K : GSem nD τ sig → ℕ) (c : Dev nD) (t : Fin 2) (k : Fin 3) (l : List Tr) (kk : PUnit → PG F α) {Q : α → sProp 𝕄} :
    iprop(Rec I K ∗ (Ready c (t, 0, k) ∗ Land (t, 0, k) c ∗ srcAny (t, 0, k) c) ∗ (Ready c (t, 1, k) ∗ Land (t, 1, k) c ∗ srcAny (t, 1, k) c)
        ∗ Acc I c t k.val ∗ Ow c ((t, 0, k) :: (t, 1, k) :: l))
      ⊢ iprop(((Sent c (t, 0, k) ∗ Sent c (t, 1, k) ∗ Acc I c t k.val ∗ Ow c l) -∗ WP c (kk ⟨⟩) Q) -∗ WP c (give c t k >>= kk) Q) := by
  unfold give Acc
  simp only [bind_assoc]
  iintro ⟨#HR, ⟨Hr0, Hl0, Hs0⟩, ⟨Hr1, Hl1, Hs1⟩, HA, HO⟩ Hk
  ihave Hs0 := (Entails.of_eq (any_o c t k)) $$ Hs0
  ihave Hs1 := (Entails.of_eq (any_l c t k)) $$ Hs1
  iapply (wp_fills c t k (AO I t k.val c) (AL I t k.val c) _) $$ [Hs0 Hs1 HA]
  · rw [bigSepL_sep]
    isplitr [HA]
    · isplitl [Hs0] <;> iassumption
    iexact HA
  rw [bigSepL_sep, ← src_o, ← src_l]
  iintro ⟨⟨Hs0, Hs1⟩, HA⟩
  iapply (wp_sendTr (I := I) K c (t, 0, k) ((t, 1, k) :: l) _) $$ [Hr0 Hl0 Hs0 HO]
  · isplitr; · iexact HR
    isplitl [Hr0]; · iexact Hr0
    isplitl [Hl0]; · iexact Hl0
    isplitl [Hs0]; · iexact Hs0
    iexact HO
  iintro ⟨Hr0, HO⟩
  iapply (wp_sendTr (I := I) K c (t, 1, k) l _) $$ [Hr1 Hl1 Hs1 HO]
  · isplitr; · iexact HR
    isplitl [Hr1]; · iexact Hr1
    isplitl [Hl1]; · iexact Hl1
    isplitl [Hs1]; · iexact Hs1
    iexact HO
  iintro ⟨Hr1, HO⟩
  iapply Hk
  isplitl [Hr0]; · iexact Hr0
  isplitl [Hr1]; · iexact Hr1
  isplitl [HA]; · iexact HA
  iexact HO

/-- A transfer done with, its boxes back. -/
def Back (I : Ins F) (c : Dev nD) (i : Tr) : sProp 𝕄 := iprop(Gone c i ∗ Came c i ∗ srcPcs I i c ∗ dstPcs I i c)

/-- The two waits on a transfer. -/
theorem wp_wait2 (K : GSem nD τ sig → ℕ) (c : Dev nD) (i : Tr) (l : List Tr) (hl : ∀ i' ∈ l, rl i < rl i') (kk : PUnit → PG F α) {Q : α → sProp 𝕄} :
    iprop(Rec I K ∗ Sent c i ∗ Ow c l)
      ⊢ iprop(((Back I c i ∗ Ow c l) -∗ WP c (kk ⟨⟩) Q) -∗ WP c (waitS i >>= fun _ => waitR i >>= kk) Q) := by
  unfold Sent Back
  iintro ⟨#HR, ⟨HaS, HaR, HcS, HcR⟩, HO⟩ Hk
  iapply (wp_waitS (I := I) K c i l (fun i' hi' => Nat.zero_lt_of_lt (hl i' hi')) _) $$ [HaS HcS HO]
  · isplitr; · iexact HR
    isplitl [HaS]; · iexact HaS
    isplitl [HcS] <;> iassumption
  iintro ⟨HaS, Hs, HO⟩
  iapply (wp_waitR (I := I) K c i l hl _) $$ [HaR HcR HO]
  · isplitr; · iexact HR
    isplitl [HaR]; · iexact HaR
    isplitl [HcR] <;> iassumption
  iintro ⟨HaR, Hd, HO⟩
  iapply Hk
  isplitr [HO]
  · isplitl [HaS]; · iexact HaS
    isplitl [HaR]; · iexact HaR
    isplitl [Hs] <;> iassumption
  iexact HO

/-- What a tree takes at a stage. -/
theorem wp_take (K : GSem nD τ sig → ℕ) (c : Dev nD) (t : Fin 2) (k : Fin 3) (l : List Tr) (hl : ∀ i ∈ l, 2 + k.val < rl i) (kk : PUnit → PG F α)
    {Q : α → sProp 𝕄} :
    iprop(Rec I K ∗ Sent c (t, 0, k) ∗ Sent c (t, 1, k) ∗ Acc I c t k.val ∗ Ow c l)
      ⊢ iprop(((Back I c (t, 0, k) ∗ Back I c (t, 1, k) ∗ Acc I c t (k.val + 1) ∗ Ow c l) -∗ WP c (kk ⟨⟩) Q) -∗ WP c (take c t k >>= kk) Q) := by
  unfold take Acc
  simp only [bind_assoc]
  iintro ⟨#HR, Hr0, Hr1, HA, HO⟩ Hk
  iapply (wp_wait2 (I := I) K c (t, 0, k) l hl _) $$ [Hr0 HO]
  · isplitr; · iexact HR
    isplitl [Hr0] <;> iassumption
  iintro ⟨Hb0, HO⟩
  iapply (wp_wait2 (I := I) K c (t, 1, k) l hl _) $$ [Hr1 HO]
  · isplitr; · iexact HR
    isplitl [Hr1] <;> iassumption
  iintro ⟨Hb1, HO⟩
  unfold Back
  icases Hb0 with ⟨Hg0, Hc0, Hs0, Hd0⟩
  icases Hb1 with ⟨Hg1, Hc1, Hs1, Hd1⟩
  ihave Hd0 := (Entails.of_eq (dst_o I c t k)) $$ Hd0
  ihave Hd1 := (Entails.of_eq (dst_l I c t k)) $$ Hd1
  iapply (wp_accums c t k (AO I t k.val c) (AL I t k.val c) (fun j => k1_pay5 (AO I t k.val (pt (t, 0, k) c) (sn t k j)))
    (fun j => k1_pay6 (AL I t k.val (pt (t, 1, k) c) (sn t k j))) _) $$ [Hd0 Hd1 HA]
  · rw [bigSepL_sep]
    isplitr [HA]
    · isplitl [Hd0] <;> iassumption
    iexact HA
  rw [bigSepL_sep, AO_succ, AL_succ, ← dst_o, ← dst_l]
  iintro ⟨⟨Hd0, Hd1⟩, HA⟩
  iapply Hk
  isplitl [Hg0 Hc0 Hs0 Hd0]
  · isplitl [Hg0]; · iexact Hg0
    isplitl [Hc0]; · iexact Hc0
    isplitl [Hs0] <;> iassumption
  isplitl [Hg1 Hc1 Hs1 Hd1]
  · isplitl [Hg1]; · iexact Hg1
    isplitl [Hc1]; · iexact Hc1
    isplitl [Hs1] <;> iassumption
  isplitl [HA]; · iexact HA
  iexact HO

/-- A stage of the reduce-scatter. -/
theorem wp_stageRS (K : GSem nD τ sig → ℕ) (c : Dev nD) (k : Fin 3) (l : List Tr) (hl : ∀ i ∈ l, 2 + k.val < rl i) (kk : PUnit → PG F α)
    {Q : α → sProp 𝕄} :
    iprop(Rec I K ∗ (bigSepL (rsTr k) fun i => iprop(Ready c i ∗ Land i c ∗ srcAny i c)) ∗ (Acc I c 0 k.val ∗ Acc I c 1 k.val) ∗ Ow c (rsTr k ++ l))
      ⊢ iprop((((bigSepL (rsTr k) fun i => Back I c i) ∗ (Acc I c 0 (k.val + 1) ∗ Acc I c 1 (k.val + 1)) ∗ Ow c l) -∗ WP c (kk ⟨⟩) Q)
        -∗ WP c (stageRS c k >>= kk) Q) := by
  unfold stageRS rsTr
  simp only [bind_assoc, BI.bigSepL_cons', List.cons_append, List.nil_append]
  iintro ⟨#HR, ⟨H00, H01, H10, H11, -⟩, ⟨HA0, HA1⟩, HO⟩ Hk
  iapply (wp_give (I := I) K c 0 k _ _) $$ [H00 H01 HA0 HO]
  · isplitr; · iexact HR
    isplitl [H00]; · iexact H00
    isplitl [H01]; · iexact H01
    isplitl [HA0] <;> iassumption
  iintro ⟨H00, H01, HA0, HO⟩
  iapply (wp_give (I := I) K c 1 k _ _) $$ [H10 H11 HA1 HO]
  · isplitr; · iexact HR
    isplitl [H10]; · iexact H10
    isplitl [H11]; · iexact H11
    isplitl [HA1] <;> iassumption
  iintro ⟨H10, H11, HA1, HO⟩
  iapply (wp_take (I := I) K c 0 k l hl _) $$ [H00 H01 HA0 HO]
  · isplitr; · iexact HR
    isplitl [H00]; · iexact H00
    isplitl [H01]; · iexact H01
    isplitl [HA0] <;> iassumption
  iintro ⟨H00, H01, HA0, HO⟩
  iapply (wp_take (I := I) K c 1 k l hl _) $$ [H10 H11 HA1 HO]
  · isplitr; · iexact HR
    isplitl [H10]; · iexact H10
    isplitl [H11]; · iexact H11
    isplitl [HA1] <;> iassumption
  iintro ⟨H10, H11, HA1, HO⟩
  iapply Hk
  isplitl [H00 H01 H10 H11]
  · isplitl [H00]; · iexact H00
    isplitl [H01]; · iexact H01
    isplitl [H10]; · iexact H10
    isplitl [H11]; · iexact H11
    iempintro
  isplitl [HA0 HA1]
  · isplitl [HA0] <;> iassumption
  iexact HO

end Cert.KernelIdeal.Gen
-- ==== Proof.Gather.lean ====
module

public import proofs.«01_k».proof.Proof.Stages

/-! # The barrier, the normalisation and the gather

The remaining macros of the schedule: the barrier and the start before the reduce-scatter; between the two
exchanges the normalisation and the own chunk of the result; then the stages of the all-gather. -/

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic

variable {F : FTy → Type} [FloatOps F]

local notation "𝕄" => MT nD τ sig Unit (Elt F) ℕ UU ℕ

variable {α : Type}

theorem pc_congr {R C : ℕ} {e : EltTy} {c : Dev nD} {m : M2 R C e} {o o' : Fin 2 → ℕ} {R' C' : ℕ} {h : Fits R C o R' C'} {h' : Fits R C o' R' C'}
    {x x' : Vec F (Sh R' C') e} (ho : o = o') (hx : x = x') : (pc c m o R' C' h x : sProp 𝕄) = pc c m o' R' C' h' x' := by subst ho; subst hx; rfl

/-! ## The normalisation -/

/-- Reading one head of the own chunk. -/
theorem wp_readHead (c : Dev nD) (t : Fin 2) (h : Fin 4) (X : Fin 8 → Vec F (Sh 256 512) .f32) (Y : Fin 8 → Vec F (Sh 256 4) .f32)
    (ko kl : Fin 2 → ℕ) (ho : Fits 2048 1024 ko 256 128) (hl : Fits 2048 8 kl 256 1)
    (eo : ∀ a, ko a = offO t c 0 a + (![0, 128 * h.val] : Fin 2 → ℕ) a) (el : ∀ a, kl a = offL t c 0 a + (![0, h.val] : Fin 2 → ℕ) a)
    (kk : Vec F S256x128 .f32 × Vec F S256x1 .f32 → PG F α) {Q : α → sProp 𝕄} :
    iprop(accs c t X ∗ sums c t Y) ⊢ iprop(((accs c t X ∗ sums c t Y) -∗ WP c (kk (headO (X 0) h, headL (Y 0) h)) Q)
      -∗ WP c (readHead ko kl ho hl >>= kk) Q) := by
  unfold readHead
  simp only [bind_assoc, pure_bind]
  iintro ⟨HX, HY⟩ Hk
  ihave HX := (accs_turn c t X 0) $$ HX
  icases HX with ⟨Ha, HX⟩
  iapply (wp_ld_in c accO (offO t c 0) 256 512 (fits_O t c 0) (X 0) ko ![0, 128 * h.val] 256 128 ho h_S256x128 (fits_head h) eo _) $$ Ha
  iintro Ha
  ihave HX := HX $$ %(X 0) Ha
  rw [Function.update_eq_self]
  ihave HY := (sums_turn c t Y 0) $$ HY
  icases HY with ⟨Ha, HY⟩
  iapply (wp_ld_in c accL (offL t c 0) 256 4 (fits_L t c 0) (Y 0) kl ![0, h.val] 256 1 hl h_S256x1 (fits_sum h) el _) $$ Ha
  iintro Ha
  ihave HY := HY $$ %(Y 0) Ha
  rw [Function.update_eq_self]
  iapply Hk
  isplitl [HX] <;> iassumption

theorem at_o0 : ∀ (c : Dev nD) (a : Fin 2), k1_off5 c a = offO 0 c 0 a + (![0, 128 * (0 : Fin 4).val] : Fin 2 → ℕ) a := by decide +kernel
theorem at_l0 : ∀ (c : Dev nD) (a : Fin 2), k1_off6 c a = offL 0 c 0 a + (![0, (0 : Fin 4).val] : Fin 2 → ℕ) a := by decide +kernel
theorem at_o1 : ∀ (c : Dev nD) (a : Fin 2), k1_off7 c a = offO 0 c 0 a + (![0, 128 * (1 : Fin 4).val] : Fin 2 → ℕ) a := by decide +kernel
theorem at_l1 : ∀ (c : Dev nD) (a : Fin 2), k1_off8 c a = offL 0 c 0 a + (![0, (1 : Fin 4).val] : Fin 2 → ℕ) a := by decide +kernel
theorem at_o2 : ∀ (c : Dev nD) (a : Fin 2), k1_off9 c a = offO 0 c 0 a + (![0, 128 * (2 : Fin 4).val] : Fin 2 → ℕ) a := by decide +kernel
theorem at_l2 : ∀ (c : Dev nD) (a : Fin 2), k1_off10 c a = offL 0 c 0 a + (![0, (2 : Fin 4).val] : Fin 2 → ℕ) a := by decide +kernel
theorem at_o3 : ∀ (c : Dev nD) (a : Fin 2), k1_off11 c a = offO 0 c 0 a + (![0, 128 * (3 : Fin 4).val] : Fin 2 → ℕ) a := by decide +kernel
theorem at_l3 : ∀ (c : Dev nD) (a : Fin 2), k1_off12 c a = offL 0 c 0 a + (![0, (3 : Fin 4).val] : Fin 2 → ℕ) a := by decide +kernel
theorem at_o4 : ∀ (c : Dev nD) (a : Fin 2), k1_off13 c a = offO 1 c 0 a + (![0, 128 * (0 : Fin 4).val] : Fin 2 → ℕ) a := by decide +kernel
theorem at_l4 : ∀ (c : Dev nD) (a : Fin 2), k1_off14 c a = offL 1 c 0 a + (![0, (0 : Fin 4).val] : Fin 2 → ℕ) a := by decide +kernel
theorem at_o5 : ∀ (c : Dev nD) (a : Fin 2), k1_off15 c a = offO 1 c 0 a + (![0, 128 * (1 : Fin 4).val] : Fin 2 → ℕ) a := by decide +kernel
theorem at_l5 : ∀ (c : Dev nD) (a : Fin 2), k1_off16 c a = offL 1 c 0 a + (![0, (1 : Fin 4).val] : Fin 2 → ℕ) a := by decide +kernel
theorem at_o6 : ∀ (c : Dev nD) (a : Fin 2), k1_off17 c a = offO 1 c 0 a + (![0, 128 * (2 : Fin 4).val] : Fin 2 → ℕ) a := by decide +kernel
theorem at_l6 : ∀ (c : Dev nD) (a : Fin 2), k1_off18 c a = offL 1 c 0 a + (![0, (2 : Fin 4).val] : Fin 2 → ℕ) a := by decide +kernel
theorem at_o7 : ∀ (c : Dev nD) (a : Fin 2), k1_off19 c a = offO 1 c 0 a + (![0, 128 * (3 : Fin 4).val] : Fin 2 → ℕ) a := by decide +kernel
theorem at_l7 : ∀ (c : Dev nD) (a : Fin 2), k1_off20 c a = offL 1 c 0 a + (![0, (3 : Fin 4).val] : Fin 2 → ℕ) a := by decide +kernel

/-- The output projection. -/
def wPc (c : Dev nD) (w : Vec F S1024x1024 .bf16) : sProp 𝕄 :=
  pc c (Memref.whole cc1_stg2_0 : M2 1024 1024 .bf16) ![0, 0] 1024 1024 inb_S1024x1024_S1024x1024_0_0 w

variable {I : Ins F}

/-- The normalisation and the product with the output projection. -/
theorem wp_finish (c : Dev nD) (kk : FVec F S256x1024 .f32 → PG F α) {Q : α → sProp 𝕄} :
    iprop((Acc I c 0 3 ∗ Acc I c 1 3) ∗ wPc c (I.w c)) ⊢ iprop((((Acc I c 0 3 ∗ Acc I c 1 3) ∗ wPc c (I.w c)) -∗ WP c (kk (done I c)) Q)
      -∗ WP c (finish c >>= kk) Q) := by
  unfold finish Acc wPc
  simp only [bind_assoc, pure_bind]
  iintro ⟨⟨H0, H1⟩, Hw⟩ Hk
  iapply (wp_readHead c 0 0 (AO I 0 3 c) (AL I 0 3 c) _ _ _ _ (at_o0 c) (at_l0 c) _) $$ H0
  iintro H0
  iapply (wp_readHead c 0 1 (AO I 0 3 c) (AL I 0 3 c) _ _ _ _ (at_o1 c) (at_l1 c) _) $$ H0
  iintro H0
  iapply (wp_readHead c 0 2 (AO I 0 3 c) (AL I 0 3 c) _ _ _ _ (at_o2 c) (at_l2 c) _) $$ H0
  iintro H0
  iapply (wp_readHead c 0 3 (AO I 0 3 c) (AL I 0 3 c) _ _ _ _ (at_o3 c) (at_l3 c) _) $$ H0
  iintro H0
  iapply (wp_readHead c 1 0 (AO I 1 3 c) (AL I 1 3 c) _ _ _ _ (at_o4 c) (at_l4 c) _) $$ H1
  iintro H1
  iapply (wp_readHead c 1 1 (AO I 1 3 c) (AL I 1 3 c) _ _ _ _ (at_o5 c) (at_l5 c) _) $$ H1
  iintro H1
  iapply (wp_readHead c 1 2 (AO I 1 3 c) (AL I 1 3 c) _ _ _ _ (at_o6 c) (at_l6 c) _) $$ H1
  iintro H1
  iapply (wp_readHead c 1 3 (AO I 1 3 c) (AL I 1 3 c) _ _ _ _ (at_o7 c) (at_l7 c) _) $$ H1
  iintro H1
  iapply (wp_ld c _ _ 1024 1024 _ _ _ _) $$ Hw
  iintro Hw
  iapply Hk
  isplitl [H0 H1]
  · isplitl [H0] <;> iassumption
  iexact Hw

/-! ## The result -/

def ownPc (c : Dev nD) (j : Fin 4) (x : Vec F (Sh 64 1024) .f32) : sProp 𝕄 :=
  pc c outM (k1_off21 c (BitVec.ofNat 32 j.val)) 64 1024 (fits_own c j) x
def gotPc (c : Dev nD) (t : Fin 2) (x : Fin 7) (j : Fin 4) (v : Vec F (Sh 64 512) .f32) : sProp 𝕄 :=
  pc c outM (offR t c x j) 64 512 (fits_R t c x j) v

abbrev four : List (Fin 4) := [0, 1, 2, 3]

theorem wp_putOwn (c : Dev nD) (v : FVec F S256x1024 .f32) (j : Fin 4) (kk : PUnit → PG F α) {Q : α → sProp 𝕄} :
    iprop((∃ x, ownPc (F := F) c j x) ∗ emp) ⊢ iprop(((ownPc c j (ownP j v) ∗ emp) -∗ WP c (kk ⟨⟩) Q) -∗ WP c (putOwn c v j >>= kk) Q) := by
  unfold putOwn ownPc
  simp only [bind_assoc]
  iintro ⟨⟨%x, H⟩, -⟩ Hk
  iapply (wp_ld c outM _ 64 1024 _ _ _ _) $$ H
  iintro H
  iapply (wp_st c outM _ 64 1024 _ _ _ _ _) $$ H
  iintro H
  iapply Hk
  isplitl [H]; · iexact H
  iempintro

theorem wp_putGot (c : Dev nD) (t : Fin 2) (x : Fin 7) (v : FVec F S256x512 .bf16) (j : Fin 4) (kk : PUnit → PG F α) {Q : α → sProp 𝕄} :
    iprop((∃ y, gotPc (F := F) c t x j y) ∗ emp) ⊢ iprop(((gotPc c t x j (gotP j v) ∗ emp) -∗ WP c (kk ⟨⟩) Q) -∗ WP c (putGot c t x v j >>= kk) Q) := by
  unfold putGot gotPc
  simp only [bind_assoc]
  iintro ⟨⟨%y, H⟩, -⟩ Hk
  iapply (wp_ld c outM _ 64 512 _ _ _ _) $$ H
  iintro H
  iapply (wp_st c outM _ 64 512 _ _ _ _ _) $$ H
  iintro H
  iapply Hk
  isplitl [H]; · iexact H
  iempintro

/-! ## The gathered buffer -/

theorem fits_n (n : ℕ) (h : n < 8) : Fits 2048 512 ![256 * n, 0] 256 512 := by
  intro a; fin_cases a
  · show 256 * n + 256 ≤ 2048; omega
  · show 0 + 512 ≤ 512; omega

/-- A slot of the gathered buffer at a value. -/
def agPc (c : Dev nD) (t : Fin 2) (n : ℕ) (h : n < 8) (x : Vec F (Sh 256 512) .bf16) : sProp 𝕄 :=
  pc c (srcM t 2) ![256 * n, 0] 256 512 (fits_n n h) x

/-- At what it comes to hold. -/
def agS (I : Ins F) (c : Dev nD) (t : Fin 2) (n : ℕ) : sProp 𝕄 :=
  if h : n < 8 then agPc c t n h (YY I t (xr (gx t n) c)) else iprop(emp)

/-- The slots held before a stage, and those that the stage brings. -/
def held : ℕ → List ℕ
  | 0 => [0]
  | 1 => [0, 1]
  | 2 => [0, 1, 2, 3]
  | _ => [0, 1, 2, 3, 4, 5, 6, 7]
def comes : Fin 3 → List ℕ
  | 0 => [1]
  | 1 => [2, 3]
  | 2 => [4, 5, 6, 7]

theorem held_succ : ∀ k : Fin 3, held (k.val + 1) = held k.val ++ comes k := by decide
theorem held_js : ∀ k : Fin 3, (js 2 k).map (fun j => j.val) = held k.val := by decide
theorem comes_js : ∀ k : Fin 3, (js 2 k).map (fun j => ds 2 k + j.val) = comes k := by decide
theorem comes_slots : ∀ k : Fin 3, (slotsAG k).map (fun s => 1 + s.val) = comes k := by decide
theorem held_lt : ∀ (k : Fin 3) (j : Fin (nn 2 k)), j.val < 8 := by decide
theorem comes_lt : ∀ (k : Fin 3) (j : Fin (nn 2 k)), ds 2 k + j.val < 8 := by decide
theorem gx_come : ∀ (t : Fin 2) (k : Fin 3) (j : Fin (nn 2 k)) (c : Dev nD), xr (gx t j.val) (pt (t, 2, k) c) = xr (gx t (ds 2 k + j.val)) c := by
  decide +kernel
theorem gx_slot : ∀ (t : Fin 2) (s : Fin 7), gx t (1 + s.val) = (ax t s).succ := by decide

theorem src_ag (c : Dev nD) (t : Fin 2) (k : Fin 3) : (srcPcs I (t, 2, k) c : sProp 𝕄) = bigSepL (held k.val) (agS I c t) := by
  rw [← held_js, BI.bigSepL_map]
  unfold srcPcs
  refine bigSepL_cong fun j _ => ?_
  unfold agS
  rw [dif_pos (held_lt k j)]
  exact pc_congr (h' := fits_n j.val (held_lt k j)) (by
    show (![256 * (0 + j.val), 0] : Fin 2 → ℕ) = _
    rw [Nat.zero_add]) rfl

theorem dst_ag (c : Dev nD) : ∀ (t : Fin 2) (k : Fin 3), (dstPcs I (t, 2, k) c : sProp 𝕄) = bigSepL (comes k) (agS I c t) := by
  have key : ∀ (t : Fin 2) (k : Fin 3) (j : Fin (nn 2 k)), val I (t, 2, k) (pt (t, 2, k) c) j.val = YY I t (xr (gx t (ds 2 k + j.val)) c) := by
    intro t k j
    show YY I t (xr (gx t j.val) (pt (t, 2, k) c)) = _
    rw [gx_come]
  intro t k
  rw [← comes_js, BI.bigSepL_map]
  unfold dstPcs
  refine bigSepL_cong fun j _ => ?_
  unfold agS
  rw [dif_pos (comes_lt k j), show val I (t, 2, k) (pt (t, 2, k) c) j.val = _ from key t k j]
  match t with
  | 0 => rfl
  | 1 => rfl

/-- Slot 0 given its value. -/
theorem wp_seed (c : Dev nD) (t : Fin 2) (y : FVec F S256x512 .bf16) (h : 0 < 8) (kk : PUnit → PG F α) {Q : α → sProp 𝕄} :
    iprop(∃ x, agPc (F := F) c t 0 h x) ⊢ iprop((agPc c t 0 h y -∗ WP c (kk ⟨⟩) Q) -∗ WP c (seed t y >>= kk) Q) := by
  unfold seed agPc
  simp only [bind_assoc]
  iintro ⟨%x, H⟩ Hk
  iapply (wp_ld c (srcM t 2) ![256 * 0, 0] 256 512 (fits_n 0 h) h_S256x512 x _) $$ H
  iintro H
  iapply (wp_st c (srcM t 2) ![256 * 0, 0] 256 512 (fits_n 0 h) _ x _ _) $$ H
  iintro H
  iapply Hk
  iexact H

/-- The own chunk stored and put up. -/
theorem wp_keep (c : Dev nD) (kk : PUnit → PG F α) {Q : α → sProp 𝕄} :
    iprop((bigSepL four fun j => iprop(∃ x, ownPc (F := F) c j x)) ∗ (∃ x, agPc (F := F) c 0 0 (by decide) x) ∗ (∃ x, agPc (F := F) c 1 0 (by decide) x))
      ⊢ iprop((((bigSepL four fun j => ownPc c j (ownP j (done I c))) ∗ bigSepL (held 0) (agS I c 0) ∗ bigSepL (held 0) (agS I c 1)) -∗ WP c (kk ⟨⟩) Q)
        -∗ WP c (keep c (done I c) >>= kk) Q) := by
  have e : ∀ (t : Fin 2), (bigSepL (held 0) (agS I c t) : sProp 𝕄) = agPc c t 0 (by decide) (YY I t c) := by
    intro t
    have hx : xr (gx t 0) c = c := by revert t c; decide +kernel
    show bigSepL [0] (agS I c t) = _
    rw [BI.bigSepL_cons']
    refine (eq_of_equiv sep_emp).trans ?_
    unfold agS
    rw [dif_pos (by decide), hx]
  rw [e, e]
  unfold keep
  simp only [bind_assoc]
  have hr := wp_run (Q := Q) c (fun j => putOwn c (done I c) j) (fun _ : Unit => iprop(emp)) (fun _ _ => ())
    (fun j => iprop(∃ x, ownPc (F := F) c j x)) (fun j => ownPc c j (ownP j (done I c)))
    (fun _ j k' => by
      have h := wp_putOwn (Q := Q) c (done I c) j k'
      exact h) four ()
  iintro ⟨Ho, H0, H1⟩ Hk
  iapply (hr _) $$ [Ho]
  · isplitl [Ho]; · iexact Ho
    iempintro
  iintro ⟨Ho, -⟩
  iapply (wp_seed c 0 (k1_pay73 (done I c)) (Nat.zero_lt_succ 7) _) $$ H0
  iintro H0
  iapply (wp_seed c 1 (k1_pay74 (done I c)) (Nat.zero_lt_succ 7) _) $$ H1
  iintro H1
  iapply Hk
  isplitl [Ho]; · iexact Ho
  isplitl [H0]; · iexact H0
  iexact H1

/-- The blocks of a gathered chunk, holding anything and at their values. -/
def chunkAny (c : Dev nD) (t : Fin 2) (s : Fin 7) : sProp 𝕄 := bigSepL four fun j => iprop(∃ x, gotPc (F := F) c t (ax t s) j x)
def chunkAt (I : Ins F) (c : Dev nD) (t : Fin 2) (s : Fin 7) : sProp 𝕄 :=
  bigSepL four fun j => gotPc c t (ax t s) j (gotP j (YY I t (xr ((ax t s).succ) c)))

theorem wp_unpack (c : Dev nD) (t : Fin 2) (s : Fin 7) (kk : PUnit → PG F α) {Q : α → sProp 𝕄} :
    iprop((agS I c t (1 + s.val) ∗ chunkAny c t s) ∗ emp)
      ⊢ iprop((((agS I c t (1 + s.val) ∗ chunkAt I c t s) ∗ emp) -∗ WP c (kk ⟨⟩) Q) -∗ WP c (unpack c t s >>= kk) Q) := by
  have hs : 1 + s.val < 8 := by omega
  have e : agS I c t (1 + s.val) = agPc c t (1 + s.val) hs (YY I t (xr ((ax t s).succ) c)) := by
    unfold agS
    rw [dif_pos hs, gx_slot]
  rw [e]
  unfold unpack agPc chunkAny chunkAt
  simp only [bind_assoc]
  have hr := fun v => wp_run (Q := Q) c (fun j => putGot c t (ax t s) v j) (fun _ : Unit => iprop(emp)) (fun _ _ => ())
    (fun j => iprop(∃ x, gotPc (F := F) c t (ax t s) j x)) (fun j => gotPc c t (ax t s) j (gotP j v))
    (fun _ j k' => by
      have h := wp_putGot (Q := Q) c t (ax t s) v j k'
      exact h) four ()
  iintro ⟨⟨H, Ho⟩, -⟩ Hk
  iapply (wp_ld c (srcM t 2) ![256 * (1 + s.val), 0] 256 512 (fits_n (1 + s.val) hs) h_S256x512 (YY I t (xr ((ax t s).succ) c)) _) $$ H
  iintro H
  iapply (hr _ _) $$ [Ho]
  · isplitl [Ho]; · iexact Ho
    iempintro
  iintro ⟨Ho, -⟩
  iapply Hk
  isplitl
  · isplitl [H] <;> iassumption
  iempintro

/-- A transfer of the gather done with. -/
def Over (c : Dev nD) (i : Tr) : sProp 𝕄 := iprop(Gone (F := F) c i ∗ Came c i)

theorem wp_takeAG (K : GSem nD τ sig → ℕ) (c : Dev nD) (t : Fin 2) (k : Fin 3) (l : List Tr) (hl : ∀ i ∈ l, 5 + k.val < rl i) (kk : PUnit → PG F α)
    {Q : α → sProp 𝕄} :
    iprop(Rec I K ∗ Sent c (t, 2, k) ∗ (bigSepL (slotsAG k) (chunkAny c t)) ∗ Ow c l)
      ⊢ iprop(((Over c (t, 2, k) ∗ bigSepL (held (k.val + 1)) (agS I c t) ∗ (bigSepL (slotsAG k) (chunkAt I c t)) ∗ Ow c l) -∗ WP c (kk ⟨⟩) Q)
        -∗ WP c (takeAG c t k >>= kk) Q) := by
  have hr := wp_run (Q := Q) c (fun s => unpack c t s) (fun _ : Unit => iprop(emp)) (fun _ _ => ())
    (fun s => iprop(agS I c t (1 + s.val) ∗ chunkAny c t s)) (fun s => iprop(agS I c t (1 + s.val) ∗ chunkAt I c t s))
    (fun _ s k' => by
      have h := wp_unpack (I := I) (Q := Q) c t s k'
      exact h) (slotsAG k) ()
  rw [bigSepL_sep, bigSepL_sep] at hr
  have ec : (bigSepL (slotsAG k) fun s => (agS I c t (1 + s.val) : sProp 𝕄)) = bigSepL (comes k) (agS I c t) := by
    rw [← comes_slots, BI.bigSepL_map]
  rw [ec, ← dst_ag] at hr
  unfold takeAG Over
  simp only [bind_assoc]
  iintro ⟨#HR, Hs, Ho, HO⟩ Hk
  iapply (wp_wait2 (I := I) K c (t, 2, k) l hl _) $$ [Hs HO]
  · isplitr; · iexact HR
    isplitl [Hs] <;> iassumption
  iintro ⟨Hb, HO⟩
  unfold Back
  icases Hb with ⟨Hg, Hc, Hs, Hd⟩
  iapply (hr _) $$ [Hd Ho]
  · isplitl
    · isplitl [Hd] <;> iassumption
    iempintro
  iintro ⟨⟨Hd, Ho⟩, -⟩
  iapply Hk
  isplitl [Hg Hc]
  · isplitl [Hg] <;> iassumption
  isplitl [Hs Hd]
  · rw [held_succ, BI.bigSepL_append, ← src_ag, ← dst_ag]
    isplitl [Hs] <;> iassumption
  isplitl [Ho] <;> iassumption

/-- A stage of the all-gather. -/
theorem wp_stageAG (K : GSem nD τ sig → ℕ) (c : Dev nD) (k : Fin 3) (l : List Tr) (hl : ∀ i ∈ l, 5 + k.val < rl i) (kk : PUnit → PG F α)
    {Q : α → sProp 𝕄} :
    iprop(Rec I K ∗ (bigSepL (agTr k) fun i => iprop(Ready c i ∗ Land i c)) ∗ (bigSepL (held k.val) (agS I c 0) ∗ bigSepL (held k.val) (agS I c 1))
        ∗ (bigSepL (slotsAG k) (chunkAny c 0) ∗ bigSepL (slotsAG k) (chunkAny c 1)) ∗ Ow c (agTr k ++ l))
      ⊢ iprop((((bigSepL (agTr k) fun i => Over c i) ∗ (bigSepL (held (k.val + 1)) (agS I c 0) ∗ bigSepL (held (k.val + 1)) (agS I c 1))
          ∗ (bigSepL (slotsAG k) (chunkAt I c 0) ∗ bigSepL (slotsAG k) (chunkAt I c 1)) ∗ Ow c l) -∗ WP c (kk ⟨⟩) Q)
        -∗ WP c (stageAG c k >>= kk) Q) := by
  unfold stageAG agTr
  rw [← src_ag, ← src_ag]
  simp only [bind_assoc, BI.bigSepL_cons', List.cons_append, List.nil_append]
  iintro ⟨#HR, ⟨⟨Hr0, Hl0⟩, ⟨Hr1, Hl1⟩, -⟩, ⟨Hs0, Hs1⟩, ⟨Ho0, Ho1⟩, HO⟩ Hk
  iapply (wp_sendTr (I := I) K c (0, 2, k) ((1, 2, k) :: l) _) $$ [Hr0 Hl0 Hs0 HO]
  · isplitr; · iexact HR
    isplitl [Hr0]; · iexact Hr0
    isplitl [Hl0]; · iexact Hl0
    isplitl [Hs0]; · iexact Hs0
    iexact HO
  iintro ⟨Hr0, HO⟩
  iapply (wp_sendTr (I := I) K c (1, 2, k) l _) $$ [Hr1 Hl1 Hs1 HO]
  · isplitr; · iexact HR
    isplitl [Hr1]; · iexact Hr1
    isplitl [Hl1]; · iexact Hl1
    isplitl [Hs1]; · iexact Hs1
    iexact HO
  iintro ⟨Hr1, HO⟩
  iapply (wp_takeAG (I := I) K c 0 k l hl _) $$ [Hr0 Ho0 HO]
  · isplitr; · iexact HR
    isplitl [Hr0]; · iexact Hr0
    isplitl [Ho0] <;> iassumption
  iintro ⟨Hr0, Hs0, Ho0, HO⟩
  iapply (wp_takeAG (I := I) K c 1 k l hl _) $$ [Hr1 Ho1 HO]
  · isplitr; · iexact HR
    isplitl [Hr1]; · iexact Hr1
    isplitl [Ho1] <;> iassumption
  iintro ⟨Hr1, Hs1, Ho1, HO⟩
  iapply Hk
  isplitl [Hr0 Hr1]
  · isplitl [Hr0]; · iexact Hr0
    isplitl [Hr1]; · iexact Hr1
    iempintro
  isplitl [Hs0 Hs1]
  · isplitl [Hs0] <;> iassumption
  isplitl [Ho0 Ho1]
  · isplitl [Ho0] <;> iassumption
  iexact HO

/-! ## The barrier -/

/-- What is handed to a partner. -/
abbrev Offer (c : Dev nD) (i : Tr) : sProp 𝕄 := iprop(dstAny (F := F) i c ∗ reached ER (rcvCell c i) 0)

abbrev three : List (Fin 3) := [0, 1, 2]

theorem order_levels : ∀ i ∈ order, 1 < rl i := by decide

theorem rest_barC (c : Dev nD) :
    (bigSep ((Rd I).duties (barCell c) 0 \ ∅) fun d => (Rd I).payload (barCell c) 0 d) = bigSepL three fun m => barPay c m := rest_bar I c

theorem wp_barrier (K : GSem nD τ sig → ℕ) (c : Dev nD) (kk : PUnit → PG F α) {Q : α → sProp 𝕄} :
    iprop(Rec I K ∗ (bigSepL three fun m => iprop(dutyTok ER (barCell (pr m c)) 0 m ∗ bigSepL (across m) (Offer c)))
        ∗ atPos ER (barCell c) 0 ∅ 0 ∗ cred (tallyAt (barCell c) () 3) ∗ ∃ W, owes (c : Thread nD τ) (O₀ c) W)
      ⊢ iprop(((atPos ER (barCell c) (0 + 1) ∅ 0 ∗ (bigSepL three fun m => bigSepL (across m) fun i => Land i c) ∗ Ow c order) -∗ WP c (kk ⟨⟩) Q)
        -∗ WP c (barrier c >>= kk) Q) := by
  unfold barrier O₀
  simp only [bind_assoc, BI.bigSepL_cons']
  iintro ⟨#HR, ⟨⟨Ht0, Hp0⟩, ⟨Ht1, Hp1⟩, ⟨Ht2, Hp2⟩, -⟩, Ha, Hc, ⟨%W, HO⟩⟩ Hk
  iapply (wp_sig (I := I) K c 0 _ W _) $$ [Ht0 Hp0 HO]
  · isplitr; · iexact HR
    isplitl [Ht0]; · iexact Ht0
    isplitl [Hp0] <;> iassumption
  iintro HO
  iapply (wp_sig (I := I) K c 1 _ W _) $$ [Ht1 Hp1 HO]
  · isplitr; · iexact HR
    isplitl [Ht1]; · iexact Ht1
    isplitl [Hp1] <;> iassumption
  iintro HO
  iapply (wp_sig (I := I) K c 2 _ W _) $$ [Ht2 Hp2 HO]
  · isplitr; · iexact HR
    isplitl [Ht2]; · iexact Ht2
    isplitl [Hp2] <;> iassumption
  iintro HO
  iapply (Rounds.wp_wait_rest_token Variants.none ER (Rd I) (c : Thread nD τ) none (κ := K (barCell c))
      (wpE_semWait_eq Variants.none (c : Thread nD τ) none Set.univ) (Set.mem_univ _) () (O := owe c order) (W := W) (R := 0) (m := 0) (T := ∅)
      ((Nat.zero_add 3).trans (expect_bar I c).symm)) $$ [Hc HO Ha]
  · isplitr; · iapply (inv_at I K c none); iexact HR
    isplitl [Hc]; · iexact Hc
    isplitl [HO]; · iexact HO
    isplitr; · iapply (mayWait c none 1 order (Nat.le_refl 1) order_levels); iapply (lev_at I K); iexact HR
    iexact Ha
  iintro ⟨HO, Ha, -, Hp⟩
  ihave Hp := (Entails.of_eq (rest_barC (I := I) c)) $$ Hp
  iapply Hk
  isplitl [Ha]; · iexact Ha
  isplitl [Hp]
  · unfold barPay three
    simp only [BI.bigSepL_cons']
    iexact Hp
  unfold Ow
  iexists _; iexact HO

end Cert.KernelIdeal.Gen
-- ==== Proof.Cut.lean ====
/-
  The buffers of the combine region cut into the pieces that the protocol and the computation own, and joined again afterwards.
-/
module

public import proofs.«01_k».proof.Proof.Gather

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic

variable {F : FTy → Type} [FloatOps F]

local notation "𝕄" => MT nD τ sig Unit (Elt F) ℕ UU ℕ

/-! ## Whole buffers -/

/-- A whole buffer of device `c` at contents `f`. -/
abbrev full {R C : ℕ} {e : EltTy} (c : Dev nD) (m : M2 R C e) (f : Buf (Elt F) (m.view.loc (c : Thread nD τ))) : sProp 𝕄 :=
  m.view.loc (c : Thread nD τ) ↦[Finset.univ]{fullShare} f

/-- At contents not chosen. -/
def fullAny {R C : ℕ} {e : EltTy} (c : Dev nD) (m : M2 R C e) : sProp 𝕄 := iprop(∃ f, full c m f)

theorem set_all {R C : ℕ} {e : EltTy} (m : M2 R C e) (hm : m.IsWhole) (h : Fits R C ![0, 0] R C) :
    (m.access (bx ![0, 0] R C h)).set = Finset.univ := by
  have e1 : (bx ![0, 0] R C h).set = Finset.univ := by
    refine Finset.eq_univ_iff_forall.mpr fun i => Rect.mem_set_unit.mpr fun a => ?_
    have := (i a).isLt
    fin_cases a
    · exact ⟨Nat.zero_le _, by show _ < 0 + R; rw [Nat.zero_add]; exact this⟩
    · exact ⟨Nat.zero_le _, by show _ < 0 + C; rw [Nat.zero_add]; exact this⟩
  rw [View.set_slice, e1]
  exact hm.set_eq_univ

theorem ptw_full {R C : ℕ} {e : EltTy} (c : Dev nD) (m : M2 R C e) (hm : m.IsWhole) (h : Fits R C ![0, 0] R C)
    (f : Buf (Elt F) (m.view.loc (c : Thread nD τ))) : (ptw c m ![0, 0] R C h f : sProp 𝕄) = full c m f := by
  unfold ptw; rw [set_all m hm h]

/-! ## Buffers of slots -/

/-- Slot `n` of 256 rows, holding anything. -/
def slotAny {R C : ℕ} {e : EltTy} (c : Dev nD) (m : M2 R C e) (n : ℕ) : sProp 𝕄 :=
  if h : Fits R C ![256 * n, 0] 256 C then iprop(∃ x : Vec F (Sh 256 C) e, pc c m ![256 * n, 0] 256 C h x) else iprop(emp)

/-- What is left of a buffer beside `N` slots. -/
def slotRest {R C : ℕ} {e : EltTy} (c : Dev nD) (m : M2 R C e) (N : ℕ) (h : ∀ j : Fin N, Fits R C ![256 * j.val, 0] 256 C) : sProp 𝕄 :=
  iprop(∃ f : Buf (Elt F) (m.view.loc (c : Thread nD τ)), m.view.loc (c : Thread nD τ) ↦[Finset.univ \ boxes m (fun j : Fin N => ![256 * j.val, 0]) 256 C h]{fullShare} f)

theorem slots_apart (C N : ℕ) : ∀ j j' : Fin N, j ≠ j' → Apart ![256 * j.val, 0] 256 C ![256 * j'.val, 0] 256 C := by
  intro j j' ne
  have : j.val ≠ j'.val := fun e => ne (Fin.ext e)
  show 256 * j.val + 256 ≤ 256 * j'.val ∨ 256 * j'.val + 256 ≤ 256 * j.val ∨ _
  omega

theorem slotAny_list {R C : ℕ} {e : EltTy} (c : Dev nD) (m : M2 R C e) (N : ℕ) (h : ∀ j : Fin N, Fits R C ![256 * j.val, 0] 256 C) :
    (bigSepL ((List.finRange N).map Fin.val) (slotAny (F := F) c m) : sProp 𝕄)
      = bigSep Finset.univ fun j : Fin N => iprop(∃ x : Vec F (Sh 256 C) e, pc c m ![256 * j.val, 0] 256 C (h j) x) := by
  rw [BI.bigSepL_map, univ_list]
  refine bigSepL_cong fun j _ => ?_
  unfold slotAny
  rw [dif_pos (h j)]

theorem cut_slots {R C : ℕ} {e : EltTy} (c : Dev nD) (m : M2 R C e) (N : ℕ) (h : ∀ j : Fin N, Fits R C ![256 * j.val, 0] 256 C) :
    (fullAny c m : sProp 𝕄) ⊢ iprop(bigSepL ((List.finRange N).map Fin.val) (slotAny (F := F) c m) ∗ slotRest c m N h) := by
  rw [slotAny_list c m N h]
  unfold fullAny slotRest
  iintro ⟨%f, H⟩
  ihave H := (carve c m (fun j : Fin N => ![256 * j.val, 0]) 256 C h (slots_apart C N) (Finset.subset_univ _) f) $$ H
  icases H with ⟨H, Hr⟩
  isplitl [H]
  · have hm : (bigSep Finset.univ (fun j : Fin N => pc c m ![256 * j.val, 0] 256 C (h j) ((m.access (bx ![256 * j.val, 0] 256 C (h j))).read (Elt F) f)) : sProp 𝕄)
        ⊢ bigSep Finset.univ fun j : Fin N => iprop(∃ x : Vec F (Sh 256 C) e, pc c m ![256 * j.val, 0] 256 C (h j) x) := by
      exact BI.bigSep_mono fun j _ => pc_any c m _ 256 C (h j) _
    iapply hm; iexact H
  iexists f; iexact Hr

theorem join_slots {R C : ℕ} {e : EltTy} (c : Dev nD) (m : M2 R C e) (N : ℕ) (h : ∀ j : Fin N, Fits R C ![256 * j.val, 0] 256 C) :
    iprop(bigSepL ((List.finRange N).map Fin.val) (slotAny (F := F) c m) ∗ slotRest c m N h) ⊢ (fullAny c m : sProp 𝕄) := by
  rw [slotAny_list c m N h]
  unfold fullAny slotRest
  have hx := BI.bigSep_exists_pi (M := 𝕄) (Y := fun _ : Fin N => Vec F (Sh 256 C) e) Finset.univ
    (fun (j : Fin N) x => pc c m ![256 * j.val, 0] 256 C (h j) x)
  iintro ⟨H, ⟨%f, Hr⟩⟩
  ihave H := hx $$ H
  icases H with ⟨%x, H⟩
  ihave H := (gather c m (fun j : Fin N => ![256 * j.val, 0]) 256 C h (slots_apart C N) (Finset.subset_univ _) x f) $$ [H Hr]
  · isplitl [H] <;> iassumption
  icases H with ⟨%g, -, H⟩
  iexists g; iexact H

/-- The slots of a transfer. -/
theorem src_slots (i : Tr) (c : Dev nD) :
    (srcAny i c : sProp 𝕄) = bigSepL ((js i.2.1 i.2.2).map fun j => ss i.2.1 i.2.2 + j.val) (slotAny (F := F) c (srcM i.1 i.2.1)) := by
  rw [BI.bigSepL_map]
  unfold srcAny
  refine bigSepL_cong fun j _ => ?_
  unfold slotAny
  rw [dif_pos (fits_ss i.2.1 i.2.2 j)]
  rfl
theorem dst_slots (i : Tr) (c : Dev nD) :
    (dstAny i c : sProp 𝕄) = bigSepL ((js i.2.1 i.2.2).map fun j => ds i.2.1 i.2.2 + j.val) (slotAny (F := F) c (dstM i.1 i.2.1)) := by
  rw [BI.bigSepL_map]
  unfold dstAny
  refine bigSepL_cong fun j _ => ?_
  unfold slotAny
  rw [dif_pos (fits_ds i.2.1 i.2.2 j)]
  rfl

theorem srcPcs_any (I : Ins F) (i : Tr) (c : Dev nD) : (srcPcs I i c : sProp 𝕄) ⊢ srcAny i c := by
  unfold srcPcs srcAny
  refine BI.bigSepL_mono fun j _ => ?_
  iintro H; iexists _; iexact H
theorem dstPcs_any (I : Ins F) (i : Tr) (c : Dev nD) : (dstPcs I i c : sProp 𝕄) ⊢ dstAny i c := by
  unfold dstPcs dstAny
  refine BI.bigSepL_mono fun j _ => ?_
  iintro H; iexists _; iexact H

theorem agS_any (I : Ins F) (c : Dev nD) (t : Fin 2) (n : ℕ) (h : n < 8) : (agS I c t n : sProp 𝕄) ⊢ slotAny (F := F) c (srcM t 2) n := by
  have hf : Fits (RR 2) (CC 2) ![256 * n, 0] 256 (CC 2) := fits_n n h
  unfold agS slotAny agPc
  rw [dif_pos h, dif_pos hf]
  exact pc_any c (srcM t 2) _ 256 (CC 2) hf _

theorem fits_7o : ∀ j : Fin 7, Fits 1792 512 ![256 * j.val, 0] 256 512 := by decide
theorem fits_7l : ∀ j : Fin 7, Fits 1792 4 ![256 * j.val, 0] 256 4 := by decide
theorem fits_7 : ∀ (b : Fin 2) (j : Fin 7), Fits (RR b.castSucc) (CC b.castSucc) ![256 * j.val, 0] 256 (CC b.castSucc) := by decide
theorem fits_8 : ∀ j : Fin 8, Fits 2048 512 ![256 * j.val, 0] 256 512 := fun j => fits_n j.val j.isLt

/-! ## The accumulators -/

theorem apart_O : ∀ (c : Dev nD) (x y : Fin 2 × Fin 8), x ≠ y → Apart (offO x.1 c x.2) 256 512 (offO y.1 c y.2) 256 512 := by decide +kernel
theorem apart_L : ∀ (c : Dev nD) (x y : Fin 2 × Fin 8), x ≠ y → Apart (offL x.1 c x.2) 256 4 (offL y.1 c y.2) 256 4 := by decide +kernel

abbrev famO (c : Dev nD) : Fin 2 × Fin 8 → Fin 2 → ℕ := fun x => offO x.1 c x.2
abbrev famL (c : Dev nD) : Fin 2 × Fin 8 → Fin 2 → ℕ := fun x => offL x.1 c x.2
theorem fits_famO (c : Dev nD) (x : Fin 2 × Fin 8) : Fits 2048 1024 (famO c x) 256 512 := fits_O x.1 c x.2
theorem fits_famL (c : Dev nD) (x : Fin 2 × Fin 8) : Fits 2048 8 (famL c x) 256 4 := fits_L x.1 c x.2

/-- What is left of the accumulators beside their chunks. -/
def accRest (c : Dev nD) : sProp 𝕄 :=
  iprop((∃ f : Buf (Elt F) (accO.view.loc (c : Thread nD τ)), accO.view.loc (c : Thread nD τ) ↦[Finset.univ \ boxes accO (famO c) 256 512 (fits_famO c)]{fullShare} f)
    ∗ ∃ f : Buf (Elt F) (accL.view.loc (c : Thread nD τ)), accL.view.loc (c : Thread nD τ) ↦[Finset.univ \ boxes accL (famL c) 256 4 (fits_famL c)]{fullShare} f)

theorem accs_two (c : Dev nD) (X : Fin 2 → Fin 8 → Vec F (Sh 256 512) .f32) :
    (bigSep Finset.univ (fun x : Fin 2 × Fin 8 => pc c accO (famO c x) 256 512 (fits_famO c x) (X x.1 x.2)) : sProp 𝕄)
      = iprop(accs c 0 (X 0) ∗ accs c 1 (X 1)) := by
  rw [BI.bigSep_univ_prod, BI.bigSep_fin_two]; rfl
theorem sums_two (c : Dev nD) (X : Fin 2 → Fin 8 → Vec F (Sh 256 4) .f32) :
    (bigSep Finset.univ (fun x : Fin 2 × Fin 8 => pc c accL (famL c x) 256 4 (fits_famL c x) (X x.1 x.2)) : sProp 𝕄)
      = iprop(sums c 0 (X 0) ∗ sums c 1 (X 1)) := by
  rw [BI.bigSep_univ_prod, BI.bigSep_fin_two]; rfl

theorem zero_add2 (o : Fin 2 → ℕ) : ∀ a, o a = (![0, 0] : Fin 2 → ℕ) a + o a := by
  intro a; fin_cases a
  · exact (Nat.zero_add _).symm
  · exact (Nat.zero_add _).symm

theorem cut_acc (c : Dev nD) (v : Vec F (Sh 2048 1024) .f32) (w : Vec F (Sh 2048 8) .f32) :
    iprop(pc c accO ![0, 0] 2048 1024 inb_S2048x1024_S2048x1024_0_0 v ∗ pc c accL ![0, 0] 2048 8 inb_S2048x8_S2048x8_0_0 w)
      ⊢ (iprop(((accs c 0 (fun s y => v ((bx (offO 0 c s) 256 512 (fits_O 0 c s)).emb y)) ∗ sums c 0 (fun s y => w ((bx (offL 0 c s) 256 4 (fits_L 0 c s)).emb y)))
          ∗ (accs c 1 (fun s y => v ((bx (offO 1 c s) 256 512 (fits_O 1 c s)).emb y)) ∗ sums c 1 (fun s y => w ((bx (offL 1 c s) 256 4 (fits_L 1 c s)).emb y))))
        ∗ accRest c) : sProp 𝕄) := by
  have ho := carve (F := F) c accO (famO c) 256 512 (fits_famO c) (apart_O c) (Finset.subset_univ _)
    ((accO.access (bx ![0, 0] 2048 1024 inb_S2048x1024_S2048x1024_0_0)).rep v)
  have hl := carve (F := F) c accL (famL c) 256 4 (fits_famL c) (apart_L c) (Finset.subset_univ _)
    ((accL.access (bx ![0, 0] 2048 8 inb_S2048x8_S2048x8_0_0)).rep w)
  obtain ⟨X, hX⟩ : ∃ X : Fin 2 → Fin 8 → Vec F (Sh 256 512) .f32, X = fun t s y => v ((bx (offO t c s) 256 512 (fits_O t c s)).emb y) := ⟨_, rfl⟩
  obtain ⟨Y, hY⟩ : ∃ Y : Fin 2 → Fin 8 → Vec F (Sh 256 4) .f32, Y = fun t s y => w ((bx (offL t c s) 256 4 (fits_L t c s)).emb y) := ⟨_, rfl⟩
  have eo : ∀ x : Fin 2 × Fin 8, (accO.access (bx (famO c x) 256 512 (fits_famO c x))).read (Elt F)
      ((accO.access (bx ![0, 0] 2048 1024 inb_S2048x1024_S2048x1024_0_0)).rep v) = X x.1 x.2 := by
    intro x
    rw [read_in accO ![0, 0] 2048 1024 inb_S2048x1024_S2048x1024_0_0 (famO c x) (famO c x) 256 512 (fits_famO c x) (fits_famO c x) (zero_add2 _), View.read_rep, hX]
  have el : ∀ x : Fin 2 × Fin 8, (accL.access (bx (famL c x) 256 4 (fits_famL c x))).read (Elt F)
      ((accL.access (bx ![0, 0] 2048 8 inb_S2048x8_S2048x8_0_0)).rep w) = Y x.1 x.2 := by
    intro x
    rw [read_in accL ![0, 0] 2048 8 inb_S2048x8_S2048x8_0_0 (famL c x) (famL c x) 256 4 (fits_famL c x) (fits_famL c x) (zero_add2 _), View.read_rep, hY]
  simp only [eo] at ho
  simp only [el] at hl
  rw [accs_two c X] at ho
  rw [sums_two c Y] at hl
  have e0 : ∀ t, (accs c t (fun s y => v ((bx (offO t c s) 256 512 (fits_O t c s)).emb y)) : sProp 𝕄) = accs c t (X t) := fun t => by rw [hX]; rfl
  have e1 : ∀ t, (sums c t (fun s y => w ((bx (offL t c s) 256 4 (fits_L t c s)).emb y)) : sProp 𝕄) = sums c t (Y t) := fun t => by rw [hY]; rfl
  rw [e0, e1, e0, e1]
  unfold pc accRest
  rw [ptw_full c accO (Memref.isWhole_whole _), ptw_full c accL (Memref.isWhole_whole _)]
  iintro ⟨Ho, Hl⟩
  ihave Ho := ho $$ Ho
  ihave Hl := hl $$ Hl
  icases Ho with ⟨⟨Ho0, Ho1⟩, Hro⟩
  icases Hl with ⟨⟨Hl0, Hl1⟩, Hrl⟩
  isplitr [Hro Hrl]
  · isplitl [Ho0 Hl0]
    · isplitl [Ho0] <;> iassumption
    isplitl [Ho1] <;> iassumption
  isplitl [Hro]
  · iexists _; iexact Hro
  iexists _; iexact Hrl

theorem join_acc (c : Dev nD) (X : Fin 2 → Fin 8 → Vec F (Sh 256 512) .f32) (Y : Fin 2 → Fin 8 → Vec F (Sh 256 4) .f32) :
    iprop(((accs c 0 (X 0) ∗ sums c 0 (Y 0)) ∗ (accs c 1 (X 1) ∗ sums c 1 (Y 1))) ∗ accRest c)
      ⊢ (iprop(fullAny c accO ∗ fullAny c accL) : sProp 𝕄) := by
  unfold accRest fullAny
  iintro ⟨⟨⟨Ho0, Hl0⟩, ⟨Ho1, Hl1⟩⟩, ⟨%f, Hro⟩, ⟨%g, Hrl⟩⟩
  isplitl [Ho0 Ho1 Hro]
  · ihave H := (gather c accO (famO c) 256 512 (fits_famO c) (apart_O c) (Finset.subset_univ _) (fun x => X x.1 x.2) f) $$ [Ho0 Ho1 Hro]
    · isplitr [Hro]
      · iapply (Entails.of_eq (accs_two c X).symm)
        isplitl [Ho0] <;> iassumption
      iexact Hro
    icases H with ⟨%g', -, H⟩
    iexists g'; iexact H
  ihave H := (gather c accL (famL c) 256 4 (fits_famL c) (apart_L c) (Finset.subset_univ _) (fun x => Y x.1 x.2) g) $$ [Hl0 Hl1 Hrl]
  · isplitr [Hrl]
    · iapply (Entails.of_eq (sums_two c Y).symm)
      isplitl [Hl0] <;> iassumption
    iexact Hrl
  icases H with ⟨%g', -, H⟩
  iexists g'; iexact H

/-! ## The result -/

abbrev famOwn (c : Dev nD) : Fin 4 → Fin 2 → ℕ := fun j => k1_off21 c (BitVec.ofNat 32 j.val)
abbrev famGot (c : Dev nD) : Fin 2 × Fin 7 × Fin 4 → Fin 2 → ℕ := fun x => offR x.1 c (ax x.1 x.2.1) x.2.2
theorem fits_famGot (c : Dev nD) (x : Fin 2 × Fin 7 × Fin 4) : Fits 2048 1024 (famGot c x) 64 512 := fits_R x.1 c (ax x.1 x.2.1) x.2.2

theorem apart_own : ∀ (c : Dev nD) (x y : Fin 4), x ≠ y → Apart (famOwn c x) 64 1024 (famOwn c y) 64 1024 := by decide +kernel
theorem apart_got : ∀ (c : Dev nD) (x y : Fin 2 × Fin 7 × Fin 4), x ≠ y → Apart (famGot c x) 64 512 (famGot c y) 64 512 := by decide +kernel
theorem apart_out : ∀ (c : Dev nD) (x : Fin 2 × Fin 7 × Fin 4) (y : Fin 4), Apart (famGot c x) 64 512 (famOwn c y) 64 1024 := by decide +kernel

abbrev ownB (c : Dev nD) : Finset outM.view.ty.Idx := boxes outM (famOwn c) 64 1024 (fits_own c)
abbrev gotB (c : Dev nD) : Finset outM.view.ty.Idx := boxes outM (famGot c) 64 512 (fits_famGot c)

theorem out_disjoint (c : Dev nD) : Disjoint (gotB c) (ownB c) := by
  refine Finset.disjoint_biUnion_left _ _ _ |>.mpr fun x _ => Finset.disjoint_biUnion_right _ _ _ |>.mpr fun y _ => ?_
  exact disjoint_bx outM _ _ _ _ _ _ _ _ (apart_out c x y)

theorem got_sub (c : Dev nD) : gotB c ⊆ Finset.univ \ ownB c := fun i hi =>
  Finset.mem_sdiff.mpr ⟨Finset.mem_univ _, Finset.disjoint_left.mp (out_disjoint c) hi⟩

abbrev sevens : List (Fin 7) := slotsAG 0 ++ (slotsAG 1 ++ slotsAG 2)

theorem by_four (Φ : Fin 4 → sProp 𝕄) : bigSep Finset.univ Φ = bigSepL four Φ :=
  BI.bigSep_univ_eq_bigSepL four (by decide) (by decide) Φ
theorem by_seven (Φ : Fin 7 → sProp 𝕄) : bigSep Finset.univ Φ = bigSepL sevens Φ :=
  BI.bigSep_univ_eq_bigSepL sevens (by decide) (by decide) Φ

theorem got_lists (Φ : Fin 2 → Fin 7 → Fin 4 → sProp 𝕄) :
    bigSep Finset.univ (fun x : Fin 2 × Fin 7 × Fin 4 => Φ x.1 x.2.1 x.2.2)
      = iprop((bigSepL sevens fun s => bigSepL four (Φ 0 s)) ∗ bigSepL sevens fun s => bigSepL four (Φ 1 s)) := by
  rw [BI.bigSep_univ_prod, BI.bigSep_fin_two, BI.bigSep_univ_prod, BI.bigSep_univ_prod, by_seven, by_seven]
  simp only [by_four]
  rfl

/-- What is left of the result beside the blocks. -/
def outRest (c : Dev nD) : sProp 𝕄 :=
  iprop(∃ f : Buf (Elt F) (outM.view.loc (c : Thread nD τ)), outM.view.loc (c : Thread nD τ) ↦[(Finset.univ \ ownB c) \ gotB c]{fullShare} f)

theorem cut_out (c : Dev nD) :
    (fullAny c outM : sProp 𝕄) ⊢ iprop((bigSepL four fun j => iprop(∃ x, ownPc (F := F) c j x)) ∗ (bigSepL sevens (chunkAny c 0) ∗ bigSepL sevens (chunkAny c 1)) ∗ outRest c) := by
  unfold fullAny outRest
  iintro ⟨%f, H⟩
  ihave H := (carve c outM (famOwn c) 64 1024 (fits_own c) (apart_own c) (Finset.subset_univ _) f) $$ H
  icases H with ⟨Ho, H⟩
  ihave H := (carve c outM (famGot c) 64 512 (fits_famGot c) (apart_got c) (got_sub c) f) $$ H
  icases H with ⟨Hg, Hr⟩
  isplitl [Ho]
  · have h : (bigSep Finset.univ (fun j => pc c outM (famOwn c j) 64 1024 (fits_own c j) ((outM.access (bx (famOwn c j) 64 1024 (fits_own c j))).read (Elt F) f)) : sProp 𝕄)
        ⊢ bigSep Finset.univ (fun j => iprop(∃ x, ownPc (F := F) c j x)) := BI.bigSep_mono fun j _ => pc_any c outM _ 64 1024 (fits_own c j) _
    rw [by_four fun j => iprop(∃ x, ownPc (F := F) c j x)] at h
    iapply h; iexact Ho
  isplitl [Hg]
  · have h : (bigSep Finset.univ (fun x => pc c outM (famGot c x) 64 512 (fits_famGot c x) ((outM.access (bx (famGot c x) 64 512 (fits_famGot c x))).read (Elt F) f)) : sProp 𝕄)
        ⊢ bigSep Finset.univ (fun x : Fin 2 × Fin 7 × Fin 4 => iprop(∃ y, gotPc (F := F) c x.1 (ax x.1 x.2.1) x.2.2 y)) :=
      BI.bigSep_mono fun x _ => pc_any c outM _ 64 512 (fits_famGot c x) _
    rw [got_lists fun t s j => iprop(∃ y, gotPc (F := F) c t (ax t s) j y)] at h
    iapply h; iexact Hg
  iexists f; iexact Hr

/-- A contents of the result with every block at its value. -/
def IsOut (I : Ins F) (c : Dev nD) (g : outM.view.ty.Contents (Elt F)) : Prop :=
  (∀ j, (outM.access (bx (famOwn c j) 64 1024 (fits_own c j))).read (Elt F) g = ownP j (done I c))
    ∧ ∀ x, (outM.access (bx (famGot c x) 64 512 (fits_famGot c x))).read (Elt F) g = gotP x.2.2 (YY I x.1 (xr ((ax x.1 x.2.1).succ) c))

theorem join_out (I : Ins F) (c : Dev nD) :
    iprop((bigSepL four fun j => ownPc c j (ownP j (done I c))) ∗ (bigSepL sevens (chunkAt I c 0) ∗ bigSepL sevens (chunkAt I c 1)) ∗ outRest c)
      ⊢ (iprop(∃ g, ⌜IsOut I c g⌝ ∗ full c outM g) : sProp 𝕄) := by
  unfold outRest chunkAt
  iintro ⟨Ho, Hg, ⟨%f, Hr⟩⟩
  ihave Hg := (Entails.of_eq (got_lists fun t s j => gotPc c t (ax t s) j (gotP j (YY I t (xr ((ax t s).succ) c)))).symm) $$ Hg
  ihave Hg := (gather c outM (famGot c) 64 512 (fits_famGot c) (apart_got c) (got_sub c)
    (fun x => gotP x.2.2 (YY I x.1 (xr ((ax x.1 x.2.1).succ) c))) f) $$ [Hg Hr]
  · isplitl [Hg]; · iexact Hg
    iexact Hr
  icases Hg with ⟨%g, %hg, Hr⟩
  ihave Ho := (Entails.of_eq (by_four fun j => ownPc c j (ownP j (done I c))).symm) $$ Ho
  ihave Ho := (gather c outM (famOwn c) 64 1024 (fits_own c) (apart_own c) (Finset.subset_univ _) (fun j => ownP j (done I c)) g) $$ [Ho Hr]
  · isplitl [Ho]; · iexact Ho
    iexact Hr
  icases Ho with ⟨%g', %hg', H⟩
  iexists g'
  isplitr
  · ipureintro
    refine ⟨hg'.1, fun x => ?_⟩
    rw [← hg.1 x]
    funext y
    rw [View.read_apply, View.read_apply, hg'.2]
    intro hm
    exact Finset.disjoint_left.mp (out_disjoint c) (Finset.mem_biUnion.mpr ⟨x, Finset.mem_univ _, View.emb_mem_set _ y⟩) hm
  iexact H

end Cert.KernelIdeal.Gen
-- ==== Proof.Exch.lean ====
/-
  The exchange buffers of the combine region: from whole buffers to the slots of the transfers and back.
-/
module

public import proofs.«01_k».proof.Proof.Cut

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic

variable {F : FTy → Type} [FloatOps F]

local notation "𝕄" => MT nD τ sig Unit (Elt F) ℕ UU ℕ

/-! ## The transfers, grouped by buffer -/

abbrev ks : List (Fin 3) := [0, 1, 2]
abbrev trees : List (Fin 2) := [0, 1]
abbrev tq : List (Fin 2 × Fin 2) := [(0, 0), (0, 1), (1, 0), (1, 1)]
def rsAll : List Tr := rsTr 0 ++ (rsTr 1 ++ rsTr 2)
def agAll : List Tr := agTr 0 ++ (agTr 1 ++ agTr 2)

theorem order_eq : order = rsAll ++ agAll := by decide
theorem rs_perm : rsAll.Perm (tq.flatMap fun x => ks.map fun k => (x.1, x.2.castSucc, k)) := by decide
theorem ag_perm : agAll.Perm (trees.flatMap fun t => ks.map fun k => (t, 2, k)) := by decide
theorem across_perm : order.Perm (three.flatMap across) := by decide

theorem bigSepL_flatMap {T S : Type} (l : List T) (f : T → List S) (Φ : S → sProp 𝕄) :
    bigSepL (l.flatMap f) Φ = bigSepL l fun a => bigSepL (f a) Φ := by
  induction l with
  | nil => rfl
  | cons a l ih => rw [List.flatMap_cons, BI.bigSepL_append, BI.bigSepL_cons', ih]

theorem rs_eq (Φ : Tr → sProp 𝕄) : bigSepL rsAll Φ = bigSepL tq fun x => bigSepL ks fun k => Φ (x.1, x.2.castSucc, k) := by
  rw [bigSepL_perm rs_perm, bigSepL_flatMap]
  exact bigSepL_cong fun x _ => BI.bigSepL_map _ _ _
theorem ag_eq (Φ : Tr → sProp 𝕄) : bigSepL agAll Φ = bigSepL trees fun t => bigSepL ks fun k => Φ (t, 2, k) := by
  rw [bigSepL_perm ag_perm, bigSepL_flatMap]
  exact bigSepL_cong fun x _ => BI.bigSepL_map _ _ _
theorem across_eq (Φ : Tr → sProp 𝕄) : bigSepL order Φ = bigSepL three fun m => bigSepL (across m) Φ := by
  rw [bigSepL_perm across_perm, bigSepL_flatMap]

/-! ## One buffer -/

theorem src_ks : ∀ q : Fin 2, (List.finRange 7).map Fin.val = ks.flatMap fun k => (js q.castSucc k).map fun j => ss q.castSucc k + j.val := by decide
theorem dst_ks : ∀ q : Fin 2, (List.finRange 7).map Fin.val = ks.flatMap fun k => (js q.castSucc k).map fun j => ds q.castSucc k + j.val := by decide
theorem ag_ks : (List.finRange 8).map Fin.val = 0 :: ks.flatMap fun k => (js 2 k).map fun j => ds 2 k + j.val := by decide

theorem src_buf (c : Dev nD) (t q : Fin 2) :
    (bigSepL ((List.finRange 7).map Fin.val) (slotAny (F := F) c (srcM t q.castSucc)) : sProp 𝕄) = bigSepL ks fun k => srcAny (t, q.castSucc, k) c := by
  rw [src_ks q, bigSepL_flatMap]
  exact bigSepL_cong fun k _ => (src_slots (t, q.castSucc, k) c).symm
theorem dst_buf (c : Dev nD) (t q : Fin 2) :
    (bigSepL ((List.finRange 7).map Fin.val) (slotAny (F := F) c (dstM t q.castSucc)) : sProp 𝕄) = bigSepL ks fun k => dstAny (t, q.castSucc, k) c := by
  rw [dst_ks q, bigSepL_flatMap]
  exact bigSepL_cong fun k _ => (dst_slots (t, q.castSucc, k) c).symm

theorem dst_two : ∀ t, dstM t 2 = srcM t 2
  | 0 => rfl
  | 1 => rfl

theorem ag_buf (c : Dev nD) (t : Fin 2) :
    (bigSepL ((List.finRange 8).map Fin.val) (slotAny (F := F) c (srcM t 2)) : sProp 𝕄)
      = iprop(slotAny (F := F) c (srcM t 2) 0 ∗ bigSepL ks fun k => dstAny (t, 2, k) c) := by
  rw [ag_ks, BI.bigSepL_cons', bigSepL_flatMap, ← dst_two t]
  exact congrArg _ (bigSepL_cong fun k _ => (dst_slots (t, 2, k) c).symm)

theorem fits_ag8 : ∀ j : Fin 8, Fits (RR 2) (CC 2) ![256 * j.val, 0] 256 (CC 2) := fits_8

/-! ## All of them -/

/-- The exchange buffers, holding anything. -/
def Xb (c : Dev nD) : sProp 𝕄 :=
  iprop((bigSepL tq fun x => iprop(fullAny (F := F) c (srcM x.1 x.2.castSucc) ∗ fullAny (F := F) c (dstM x.1 x.2.castSucc)))
    ∗ bigSepL trees fun t => fullAny (F := F) c (srcM t 2))

/-- What is left of them beside the slots. -/
def Xrest (c : Dev nD) : sProp 𝕄 :=
  iprop((bigSepL tq fun x => iprop(slotRest (F := F) c (srcM x.1 x.2.castSucc) 7 (fits_7 x.2) ∗ slotRest (F := F) c (dstM x.1 x.2.castSucc) 7 (fits_7 x.2)))
    ∗ bigSepL trees fun t => slotRest (F := F) c (srcM t 2) 8 fits_ag8)

theorem cut_exch (c : Dev nD) :
    (Xb c : sProp 𝕄) ⊢ iprop((bigSepL rsAll fun i => srcAny (F := F) i c) ∗ (bigSepL order fun i => dstAny (F := F) i c)
      ∗ (bigSepL trees fun t => slotAny (F := F) c (srcM t 2) 0) ∗ Xrest c) := by
  have h1 : ∀ x ∈ tq, (iprop(fullAny (F := F) c (srcM x.1 x.2.castSucc) ∗ fullAny (F := F) c (dstM x.1 x.2.castSucc)) : sProp 𝕄)
      ⊢ iprop(((bigSepL ks fun k => srcAny (F := F) (x.1, x.2.castSucc, k) c) ∗ bigSepL ks fun k => dstAny (F := F) (x.1, x.2.castSucc, k) c)
        ∗ (slotRest (F := F) c (srcM x.1 x.2.castSucc) 7 (fits_7 x.2) ∗ slotRest (F := F) c (dstM x.1 x.2.castSucc) 7 (fits_7 x.2))) := by
    intro x _
    have hs := cut_slots (F := F) c (srcM x.1 x.2.castSucc) 7 (fits_7 x.2)
    have hd := cut_slots (F := F) c (dstM x.1 x.2.castSucc) 7 (fits_7 x.2)
    rw [src_buf] at hs
    rw [dst_buf] at hd
    iintro ⟨Hs, Hd⟩
    ihave Hs := hs $$ Hs
    ihave Hd := hd $$ Hd
    icases Hs with ⟨Hs, Hs'⟩
    icases Hd with ⟨Hd, Hd'⟩
    isplitl [Hs Hd]
    · isplitl [Hs] <;> iassumption
    isplitl [Hs'] <;> iassumption
  have h2 : ∀ t ∈ trees, (fullAny (F := F) c (srcM t 2) : sProp 𝕄)
      ⊢ iprop((slotAny (F := F) c (srcM t 2) 0 ∗ bigSepL ks fun k => dstAny (F := F) (t, 2, k) c) ∗ slotRest (F := F) c (srcM t 2) 8 fits_ag8) := by
    intro t _
    have h := cut_slots (F := F) c (srcM t 2) 8 fits_ag8
    rw [show (bigSepL ((List.finRange 8).map Fin.val) (slotAny (F := F) c (srcM t 2)) : sProp 𝕄) = _ from ag_buf c t] at h
    exact h
  have k1 := BI.bigSepL_mono h1
  have k2 := BI.bigSepL_mono h2
  simp only [bigSepL_sep] at k1 k2
  unfold Xb Xrest
  rw [order_eq, BI.bigSepL_append, rs_eq, rs_eq, ag_eq]
  simp only [bigSepL_sep]
  iintro ⟨Hr, Ha⟩
  ihave Hr := k1 $$ Hr
  ihave Ha := k2 $$ Ha
  icases Hr with ⟨⟨Hs, Hd⟩, Hr⟩
  icases Ha with ⟨⟨H0, He⟩, Ha⟩
  isplitl [Hs]; · iexact Hs
  isplitl [Hd He]
  · isplitl [Hd] <;> iassumption
  isplitl [H0]; · iexact H0
  isplitl [Hr] <;> iassumption

theorem join_exch (c : Dev nD) :
    iprop((bigSepL rsAll fun i => srcAny (F := F) i c) ∗ (bigSepL rsAll fun i => dstAny (F := F) i c)
      ∗ (bigSepL trees fun t => bigSepL ((List.finRange 8).map Fin.val) (slotAny (F := F) c (srcM t 2))) ∗ Xrest c) ⊢ (Xb c : sProp 𝕄) := by
  have h1 : ∀ x ∈ tq, (iprop(((bigSepL ks fun k => srcAny (F := F) (x.1, x.2.castSucc, k) c) ∗ bigSepL ks fun k => dstAny (F := F) (x.1, x.2.castSucc, k) c)
        ∗ (slotRest (F := F) c (srcM x.1 x.2.castSucc) 7 (fits_7 x.2) ∗ slotRest (F := F) c (dstM x.1 x.2.castSucc) 7 (fits_7 x.2))) : sProp 𝕄)
      ⊢ iprop(fullAny (F := F) c (srcM x.1 x.2.castSucc) ∗ fullAny (F := F) c (dstM x.1 x.2.castSucc)) := by
    intro x _
    have hs := join_slots (F := F) c (srcM x.1 x.2.castSucc) 7 (fits_7 x.2)
    have hd := join_slots (F := F) c (dstM x.1 x.2.castSucc) 7 (fits_7 x.2)
    rw [src_buf] at hs
    rw [dst_buf] at hd
    iintro ⟨⟨Hs, Hd⟩, ⟨Hs', Hd'⟩⟩
    isplitl [Hs Hs']
    · iapply hs
      isplitl [Hs] <;> iassumption
    iapply hd
    isplitl [Hd] <;> iassumption
  have h2 : ∀ t ∈ trees, (iprop((bigSepL ((List.finRange 8).map Fin.val) (slotAny (F := F) c (srcM t 2))) ∗ slotRest (F := F) c (srcM t 2) 8 fits_ag8) : sProp 𝕄)
      ⊢ fullAny (F := F) c (srcM t 2) := fun t _ => join_slots (F := F) c (srcM t 2) 8 fits_ag8
  have k1 := BI.bigSepL_mono h1
  have k2 := BI.bigSepL_mono h2
  simp only [bigSepL_sep] at k1 k2
  unfold Xb Xrest
  rw [rs_eq, rs_eq]
  simp only [bigSepL_sep]
  iintro ⟨Hs, Hd, Ha, ⟨Hr, Ha'⟩⟩
  isplitl [Hs Hd Hr]
  · iapply k1
    isplitl [Hs Hd]
    · isplitl [Hs] <;> iassumption
    iexact Hr
  iapply k2
  isplitl [Ha] <;> iassumption

end Cert.KernelIdeal.Gen
-- ==== Proof.Body.lean ====
/-
  The combine region's body, run from beginning to end on one device.
-/
module

public import proofs.«01_k».proof.Proof.Exch

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic

variable {F : FTy → Type} [FloatOps F]

local notation "𝕄" => MT nD τ sig Unit (Elt F) ℕ UU ℕ

variable {α : Type} {I : Ins F}

/-! ## The start -/

/-- The partial outputs and sums, as staged. -/
def oPc (c : Dev nD) (v : Vec F S2048x1024 .bf16) : sProp 𝕄 :=
  pc c (Memref.whole cc1_stg0_0 : M2 2048 1024 .bf16) ![0, 0] 2048 1024 inb_S2048x1024_S2048x1024_0_0 v
def lPc (c : Dev nD) (w : Vec F S2048x8 .f32) : sProp 𝕄 :=
  pc c (Memref.whole cc1_stg1_0 : M2 2048 8 .f32) ![0, 0] 2048 8 inb_S2048x8_S2048x8_0_0 w

theorem whole_any {R C : ℕ} {e : EltTy} (c : Dev nD) (m : M2 R C e) (hm : m.IsWhole) (h : Fits R C ![0, 0] R C) :
    (fullAny c m : sProp 𝕄) ⊢ pcAny c m ![0, 0] R C h := by
  unfold fullAny
  iintro ⟨%f, H⟩
  iapply (ptw_any c m ![0, 0] R C h f)
  rw [ptw_full c m hm h]
  iexact H

theorem wp_start (c : Dev nD) (kk : PUnit → PG F α) {Q : α → sProp 𝕄} :
    iprop(oPc c (I.o c) ∗ lPc c (I.l c) ∗ fullAny c accO ∗ fullAny c accL)
      ⊢ iprop(((oPc c (I.o c) ∗ lPc c (I.l c) ∗ (Acc I c 0 0 ∗ Acc I c 1 0) ∗ accRest c) -∗ WP c (kk ⟨⟩) Q) -∗ WP c (start >>= kk) Q) := by
  unfold start oPc lPc Acc
  simp only [bind_assoc]
  iintro ⟨Ho, Hl, HO, HL⟩ Hk
  ihave HO := (whole_any c accO (Memref.isWhole_whole _) inb_S2048x1024_S2048x1024_0_0) $$ HO
  ihave HL := (whole_any c accL (Memref.isWhole_whole _) inb_S2048x8_S2048x8_0_0) $$ HL
  unfold pcAny
  icases HO with ⟨%x, HO⟩
  icases HL with ⟨%y, HL⟩
  iapply (wp_ld c _ _ 2048 1024 _ _ _ _) $$ Ho
  iintro Ho
  iapply (wp_ld c accO _ 2048 1024 _ _ _ _) $$ HO
  iintro HO
  iapply (wp_st c accO _ 2048 1024 _ _ _ _ _) $$ HO
  iintro HO
  iapply (wp_ld c _ _ 2048 8 _ _ _ _) $$ Hl
  iintro Hl
  iapply (wp_ld c accL _ 2048 8 _ _ _ _) $$ HL
  iintro HL
  iapply (wp_st c accL _ 2048 8 _ _ _ _ _) $$ HL
  iintro HL
  ihave H := (cut_acc c (k1_pay3 (I.o c)) (k1_pay4 (I.l c))) $$ [HO HL]
  · isplitl [HO] <;> iassumption
  icases H with ⟨H, Hr⟩
  iapply Hk
  isplitl [Ho]; · iexact Ho
  isplitl [Hl]; · iexact Hl
  isplitl [H]; · iexact H
  iexact Hr

/-! ## The end -/

theorem bigSepL_fupd {T : Type} (R : sProp 𝕄) [BI.Persistent R] (Φ Ψ : T → sProp 𝕄) (h : ∀ a, iprop(R ∗ Φ a) ⊢ (|={Set.univ}=> Ψ a : sProp 𝕄)) :
    ∀ l : List T, iprop(R ∗ bigSepL l Φ) ⊢ (|={Set.univ}=> bigSepL l Ψ : sProp 𝕄)
  | [] => by
    iintro ⟨-, H⟩
    imodintro
    iexact H
  | a :: l => by
    rw [BI.bigSepL_cons', BI.bigSepL_cons']
    iintro ⟨#HR, Ha, Hl⟩
    imod (h a) $$ [Ha] with Ha
    · isplitr; · iexact HR
      iexact Ha
    imod (bigSepL_fupd R Φ Ψ h l) $$ [Hl] with Hl
    · isplitr; · iexact HR
      iexact Hl
    imodintro
    isplitl [Ha] <;> iassumption

theorem close_cell (K : GSem nD τ sig → ℕ) (c : Dev nD) (x : Ci) :
    iprop(Rec I K ∗ atPos ER (cell c x) (0 + 1) ∅ 0) ⊢ (|={Set.univ}=> semVal (cell c x) 0 : sProp 𝕄) := by
  have h := Rounds.cell_close ER (Rd I) (Set.mem_univ (K (cell c x))) id (duties_later I (cell c x))
  iintro ⟨#HR, Ha⟩
  iapply h
  isplitr; · iapply (inv_at I K c x); iexact HR
  iexact Ha

/-- The two counters of a transfer, at rest. -/
def Rest0 (c : Dev nD) (i : Tr) : sProp 𝕄 := iprop(semVal (sndCell c i) 0 ∗ semVal (rcvCell c i) 0)

theorem close_over (K : GSem nD τ sig → ℕ) (c : Dev nD) (i : Tr) :
    iprop(Rec I K ∗ Over c i) ⊢ (|={Set.univ}=> Rest0 c i : sProp 𝕄) := by
  unfold Over Rest0 Gone Came
  iintro ⟨#HR, Hs, Hr⟩
  imod (close_cell (I := I) K c (some (false, i))) $$ [Hs] with Hs
  · isplitr; · iexact HR
    iexact Hs
  imod (close_cell (I := I) K c (some (true, i))) $$ [Hr] with Hr
  · isplitr; · iexact HR
    iexact Hr
  imodintro
  isplitl [Hs]; · iexact Hs
  iexact Hr

/-! ## The whole body -/

/-- What a device enters with, beside what all may consult. -/
def Enter (I : Ins F) (c : Dev nD) : sProp 𝕄 :=
  iprop((bigSepL order (Ready (F := F) c)) ∗ (bigSepL order fun i => reached ER (rcvCell c i) 0)
    ∗ (bigSepL three fun m => dutyTok ER (barCell (pr m c)) 0 m) ∗ atPos ER (barCell c) 0 ∅ 0 ∗ cred (tallyAt (barCell c) () 3)
    ∗ (∃ W, owes (c : Thread nD τ) (O₀ c) W))

/-- The buffers of its own. -/
def Scr (c : Dev nD) : sProp 𝕄 := iprop(fullAny (F := F) c accO ∗ fullAny (F := F) c accL ∗ Xb c)

/-- The staged inputs. -/
def Stg (I : Ins F) (c : Dev nD) : sProp 𝕄 := iprop(oPc c (I.o c) ∗ lPc c (I.l c) ∗ wPc c (I.w c))

/-- What it leaves with. -/
def Leave (c : Dev nD) : sProp 𝕄 :=
  iprop(semVal (barCell c) 0 ∗ (bigSepL order (Rest0 (F := F) c)) ∗ ∃ W, owes (c : Thread nD τ) 0 W)

theorem order_six (Φ : Tr → sProp 𝕄) : bigSepL order Φ
    = iprop(bigSepL (rsTr 0) Φ ∗ bigSepL (rsTr 1) Φ ∗ bigSepL (rsTr 2) Φ ∗ bigSepL (agTr 0) Φ ∗ bigSepL (agTr 1) Φ ∗ bigSepL (agTr 2) Φ) := by
  have h : order = rsTr 0 ++ (rsTr 1 ++ (rsTr 2 ++ (agTr 0 ++ (agTr 1 ++ agTr 2)))) := by decide
  rw [h, BI.bigSepL_append, BI.bigSepL_append, BI.bigSepL_append, BI.bigSepL_append, BI.bigSepL_append]
theorem rs_three (Φ : Tr → sProp 𝕄) : bigSepL rsAll Φ = iprop(bigSepL (rsTr 0) Φ ∗ bigSepL (rsTr 1) Φ ∗ bigSepL (rsTr 2) Φ) := by
  unfold rsAll; rw [BI.bigSepL_append, BI.bigSepL_append]
theorem sevens_three (Φ : Fin 7 → sProp 𝕄) : bigSepL sevens Φ = iprop(bigSepL (slotsAG 0) Φ ∗ bigSepL (slotsAG 1) Φ ∗ bigSepL (slotsAG 2) Φ) := by
  unfold sevens; rw [BI.bigSepL_append, BI.bigSepL_append]

/-- The transfers still to start after each stage. -/
def left : ℕ → List Tr
  | 0 => order
  | 1 => rsTr 1 ++ (rsTr 2 ++ agAll)
  | 2 => rsTr 2 ++ agAll
  | 3 => agAll
  | 4 => agTr 1 ++ (agTr 2 ++ [])
  | 5 => agTr 2 ++ []
  | _ => []

theorem left_0 : order = rsTr 0 ++ left 1 := by decide
theorem left_1 : left 1 = rsTr 1 ++ left 2 := rfl
theorem left_2 : left 2 = rsTr 2 ++ left 3 := rfl
theorem left_3 : left 3 = agTr 0 ++ left 4 := by decide
theorem left_4 : left 4 = agTr 1 ++ left 5 := rfl
theorem left_5 : left 5 = agTr 2 ++ left 6 := rfl

theorem slot_zero (c : Dev nD) (t : Fin 2) (h : 0 < 8) :
    (slotAny (F := F) c (srcM t 2) 0 : sProp 𝕄) = iprop(∃ x, agPc (F := F) c t 0 h x) := by
  have hf : Fits (RR 2) (CC 2) ![256 * 0, 0] 256 (CC 2) := fits_n 0 h
  unfold slotAny
  rw [dif_pos hf]
  rfl

theorem wp_model (K : GSem nD τ sig → ℕ) (c : Dev nD) (kk : PUnit → PG F α) {Q : α → sProp 𝕄} :
    iprop(Rec I K ∗ Enter I c ∗ Stg I c ∗ Scr c ∗ fullAny c outM)
      ⊢ iprop(((Leave c ∗ Stg I c ∗ Scr c ∗ ∃ g, ⌜IsOut I c g⌝ ∗ full c outM g) -∗ WP c (kk ⟨⟩) Q) -∗ WP c (model c >>= kk) Q) := by
  unfold model Enter Stg Scr
  simp only [bind_assoc]
  iintro ⟨#HR, ⟨Hrdy, Hrch, Htk, Hat, Hcr, HO⟩, ⟨Ho, Hl, Hw⟩, ⟨HaO, HaL, HX⟩, Hout⟩ Hk
  ihave HX := (cut_exch c) $$ HX
  icases HX with ⟨Hsrc, Hdst, Hz, HXr⟩
  ihave Hout := (cut_out c) $$ Hout
  icases Hout with ⟨Hown, ⟨Hch0, Hch1⟩, Houtr⟩
  -- the barrier
  iapply (wp_barrier (I := I) K c _) $$ [Hrch Hdst Htk Hat Hcr HO]
  · isplitr; · iexact HR
    isplitl [Hrch Hdst Htk]
    · rw [bigSepL_sep]
      isplitl [Htk]; · iexact Htk
      iapply (Entails.of_eq (across_eq (F := F) (Offer c)))
      unfold Offer
      rw [bigSepL_sep]
      isplitl [Hdst] <;> iassumption
    isplitl [Hat]; · iexact Hat
    isplitl [Hcr] <;> iassumption
  iintro ⟨Hat, Hland, HO⟩
  ihave Hland := (Entails.of_eq (across_eq (F := F) (fun i => Land i c)).symm) $$ Hland
  ihave Hland := (Entails.of_eq (order_six (F := F) (fun i => Land i c))) $$ Hland
  ihave Hrdy := (Entails.of_eq (order_six (F := F) (Ready c))) $$ Hrdy
  ihave Hsrc := (Entails.of_eq (rs_three (F := F) (fun i => srcAny i c))) $$ Hsrc
  icases Hland with ⟨Hl0, Hl1, Hl2, Hl3, Hl4, Hl5⟩
  icases Hrdy with ⟨Hr0, Hr1, Hr2, Hr3, Hr4, Hr5⟩
  icases Hsrc with ⟨Hs0, Hs1, Hs2⟩
  ihave Hch0 := (Entails.of_eq (sevens_three (F := F) (chunkAny c 0))) $$ Hch0
  ihave Hch1 := (Entails.of_eq (sevens_three (F := F) (chunkAny c 1))) $$ Hch1
  icases Hch0 with ⟨Hc00, Hc01, Hc02⟩
  icases Hch1 with ⟨Hc10, Hc11, Hc12⟩
  -- the accumulators
  iapply (wp_start (I := I) c _) $$ [Ho Hl HaO HaL]
  · isplitl [Ho]; · iexact Ho
    isplitl [Hl]; · iexact Hl
    isplitl [HaO] <;> iassumption
  iintro ⟨Ho, Hl, HA, HAr⟩
  -- the reduce-scatter
  rw [left_0]
  iapply (wp_stageRS (I := I) K c 0 (left 1) (by decide) _) $$ [Hr0 Hl0 Hs0 HA HO]
  · isplitr; · iexact HR
    isplitl [Hr0 Hl0 Hs0]
    · rw [bigSepL_sep, bigSepL_sep]
      isplitl [Hr0]; · iexact Hr0
      isplitl [Hl0] <;> iassumption
    isplitl [HA]; · iexact HA
    iexact HO
  iintro ⟨Hb0, HA, HO⟩
  rw [left_1]
  iapply (wp_stageRS (I := I) K c 1 (left 2) (by decide) _) $$ [Hr1 Hl1 Hs1 HA HO]
  · isplitr; · iexact HR
    isplitl [Hr1 Hl1 Hs1]
    · rw [bigSepL_sep, bigSepL_sep]
      isplitl [Hr1]; · iexact Hr1
      isplitl [Hl1] <;> iassumption
    isplitl [HA]; · iexact HA
    iexact HO
  iintro ⟨Hb1, HA, HO⟩
  rw [left_2]
  iapply (wp_stageRS (I := I) K c 2 (left 3) (by decide) _) $$ [Hr2 Hl2 Hs2 HA HO]
  · isplitr; · iexact HR
    isplitl [Hr2 Hl2 Hs2]
    · rw [bigSepL_sep, bigSepL_sep]
      isplitl [Hr2]; · iexact Hr2
      isplitl [Hl2] <;> iassumption
    isplitl [HA]; · iexact HA
    iexact HO
  iintro ⟨Hb2, HA, HO⟩
  -- the normalisation
  iapply (wp_finish (I := I) c _) $$ [HA Hw]
  · isplitl [HA]; · iexact HA
    iexact Hw
  iintro ⟨HA, Hw⟩
  iapply (wp_keep (I := I) c _) $$ [Hown Hz]
  · isplitl [Hown]; · iexact Hown
    simp only [BI.bigSepL_cons']
    icases Hz with ⟨Hz0, Hz1, -⟩
    isplitl [Hz0]; · iapply (Entails.of_eq (slot_zero (F := F) c 0 _)); iexact Hz0
    iapply (Entails.of_eq (slot_zero (F := F) c 1 _)); iexact Hz1
  iintro ⟨Hown, Hag0, Hag1⟩
  -- the all-gather
  rw [left_3]
  iapply (wp_stageAG (I := I) K c 0 (left 4) (by decide) _) $$ [Hr3 Hl3 Hag0 Hag1 Hc00 Hc10 HO]
  · isplitr; · iexact HR
    isplitl [Hr3 Hl3]
    · rw [bigSepL_sep]
      isplitl [Hr3] <;> iassumption
    isplitl [Hag0 Hag1]
    · isplitl [Hag0]; · iexact Hag0
      iexact Hag1
    isplitl [Hc00 Hc10]
    · isplitl [Hc00] <;> iassumption
    iexact HO
  iintro ⟨Hb3, Hag, ⟨Hc00, Hc10⟩, HO⟩
  rw [left_4]
  iapply (wp_stageAG (I := I) K c 1 (left 5) (by decide) _) $$ [Hr4 Hl4 Hag Hc01 Hc11 HO]
  · isplitr; · iexact HR
    isplitl [Hr4 Hl4]
    · rw [bigSepL_sep]
      isplitl [Hr4] <;> iassumption
    isplitl [Hag]; · iexact Hag
    isplitl [Hc01 Hc11]
    · isplitl [Hc01] <;> iassumption
    iexact HO
  iintro ⟨Hb4, Hag, ⟨Hc01, Hc11⟩, HO⟩
  rw [left_5]
  iapply (wp_stageAG (I := I) K c 2 (left 6) (by decide) _) $$ [Hr5 Hl5 Hag Hc02 Hc12 HO]
  · isplitr; · iexact HR
    isplitl [Hr5 Hl5]
    · rw [bigSepL_sep]
      isplitl [Hr5] <;> iassumption
    isplitl [Hag]; · iexact Hag
    isplitl [Hc02 Hc12]
    · isplitl [Hc02] <;> iassumption
    iexact HO
  iintro ⟨Hb5, ⟨Hag0, Hag1⟩, ⟨Hc02, Hc12⟩, HO⟩
  -- the buffers
  unfold Back
  ihave Hb0 := (Entails.of_eq (show bigSepL (rsTr 0) (fun i => iprop(Gone c i ∗ Came c i ∗ srcPcs I i c ∗ dstPcs I i c)) = _ by
    rw [bigSepL_sep, bigSepL_sep, bigSepL_sep])) $$ Hb0
  ihave Hb1 := (Entails.of_eq (show bigSepL (rsTr 1) (fun i => iprop(Gone c i ∗ Came c i ∗ srcPcs I i c ∗ dstPcs I i c)) = _ by
    rw [bigSepL_sep, bigSepL_sep, bigSepL_sep])) $$ Hb1
  ihave Hb2 := (Entails.of_eq (show bigSepL (rsTr 2) (fun i => iprop(Gone c i ∗ Came c i ∗ srcPcs I i c ∗ dstPcs I i c)) = _ by
    rw [bigSepL_sep, bigSepL_sep, bigSepL_sep])) $$ Hb2
  icases Hb0 with ⟨Hg0, Hm0, Hs0, Hd0⟩
  icases Hb1 with ⟨Hg1, Hm1, Hs1, Hd1⟩
  icases Hb2 with ⟨Hg2, Hm2, Hs2, Hd2⟩
  -- the counters
  imod (close_cell (I := I) K c none) $$ [Hat] with Hat
  · isplitr; · iexact HR
    iexact Hat
  imod (bigSepL_fupd (Rec I K) (Over c) (Rest0 c) (close_over (I := I) K c) order) $$ [Hg0 Hm0 Hg1 Hm1 Hg2 Hm2 Hb3 Hb4 Hb5] with Hrest
  · isplitr; · iexact HR
    rw [order_six]
    isplitl [Hg0 Hm0]
    · unfold Over; rw [bigSepL_sep]; isplitl [Hg0] <;> iassumption
    isplitl [Hg1 Hm1]
    · unfold Over; rw [bigSepL_sep]; isplitl [Hg1] <;> iassumption
    isplitl [Hg2 Hm2]
    · unfold Over; rw [bigSepL_sep]; isplitl [Hg2] <;> iassumption
    isplitl [Hb3]; · iexact Hb3
    isplitl [Hb4]; · iexact Hb4
    iexact Hb5
  iapply Hk
  isplitl [Hat Hrest HO]
  · unfold Leave
    isplitl [Hat]; · iexact Hat
    isplitl [Hrest]; · iexact Hrest
    unfold Ow
    iexact HO
  isplitl [Ho Hl Hw]
  · isplitl [Ho]; · iexact Ho
    isplitl [Hl] <;> iassumption
  isplitl [HA HAr Hs0 Hs1 Hs2 Hd0 Hd1 Hd2 Hag0 Hag1 HXr]
  · ihave HA := (join_acc c (fun t => AO I t 3 c) (fun t => AL I t 3 c)) $$ [HA HAr]
    · isplitl [HA]; · iexact HA
      iexact HAr
    icases HA with ⟨HaO, HaL⟩
    isplitl [HaO]; · iexact HaO
    isplitl [HaL]; · iexact HaL
    iapply (join_exch c)
    isplitl [Hs0 Hs1 Hs2]
    · have hs : (bigSepL rsAll (fun i => srcPcs I i c) : sProp 𝕄) ⊢ bigSepL rsAll fun i => srcAny i c := BI.bigSepL_mono fun i _ => srcPcs_any I i c
      iapply hs
      rw [rs_three]
      isplitl [Hs0]; · iexact Hs0
      isplitl [Hs1] <;> iassumption
    isplitl [Hd0 Hd1 Hd2]
    · have hs : (bigSepL rsAll (fun i => dstPcs I i c) : sProp 𝕄) ⊢ bigSepL rsAll fun i => dstAny i c := BI.bigSepL_mono fun i _ => dstPcs_any I i c
      iapply hs
      rw [rs_three]
      isplitl [Hd0]; · iexact Hd0
      isplitl [Hd1] <;> iassumption
    isplitr [HXr]
    · have ha : ∀ t : Fin 2, (bigSepL (held 3) (agS I c t) : sProp 𝕄) ⊢ bigSepL ((List.finRange 8).map Fin.val) (slotAny (F := F) c (srcM t 2)) := by
        intro t
        rw [show (List.finRange 8).map Fin.val = held 3 by decide]
        exact BI.bigSepL_mono fun n hn => agS_any I c t n (by
          have : ∀ n ∈ held 3, n < 8 := by decide
          exact this n hn)
      simp only [trees, BI.bigSepL_cons']
      isplitl [Hag0]; · iapply (ha 0); iexact Hag0
      isplitl [Hag1]; · iapply (ha 1); iexact Hag1
      iempintro
    iexact HXr
  iapply (join_out I c)
  isplitl [Hown]; · iexact Hown
  isplitr [Houtr]
  · rw [sevens_three, sevens_three]
    isplitl [Hc00 Hc01 Hc02]
    · isplitl [Hc00]; · iexact Hc00
      isplitl [Hc01] <;> iassumption
    isplitl [Hc10]; · iexact Hc10
    isplitl [Hc11] <;> iassumption
  iexact Houtr

end Cert.KernelIdeal.Gen
-- ==== Proof.Unroll.lean ====
module

public import proofs.«01_k».proof.Proof.Model

/-! # The schedule unrolls to the printed body -/

@[expose] public section

noncomputable section

namespace Cert.KernelIdeal.Gen

open Idealize.ShloMosaic Idealize.ShloMosaic.TcCoe
open Idealize.SL Idealize.SL.Sem

variable {F : FTy → Type} [FloatOps F]

set_option maxRecDepth 65536 in
set_option maxHeartbeats 4000000 in
/-- The combine region's body is the schedule's program at the device it runs on. -/
theorem unroll : cc1__combine_body (F := F)
      (Memref.whole cc1_stg0_0) (Memref.isWhole_whole _) (Memref.whole cc1_stg1_0) (Memref.isWhole_whole _)
      (Memref.whole cc1_stg2_0) (Memref.isWhole_whole _) (Memref.whole cc1_stg3_0) (Memref.isWhole_whole _)
      (Memref.whole cc1_scratch0) (Memref.isWhole_whole _) (Memref.whole cc1_scratch1) (Memref.isWhole_whole _)
      (Memref.whole cc1_scratch2) (Memref.isWhole_whole _) (Memref.whole cc1_scratch3) (Memref.isWhole_whole _)
      (Memref.whole cc1_scratch4) (Memref.isWhole_whole _) (Memref.whole cc1_scratch5) (Memref.isWhole_whole _)
      (Memref.whole cc1_scratch6) (Memref.isWhole_whole _) (Memref.whole cc1_scratch7) (Memref.isWhole_whole _)
      (Memref.whole cc1_scratch8) (Memref.isWhole_whole _) (Memref.whole cc1_scratch9) (Memref.isWhole_whole _)
      (Memref.whole cc1_scratch10) (Memref.isWhole_whole _) (Memref.whole cc1_scratch11) (Memref.isWhole_whole _)
      cc1_scratch12 cc1_scratch13 cc1_scratch14 cc1_scratch15 cc1_scratch16 cc1_scratch17
      cc1_scratch18 cc1_scratch19 cc1_scratch20 cc1_scratch21 cc1_scratch22 cc1_scratch23
    = Prog.lift .deviceId >>= fun c => model c := by
  rfl

end Cert.KernelIdeal.Gen
-- ==== Proof.Cover.lean ====
/-
  The result of the combine region as one function: what the buffer holds when every block of it has been stored.
-/
module

public import proofs.«01_k».proof.Proof.Cut

@[expose] public section

noncomputable section

namespace Cert.KernelIdeal.Gen

open Idealize.ShloMosaic Idealize.ShloMosaic.TcCoe
open Idealize.SL
open Idealize.SL.Sem

variable {F : FTy → Type} [FloatOps F]

/-- The index at a row and a column. -/
def at2 {R C : ℕ} (a : Fin R) (b : Fin C) : (Sh R C).Idx := fun k => match k with
  | ⟨0, _⟩ => a
  | ⟨1, _⟩ => b

/-- The chunk that a block of 64 rows belongs to, and its place in the chunk. -/
def chunkOf (b : Fin 32) : Dev nD := ⟨2 * (b.val % 4) + b.val / 4 / 4, by have := b.isLt; show _ < 8; omega⟩
def placeOf (b : Fin 32) : Fin 4 := ⟨b.val / 4 % 4, Nat.mod_lt _ (by decide)⟩

/-- The block, and the row in it, of a row of the result; the half, and the column in it, of a column. -/
def blockOf (y : (Sh 2048 1024).Idx) : Fin 32 := ⟨(y 0).val / 64, by have : (y 0).val < 2048 := (y 0).isLt; omega⟩
def rowIn (y : (Sh 2048 1024).Idx) : Fin 64 := ⟨(y 0).val % 64, Nat.mod_lt _ (by decide)⟩
def halfOf (y : (Sh 2048 1024).Idx) : Fin 2 := ⟨(y 1).val / 512, by have : (y 1).val < 1024 := (y 1).isLt; omega⟩
def colIn (y : (Sh 2048 1024).Idx) : Fin 512 := ⟨(y 1).val % 512, Nat.mod_lt _ (by decide)⟩
def colOf (y : (Sh 2048 1024).Idx) : Fin 1024 := y 1

/-- What the result's buffer holds at the end. -/
def outv (I : Ins F) (c : Dev nD) : Vec F S2048x1024 .f32 := fun y =>
  if chunkOf (blockOf y) = c then ownP (placeOf (blockOf y)) (done I c) (at2 (rowIn y) (colOf y))
  else gotP (placeOf (blockOf y)) (YY I (halfOf y) (chunkOf (blockOf y))) (at2 (rowIn y) (colIn y))

theorem famOwn_at : ∀ (c : Dev nD) (b : Fin 32), chunkOf b = c → famOwn c (placeOf b) = ![64 * b.val, 0] := by decide +kernel

theorem famGot_at : ∀ (c : Dev nD) (t : Fin 2) (b : Fin 32), chunkOf b ≠ c →
    ∃ s : Fin 7, famGot c (t, s, placeOf b) = ![64 * b.val, 512 * t.val] ∧ xr ((ax t s).succ) c = chunkOf b := by decide +kernel

theorem read_out (g : outM.view.ty.Contents (Elt F)) (o : Fin 2 → ℕ) (R' C' : ℕ) (h : Fits 2048 1024 o R' C') (z : (Sh R' C').Idx)
    (y : (Sh 2048 1024).Idx) (h0 : (y 0).val = o 0 + (z 0).val) (h1 : (y 1).val = o 1 + (z 1).val) :
    (outM.access (bx o R' C' h)).read (Elt F) g z = g y := by
  rw [View.read_apply]
  have : (outM.access (bx o R' C' h)).emb z = y := by
    refine funext fun a => Fin.ext ?_
    show o a + 1 * (z a).val = (y a).val
    rw [Nat.one_mul]
    fin_cases a
    · exact h0.symm
    · exact h1.symm
  rw [this]; rfl

/-- The blocks stored are the whole buffer. -/
theorem eq_outv (I : Ins F) (c : Dev nD) (g : outM.view.ty.Contents (Elt F)) (h : IsOut I c g) : g = outv I c := by
  funext y
  have hr : (y 0).val = 64 * (blockOf y).val + (rowIn y).val := by
    show (y 0).val = 64 * ((y 0).val / 64) + (y 0).val % 64; omega
  unfold outv
  split
  · next hc =>
    rw [← h.1 (placeOf (blockOf y))]
    have e := famOwn_at c _ hc
    exact (read_out g _ _ _ _ _ y (by rw [e]; exact hr) (by rw [e]; exact (Nat.zero_add _).symm)).symm
  · next hc =>
    obtain ⟨s, e, ex⟩ := famGot_at c (halfOf y) _ hc
    have := h.2 (halfOf y, s, placeOf (blockOf y))
    rw [ex] at this
    rw [← this]
    refine (read_out g _ _ _ _ _ y (by rw [e]; exact hr) ?_).symm
    rw [e]
    show (y 1).val = 512 * ((y 1).val / 512) + (y 1).val % 512
    omega

end Cert.KernelIdeal.Gen
-- ==== Proof.Talk.lean ====
/-
  The combine region: its data and its body's obligation.
-/
module

public import proofs.«01_k».proof.Proof.Body
public import proofs.«01_k».proof.Proof.Unroll
public import proofs.«01_k».proof.Proof.Cover
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.RegionArraysS

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic
open Idealize.ShloMosaic.Pipeline (Dat BodyObligation)

variable {F : FTy → Type} [FloatOps F]

local notation "𝕄" => MT nD τ sig Unit (Elt F) ℕ UU ℕ

/-! ## The scratch buffers -/

/-- The scoped buffers that the region does not stage. -/
abbrev Rest1Buf (c : Dev nD) : sProp 𝕄 := Pipeline.scopedRest (Ix := Unit) (Name := ℕ) (U := UU) (Lvl := ℕ) (Val := Elt F) spec1 c

/-- A buffer held whole at contents not chosen. -/
abbrev some_ (c : Dev nD) (b : Ref sig .tc) : sProp 𝕄 := iprop(∃ f : Buf (Elt F) ((c : Thread nD τ).loc b), ((c : Thread nD τ).loc b) ↦{fullShare} f)

/-- The attention region's staging buffers. -/
def Other (c : Dev nD) : sProp 𝕄 :=
  iprop(some_ (F := F) c cc0_stg0_0 ∗ some_ (F := F) c cc0_stg1_0 ∗ some_ (F := F) c cc0_stg2_0 ∗ some_ (F := F) c cc0_stg3_0
    ∗ some_ (F := F) c cc0_stg4_0 ∗ some_ (F := F) c cc0_stg5_0)

/-- The exchange's buffers, tree by tree. -/
theorem Xb_eq (c : Dev nD) : (Xb c : sProp 𝕄)
    = iprop(((some_ (F := F) c cc1_scratch2 ∗ some_ (F := F) c cc1_scratch3) ∗ (some_ (F := F) c cc1_scratch4 ∗ some_ (F := F) c cc1_scratch5)
      ∗ (some_ (F := F) c cc1_scratch7 ∗ some_ (F := F) c cc1_scratch8) ∗ (some_ (F := F) c cc1_scratch9 ∗ some_ (F := F) c cc1_scratch10))
      ∗ some_ (F := F) c cc1_scratch6 ∗ some_ (F := F) c cc1_scratch11) := by
  unfold Xb
  rfl

theorem rest_split (c : Dev nD) : Rest1Buf (F := F) c ⊢ iprop(Other (F := F) c ∗ Scr c) := by
  unfold Rest1Buf
  rw [scopedRest1_eq]
  unfold Scr Other fullAny
  rw [Xb_eq]
  iintro ⟨G0, G1, G2, G3, G4, G5, S0, S1, S2, S3, S4, S5, S6, S7, S8, S9, S10, S11⟩
  isplitl [G0 G1 G2 G3 G4 G5]
  · isplitl [G0]; · iexact G0
    isplitl [G1]; · iexact G1
    isplitl [G2]; · iexact G2
    isplitl [G3]; · iexact G3
    isplitl [G4]; · iexact G4
    iexact G5
  isplitl [S0]; · iexact S0
  isplitl [S1]; · iexact S1
  isplitr [S6 S11]
  · isplitl [S2 S3]; · isplitl [S2]; · iexact S2
                       iexact S3
    isplitl [S4 S5]; · isplitl [S4]; · iexact S4
                       iexact S5
    isplitl [S7 S8]; · isplitl [S7]; · iexact S7
                       iexact S8
    isplitl [S9]; · iexact S9
    iexact S10
  isplitl [S6]; · iexact S6
  iexact S11

theorem rest_join (c : Dev nD) : iprop(Other (F := F) c ∗ Scr c) ⊢ Rest1Buf (F := F) c := by
  unfold Rest1Buf
  rw [scopedRest1_eq]
  unfold Scr Other fullAny
  rw [Xb_eq]
  iintro ⟨⟨G0, G1, G2, G3, G4, G5⟩, S0, S1, ⟨⟨S2, S3⟩, ⟨S4, S5⟩, ⟨S7, S8⟩, S9, S10⟩, S6, S11⟩
  isplitl [G0]; · iexact G0
  isplitl [G1]; · iexact G1
  isplitl [G2]; · iexact G2
  isplitl [G3]; · iexact G3
  isplitl [G4]; · iexact G4
  isplitl [G5]; · iexact G5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexact S11

/-! ## The staged operands -/

theorem read_all {R C : ℕ} {e : EltTy} (m : M2 R C e) (h : Fits R C ![0, 0] R C) (f : m.view.ty.Contents (Elt F)) :
    (m.access (bx ![0, 0] R C h)).read (Elt F) f = m.view.read (Elt F) f := by
  funext y
  rw [View.read_apply, View.read_apply]
  have : (m.access (bx ![0, 0] R C h)).emb y = m.view.emb y := by
    show m.view.emb _ = m.view.emb _
    refine congrArg _ (funext fun a => Fin.ext ?_)
    show (![0, 0] : Fin 2 → ℕ) a + 1 * (y a).val = (y a).val
    fin_cases a <;> simp
  rw [this]

/-- A whole buffer is the box that is all of it. -/
theorem full_pc {R C : ℕ} {e : EltTy} (c : Dev nD) (m : M2 R C e) (hm : m.IsWhole) (h : Fits R C ![0, 0] R C)
    (f : Buf (Elt F) (m.view.loc (c : Thread nD τ))) (x : Vec F (Sh R C) e) (hx : m.view.read (Elt F) f = x) :
    (full c m f : sProp 𝕄) = pc c m ![0, 0] R C h x := by
  rw [← ptw_full c m hm h f]
  exact ptw_of_read ((read_all m h f).trans hx)

/-! ## The body -/

theorem talkRun {I : Ins F} (K : GSem nD τ sig → ℕ) (c : Dev nD) {Q : PUnit → sProp 𝕄} :
    iprop(Rec I K ∗ Enter I c ∗ Stg I c ∗ Scr c ∗ fullAny c outM)
      ⊢ iprop(((Leave c ∗ Stg I c ∗ Scr c ∗ ∃ g, ⌜IsOut I c g⌝ ∗ full c outM g) -∗ Q ⟨⟩)
        -∗ wp frame (wpE (defs₀ (F := F)) Variants.none c none) Set.univ (bodyAt1 t1_0) Q) := by
  rw [show bodyAt1 (F := F) t1_0 = Prog.lift .deviceId >>= fun c => model c from unroll]
  show _ ⊢ iprop(_ -∗ wp frame (wpE (defs₀ (F := F)) Variants.none c none) Set.univ (.op .deviceId fun c => model c) Q)
  rw [wp_deviceId]
  have hret : Q ⟨⟩ ⊢ wp frame (wpE (defs₀ (F := F)) Variants.none c none) Set.univ (pure ⟨⟩) Q := by
    show _ ⊢ wp frame (wpE (defs₀ (F := F)) Variants.none c none) Set.univ (Prog.ret ⟨⟩) Q
    rw [wp_ret]
    iintro H; imodintro; iexact H
  iintro H Hk
  rw [show model (F := F) (c : Thread nD τ).1 = model c >>= fun x => pure x from (bind_pure _).symm]
  iapply (wp_model K c (fun x => pure x)) $$ [H]
  · iexact H
  iintro H
  iapply hret
  iapply Hk; iexact H

/-! ## The region's data -/

-- what each buffer holds when the region is entered
variable (V : Dev nD → Valuation τ sig (Elt F))

/-- The operands' blocks as they are fetched. -/
abbrev fed1_0 (c : Dev nD) : (cfg1.win 0).block.Idx → Elt F (cfg1.win 0).elt :=
  ((cfg1.win 0).blk t1_0).view.read (Elt F) (V c (Proc.devRef .tc <| Pipeline.arrRef spec1 0))
abbrev fed1_1 (c : Dev nD) : (cfg1.win 1).block.Idx → Elt F (cfg1.win 1).elt :=
  ((cfg1.win 1).blk t1_0).view.read (Elt F) (V c (Proc.devRef .tc <| Pipeline.arrRef spec1 1))
abbrev fed1_2 (c : Dev nD) : (cfg1.win 2).block.Idx → Elt F (cfg1.win 2).elt :=
  ((cfg1.win 2).blk t1_0).view.read (Elt F) (V c (Proc.devRef .tc <| Pipeline.arrRef spec1 2))

/-- What the devices bring to the exchange. -/
def ins : Ins F where
  o c := fed1_0 V c
  l c := fed1_1 V c
  w c := fed1_2 V c

/-- Everything a device needs to take part. -/
def Armed (c : Dev nD) : sProp 𝕄 :=
  iprop((bigSepL order (Ready (F := F) c)) ∗ (bigSepL order fun i => reached ER (rcvCell c i) 0)
    ∗ (bigSepL three fun m => dutyTok ER (barCell (pr m c)) 0 m) ∗ atPos ER (barCell c) 0 ∅ 0 ∗ cred (tallyAt (barCell c) () 3))

/-- Its counters at rest. -/
def Rested (c : Dev nD) : sProp 𝕄 := iprop(semVal (barCell c) 0 ∗ (bigSepL order (Rest0 (F := F) c)))

abbrev Before1 (c : Dev nD) : sProp 𝕄 := iprop((∃ K, Rec (ins V) K) ∗ Armed c ∗ Rest1Buf c ∗ ∃ r, prngReg c r)
abbrev After1 (c : Dev nD) : sProp 𝕄 := iprop(Rested c ∗ Rest1Buf c ∗ ∃ r, prngReg c r)

/-- The region owes the exchange's dues before its one point, and nothing after it. -/
def dat1 (c : Dev nD) : Dat τ (Elt F) Unit ℕ UU ℕ cfg1 c where
  A w := V c (Proc.devRef .tc (Pipeline.arrRef spec1 w))
  after w _ := match w with
    | ⟨0, _⟩ => fed1_0 V c
    | ⟨1, _⟩ => fed1_1 V c
    | ⟨2, _⟩ => fed1_2 V c
    | ⟨3, _⟩ => outv (ins V) c
  Φ t := if t.val = 0 then Before1 V c else After1 c
  q _ := fullShare
  owed t := if t.val = 0 then O₀ c else 0

theorem before1_0 (c : Dev nD) (d) : (dat1 V c).before 0 t1_0 d = fed1_0 V c := by
  unfold Dat.before; rw [if_pos (fetch1_0 _)]; rfl
theorem before1_1 (c : Dev nD) (d) : (dat1 V c).before 1 t1_0 d = fed1_1 V c := by
  unfold Dat.before; rw [if_pos (fetch1_1 _)]; rfl
theorem before1_2 (c : Dev nD) (d) : (dat1 V c).before 2 t1_0 d = fed1_2 V c := by
  unfold Dat.before; rw [if_pos (fetch1_2 _)]; rfl

theorem owed1_zero (c : Dev nD) : (dat1 V c).owed 0 = O₀ c := by
  show (if (0 : Fin (cfg1.N + 1)).val = 0 then O₀ c else 0) = O₀ c; exact if_pos rfl
theorem owed1_first (c : Dev nD) : (dat1 V c).owed t1_0.castSucc = O₀ c := by
  show (if (t1_0.castSucc : Fin (cfg1.N + 1)).val = 0 then O₀ c else 0) = O₀ c; exact if_pos rfl
theorem owed1_last (c : Dev nD) : (dat1 V c).owed (Fin.last _) = 0 := by
  show (if (Fin.last cfg1.N).val = 0 then O₀ c else 0) = 0
  rw [Fin.val_last, if_neg (by rw [show cfg1.N = 1 from N_1]; decide)]

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (W : Waits sig Unit) (hr : dat.recorded t = Set.univ) :
    (owes (c : Thread nD τ) O W : sProp 𝕄) ⊢ dat.owesAt () t := by
  unfold Dat.owesAt Pipeline.owesWithin Dat.bound
  rw [h0, hr]
  iintro H
  iexists W
  isplitr; · ipureintro; exact fun _ _ => Or.inl trivial
  iexact H

theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, H⟩
  iexists W
  iexact H

theorem stg0_pc (c : Dev nD) : (((c : Thread nD τ).loc cc1_stg0_0) ↦{fullShare} (fed1_0 V c) : sProp 𝕄) = oPc c ((ins V).o c) :=
  full_pc c (Memref.whole cc1_stg0_0 : M2 2048 1024 .bf16) (Memref.isWhole_whole _) _ _ _ rfl
theorem stg1_pc (c : Dev nD) : (((c : Thread nD τ).loc cc1_stg1_0) ↦{fullShare} (fed1_1 V c) : sProp 𝕄) = lPc c ((ins V).l c) :=
  full_pc c (Memref.whole cc1_stg1_0 : M2 2048 8 .f32) (Memref.isWhole_whole _) _ _ _ rfl
theorem stg2_pc (c : Dev nD) : (((c : Thread nD τ).loc cc1_stg2_0) ↦{fullShare} (fed1_2 V c) : sProp 𝕄) = wPc c ((ins V).w c) :=
  full_pc c (Memref.whole cc1_stg2_0 : M2 1024 1024 .bf16) (Memref.isWhole_whole _) _ _ _ rfl

theorem body1 (c : Dev nD) : BodyObligation (dat1 V c) (defs₀ (F := F)) Variants.none () Set.univ := fun t => by
  obtain rfl := fin_N1 t
  rw [bigSep_W1, bigSep_W1]
  simp only [owns_whole_eq]
  rw [show (dat1 V c).Φ t1_0.castSucc = Before1 V c from rfl, show (dat1 V c).Φ t1_0.succ = After1 c from rfl]
  iintro ⟨⟨⟨%K, HR⟩, HA, Hb, Hp⟩, HO, ⟨%d0, %f0, %hf0, H0⟩, ⟨%d1, %f1, %hf1, H1⟩, ⟨%d2, %f2, %hf2, H2⟩, ⟨%d3, %f3, -, H3⟩⟩
  rw [before1_0] at hf0; rw [before1_1] at hf1; rw [before1_2] at hf2
  subst hf0 hf1 hf2
  ihave HO := (owesAt_elim (dat1 V c) _ (O₀ c) (owed1_first V c)) $$ HO
  ihave Hb := (rest_split (F := F) c) $$ Hb
  icases Hb with ⟨Hoth, Hscr⟩
  ihave H0 := (Entails.of_eq (stg0_pc V c)) $$ H0
  ihave H1 := (Entails.of_eq (stg1_pc V c)) $$ H1
  ihave H2 := (Entails.of_eq (stg2_pc V c)) $$ H2
  iapply (talkRun (I := ins V) K c) $$ [HR HA HO Hscr H0 H1 H2 H3]
  · isplitl [HR]; · iexact HR
    isplitl [HA HO]
    · unfold Armed Enter
      icases HA with ⟨A0, A1, A2, A3, A4⟩
      isplitl [A0]; · iexact A0
      isplitl [A1]; · iexact A1
      isplitl [A2]; · iexact A2
      isplitl [A3]; · iexact A3
      isplitl [A4]; · iexact A4
      iexact HO
    isplitl [H0 H1 H2]
    · unfold Stg
      isplitl [H0]; · iexact H0
      isplitl [H1]; · iexact H1
      iexact H2
    isplitl [Hscr]; · iexact Hscr
    unfold fullAny
    iexists f3; iexact H3
  unfold Leave Stg
  iintro ⟨⟨Hb0, Hr0, ⟨%W', HO⟩⟩, ⟨H0, H1, H2⟩, Hscr, ⟨%g, %hg, H3⟩⟩
  isplitl [Hb0 Hr0 Hoth Hscr Hp]
  · isplitl [Hb0 Hr0]
    · unfold Rested
      isplitl [Hb0]; · iexact Hb0
      iexact Hr0
    isplitl [Hoth Hscr]
    · iapply (rest_join (F := F) c)
      isplitl [Hoth]; · iexact Hoth
      iexact Hscr
    iexact Hp
  isplitl [HO]; · iapply (owesAt_intro (dat1 V c) t1_0.succ 0 (owed1_last V c) W' rfl); iexact HO
  ihave H0 := (Entails.of_eq (stg0_pc V c).symm) $$ H0
  ihave H1 := (Entails.of_eq (stg1_pc V c).symm) $$ H1
  ihave H2 := (Entails.of_eq (stg2_pc V c).symm) $$ H2
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  iexists g; isplitr; swap; (· iexact H3); ipureintro; exact eq_outv _ _ _ hg

end Cert.KernelIdeal.Gen
-- ==== Proof.Segs.lean ====
module

public import proofs.«01_k».proof.Proof.Quiet
public import proofs.«01_k».proof.Proof.Talk

/-! # The regions as segments -/

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- Both regions' data. -/
def pdats : (p : Fin 2) → (c : Dev nD) → Dat τ (Elt F) Unit ℕ UU ℕ (Pipeline.pin (pcfgs (F := F)) adm p) c
  | 0 => dat0 (V1 m)
  | 1 => dat1 (W3 m)

/-- What each buffer holds after the combine region, and at the end. -/
def W4 (c : Dev nD) : Valuation τ sig (Elt F) := Pipeline.afterRegion (dat1 (W3 m) c) (W3 m c)
def W5 (c : Dev nD) : Valuation τ sig (Elt F) := StableHlo.after hostOps2 (W4 m c)

/-- The partial results that the devices bring. -/
abbrev II : Ins F := ins (W3 m)

/-! ## The cuts between the levels -/

theorem O₀_pos {c : Dev nD} {g : GSem nD τ sig} {u : Unit} (h : 0 < O₀ c g u) : ∃ (d : Dev nD) (x : Ci), g = cell d x ∧ 0 < lvX (some x) := by
  by_cases h0 : 0 < owe c order g u
  · obtain ⟨i, -, e⟩ := owe_mem c _ g u h0
    exact ⟨pt i c, some (true, i), e, by show 0 < rl i; unfold rl; omega⟩
  · have e : O₀ c g u = owe c order g u + tallyAt (barCell (pr 2 c)) () 1 g u + tallyAt (barCell (pr 1 c)) () 1 g u + tallyAt (barCell (pr 0 c)) () 1 g u := rfl
    by_contra hn
    have hb : ∀ k : Fin 3, (tallyAt (barCell (pr k c)) () 1 : CellTallies nD τ sig Unit) g u = 0 := fun k => by
      rw [tallyAt_apply, if_neg]
      rintro ⟨e', -⟩
      exact hn ⟨pr k c, none, e', Nat.one_pos⟩
    rw [e, hb, hb, hb] at h
    omega

theorem owed_cut (c : Dev nD) (g : GSem nD τ sig) (i : Unit) (h : 0 < O₀ c g i) : i ∈ L g ∧ (0 : ℕ) < lv g i := by
  obtain ⟨d, x, rfl, hx⟩ := O₀_pos h
  exact ⟨by rw [L_tc]; exact Finset.mem_singleton_self _, (lv_cell d x).symm ▸ hx⟩

theorem stage_lv0 : ∀ (w : Fin 6) (s : Fin (spec0 w).nbuf), lvX (ciOf (.dma ((spec0 w).sem s))) = 0 := by decide +kernel
theorem stage_lv1 : ∀ (w : Fin 4) (s : Fin (spec1 w).nbuf), lvX (ciOf (.dma ((spec1 w).sem s))) = 0 := by decide +kernel

/-! ## The attention region as a segment -/

/-- What a device keeps for the exchange: its invariants, its share of the ghost state, its credit. -/
def Linear (c : Dev nD) : sProp 𝕄 :=
  iprop(atPos ER (barCell c) 0 ∅ 0 ∗ (bigSep Finset.univ fun x : Bool × Tr => openTok ER (cell c (some x)))
    ∗ (bigSep Finset.univ fun k : Fin 3 => dutyTok ER (barCell (pr k c)) 0 k)
    ∗ (bigSep Finset.univ fun i : Tr => dutyTok ER (sndCell c i) 0 0)
    ∗ (bigSep Finset.univ fun i : Tr => dutyTok ER (rcvCell (pt i c) i) 0 0))

def Credit (c : Dev nD) : sProp 𝕄 :=
  iprop(cred (tallyAt (barCell c) () 3) ∗ bigSep Finset.univ fun i : Tr => cred (tallyAt (rcvCell c i) () (NN i)))

def Records (I : Ins F) (K : GSem nD τ sig → ℕ) : sProp 𝕄 :=
  iprop((bigSep (barCells ∪ trCells) fun g => cellInv ER (Rd I) (K g) g) ∗ (bigSep barCells fun g => reached ER g 0))

instance Records_persistent (I : Ins F) (K : GSem nD τ sig → ℕ) : BI.Persistent (Records I K) := by unfold Records; infer_instance

def Tk (c : Dev nD) : sProp 𝕄 := iprop((∃ K, Records (II m) K ∗ Linear c) ∗ Credit c)
def Xk (c : Dev nD) : sProp 𝕄 := iprop((∃ K, Rec (II m) K) ∗ Armed c)

theorem arr0_sub : Pipeline.arrRefs (τ := τ) spec0 ⊆ Pipeline.ucRefs τ sig := by decide +kernel
theorem arr1_sub : Pipeline.arrRefs (τ := τ) spec1 ⊆ Pipeline.ucRefs τ sig := by decide +kernel

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

abbrev prng (c : Dev nD) : sProp 𝕄 := iprop(∃ r, prngReg c r)

set_option backward.isDefEq.respectTransparency.types false in
/-- The attention region: the exchange's share rides past it, the dues stay owed. -/
def reg0 : Pipeline.RegionSeg (pcfgs (F := F)) adm (pdats m) () defs₀ Variants.none L lv 0 :=
  Pipeline.RegionSeg.ofHeldIn (pcfgs (F := F)) adm (pdats m) () defs₀ Variants.none L lv 0 O₀ (Pipeline.ucRefs τ sig)
    (fun _ => iprop(emp)) (fun _ => iprop(emp)) kit0 rfl (fun c => (body0 (V1 m) c).loose) (fun _ _ => rfl) (fun _ => rfl)
    (fun c => (pdats m 0 c).share_full fun _ => rfl)
    (fun c => by
      rw [show (pdats m 0 c).Φ 0 = Rest0Buf c from rfl]
      iintro ⟨H, -⟩; iexact H)
    (fun c => by
      rw [show (pdats m 0 c).Φ (Fin.last _) = Rest0Buf c from rfl]
      iintro H
      isplitl [H]; · iexact H
      iempintro)
    (fun _ => 0)
    ⟨fun c w s => by rw [L_tc]; exact Finset.mem_singleton_self _, fun c w s => (stage_lv0 w s).le, fun c g i h => owed_cut c g i h⟩
    (fun c => iprop(Tk m c ∗ prng c)) (V1 m) (fun _ _ => rfl)

/-! ## The combine region as a segment -/

/-- The exchange's semaphores, which the region scopes. -/
abbrev osem1 : Bool × Tr → SemLoc sig := fun x => semOf (some x)

theorem own1 : Pipeline.OwnSemFacts spec1 osem1 := by decide +kernel

end Cert.KernelIdeal.Gen
-- ==== Proof.Enter.lean ====
module

public import proofs.«01_k».proof.Proof.Segs

/-! # Entering and leaving the combine region -/

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

theorem pair_up {ι : Type} [Fintype ι] {Φ Ψ : ι → sProp 𝕄} :
    iprop(bigSep Finset.univ Φ ∗ bigSep Finset.univ Ψ) ⊢ bigSep Finset.univ (fun x => iprop(Φ x ∗ Ψ x)) := Entails.of_eq (BI.bigSep_sep' _ _ _).symm

theorem order_univ : (Finset.univ : Finset Tr) = order.toFinset := by decide +kernel
theorem order_nodup : order.Nodup := by decide +kernel

theorem over_order (Φ : Tr → sProp 𝕄) : bigSep Finset.univ Φ = bigSepL order Φ :=
  BI.bigSep_univ_eq_bigSepL order order_univ order_nodup Φ
theorem over_three (Φ : Fin 3 → sProp 𝕄) : bigSep Finset.univ Φ = bigSepL three Φ :=
  BI.bigSep_univ_eq_bigSepL three (by decide) (by decide) Φ
/-- A family over the exchange's cells, the senders' half and the receivers' half. -/
theorem over_cells (Φ : Bool × Tr → sProp 𝕄) :
    bigSep Finset.univ Φ = iprop((bigSep Finset.univ fun i => Φ (false, i)) ∗ (bigSep Finset.univ fun i => Φ (true, i))) := by
  rw [BI.bigSep_univ_prod, show (Finset.univ : Finset Bool) = {false, true} from by decide, BI.bigSep_insert (by decide), BI.bigSep_singleton]
  rfl

/-- One scoped cell opened. -/
theorem open_one (K : GSem nD τ sig → ℕ) (c : Dev nD) (x : Bool × Tr) :
    iprop(Records (II m) K ∗ (openTok ER (cell c (some x)) ∗ semVal (cell c (some x)) 0))
      ⊢ (|={Set.univ}=> iprop(atPos ER (cell c (some x)) 0 ∅ 0 ∗ reached ER (cell c (some x)) 0) : sProp 𝕄) := by
  have hi : (bigSep (barCells ∪ trCells) fun g => (cellInv ER (Rd (II m)) (K g) g : sProp 𝕄)) ⊢ cellInv ER (Rd (II m)) (K (cell c (some x))) (cell c (some x)) :=
    BI.bigSep_elim (cell_mem c (some x))
  unfold Records
  iintro ⟨⟨#HI, -⟩, Ho, Hs⟩
  iapply (Rounds.cell_open ER (Rd (II m)) (g := cell c (some x)) (Set.mem_univ (K (cell c (some x)))))
  isplitr
  · iapply hi; iexact HI
  isplitl [Ho]; · iexact Ho
  iexact Hs

/-- All of them. -/
theorem open_all (K : GSem nD τ sig → ℕ) (c : Dev nD) :
    iprop(Records (II m) K ∗ ((bigSep Finset.univ fun x : Bool × Tr => openTok ER (cell c (some x))) ∗ Pipeline.ownSems0 osem1 c))
      ⊢ (|={Set.univ}=> iprop((bigSep Finset.univ fun x : Bool × Tr => atPos ER (cell c (some x)) 0 ∅ 0)
          ∗ (bigSep Finset.univ fun x : Bool × Tr => reached ER (cell c (some x)) 0)) : sProp 𝕄) := by
  rw [show (iprop((bigSep Finset.univ fun x : Bool × Tr => atPos ER (cell c (some x)) 0 ∅ 0)
      ∗ (bigSep Finset.univ fun x : Bool × Tr => reached ER (cell c (some x)) 0)) : sProp 𝕄)
      = bigSep Finset.univ fun x : Bool × Tr => iprop(atPos ER (cell c (some x)) 0 ∅ 0 ∗ reached ER (cell c (some x)) 0) from (BI.bigSep_sep' _ _ _).symm]
  refine BI.Entails.trans ?_ (BI.bigSep_fupd (E := Set.univ) Finset.univ fun x : Bool × Tr => iprop(atPos ER (cell c (some x)) 0 ∅ 0 ∗ reached ER (cell c (some x)) 0))
  refine BI.Entails.trans ?_ (BI.bigSep_with_persistent (R := Records (II m) K)
    (Φ := fun x : Bool × Tr => iprop(openTok ER (cell c (some x)) ∗ semVal (cell c (some x)) 0)) fun x _ => open_one m K c x)
  exact sep_mono_right pair_up

theorem ready_all (c : Dev nD) :
    (iprop((bigSep Finset.univ fun i : Tr => atPos ER (sndCell c i) 0 ∅ 0) ∗ (bigSep Finset.univ fun i : Tr => atPos ER (rcvCell c i) 0 ∅ 0)
      ∗ (bigSep Finset.univ fun i : Tr => dutyTok ER (sndCell c i) 0 0) ∗ (bigSep Finset.univ fun i : Tr => dutyTok ER (rcvCell (pt i c) i) 0 0)
      ∗ (bigSep Finset.univ fun i : Tr => reached ER (sndCell c i) 0) ∗ (bigSep Finset.univ fun i : Tr => cred (tallyAt (rcvCell c i) () (NN i)))) : sProp 𝕄)
      ⊢ bigSepL order (Ready (F := F) c) := by
  rw [← over_order]
  unfold Ready
  exact (sep_mono_right ((sep_mono_right ((sep_mono_right ((sep_mono_right pair_up).trans pair_up)).trans pair_up)).trans pair_up)).trans pair_up

theorem hopen1 (c : Dev nD) : iprop(Tk m c ∗ Pipeline.ownSems0 osem1 c ∗ levAts L lv) ⊢ (|={Set.univ}=> Xk m c : sProp 𝕄) := by
  unfold Tk Xk Linear Credit Armed
  iintro ⟨⟨⟨%K, #HR, HaB, Ho, HtB, HtS, HtV⟩, HcB, HcV⟩, Hs, #Hlev⟩
  imod (open_all m K c) $$ [Ho Hs] with ⟨Hat, Hre⟩
  · isplitr; · iexact HR
    isplitl [Ho]; · iexact Ho
    iexact Hs
  imodintro
  ihave Ha2 := (Entails.of_eq (over_cells (F := F) fun x => atPos ER (cell c (some x)) 0 ∅ 0)) $$ Hat
  ihave Hr2 := (Entails.of_eq (over_cells (F := F) fun x => reached ER (cell c (some x)) 0)) $$ Hre
  icases Ha2 with ⟨HaS, HaV⟩
  icases Hr2 with ⟨HrS, HrV⟩
  isplitr [HaB HtB HtS HtV HcB HcV HaS HaV HrS HrV]
  · iexists K; unfold Rec Records
    icases HR with ⟨#HI, #HRe⟩
    isplitr; · iexact HI
    isplitr; · iexact HRe
    iexact Hlev
  isplitl [HaS HaV HtS HtV HrS HcV]
  · iapply (ready_all (F := F) c)
    isplitl [HaS]; · iexact HaS
    isplitl [HaV]; · iexact HaV
    isplitl [HtS]; · iexact HtS
    isplitl [HtV]; · iexact HtV
    isplitl [HrS]; · iexact HrS
    iexact HcV
  isplitl [HrV]
  · iapply (Entails.of_eq (over_order (F := F) fun i => reached ER (rcvCell c i) 0)); iexact HrV
  isplitl [HtB]
  · iapply (Entails.of_eq (over_three (F := F) fun k => dutyTok ER (barCell (pr k c)) 0 k)); iexact HtB
  isplitl [HaB]; · iexact HaB
  iexact HcB

theorem held_none (c : Dev nD) (V : Valuation τ sig (Elt F)) : (StableHlo.held (c.tc : Thread nD τ) ∅ V : sProp 𝕄) = BI.emp := by
  unfold StableHlo.held; exact BI.bigSep_empty

theorem first_inv (c : Dev nD) : (dat1 (W3 m) c).Φ 0 = Before1 (W3 m) c := by
  show (if (0 : Fin (cfg1.N + 1)).val = 0 then Before1 (W3 m) c else After1 c) = _; exact if_pos rfl
theorem last_inv (c : Dev nD) : (dat1 (W3 m) c).Φ (Fin.last cfg1.N) = After1 (F := F) c := by
  show (if (Fin.last cfg1.N).val = 0 then Before1 (W3 m) c else After1 c) = _
  rw [Fin.val_last, if_neg (by rw [show cfg1.N = 1 from N_1]; decide)]

theorem hin1 (c : Dev nD) : iprop(Pipeline.scopedRest (Pipeline.pin (pcfgs (F := F)) adm 1).spec c ∗ (∃ r, prngReg c r)
    ∗ StableHlo.held (c.tc : Thread nD τ) ∅ (W3 m c) ∗ Xk m c) ⊢ (pdats m 1 c).Φ 0 := by
  rw [show (pdats m 1 c).Φ 0 = Before1 (W3 m) c from first_inv m c]
  unfold Before1 Xk
  iintro ⟨Hs, Hp, -, HR, HA⟩
  isplitl [HR]; · iexact HR
  isplitl [HA]; · iexact HA
  isplitl [Hs]; · iexact Hs
  iexact Hp

theorem rest_all (c : Dev nD) : (bigSepL order (Rest0 (F := F) c) : sProp 𝕄) ⊢ Pipeline.ownSems0 osem1 c := by
  unfold Pipeline.ownSems0
  rw [over_cells, ← over_order]
  unfold Rest0
  exact Entails.of_eq (BI.bigSep_sep' _ _ _)

theorem hout1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r)
      ∗ StableHlo.held (c.tc : Thread nD τ) ∅ (W4 m c) ∗ Pipeline.ownSems0 osem1 c ∗ semVal (barCell c) 0) := by
  rw [show (pdats m 1 c).Φ (Fin.last (Pipeline.pin (pcfgs (F := F)) adm 1).N) = After1 (F := F) c from last_inv m c, held_none]
  unfold After1 Rested
  iintro ⟨⟨Hb, Hr⟩, Hs, Hp⟩
  isplitl [Hs]; · iexact Hs
  isplitl [Hp]; · iexact Hp
  isplitr; · iempintro
  isplitl [Hr]; · iapply (rest_all (F := F) c); iexact Hr
  iexact Hb

theorem cut1 (c : Dev nD) (t : Fin ((Pipeline.pin (pcfgs (F := F)) adm 1).N + 1)) (g : GSem nD τ sig) (i : Unit) (h : 0 < (pdats (F := F) m 1 c).owed t g i) :
    i ∈ L g ∧ (0 : ℕ) < lv g i := by
  have e : (pdats (F := F) m 1 c).owed t = if t.val = 0 then O₀ c else 0 := rfl
  rw [e] at h
  split at h
  · exact owed_cut c g i h
  · exact absurd h (Nat.lt_irrefl 0)

/-- The buffers beside the region's arrays. -/
abbrev side1 : Finset (DevRef τ sig) := Pipeline.ucRefs τ sig \ Pipeline.arrRefs (τ := τ) spec1

theorem arr_inj1 : Function.Injective (Pipeline.arrRef spec1) := winFacts1.arr_inj
theorem arr_inj0 : Function.Injective (Pipeline.arrRef spec0) := winFacts0.arr_inj

set_option backward.isDefEq.respectTransparency.types false in
/-- The combine region. -/
def reg1 : Pipeline.RegionSeg (pcfgs (F := F)) adm (pdats m) () defs₀ Variants.none L lv 1 :=
  Pipeline.RegionSeg.ofTalk (pcfgs (F := F)) adm (pdats m) () defs₀ Variants.none L lv 1 osem1 own1
    ∅ side1 (Finset.empty_subset _) kit1 rfl (fun c => (body1 (W3 m) c).loose)
    (fun _ => 0) O₀ (fun c => (owed1_zero (W3 m) c).trans (zero_add _).symm) (fun c => owed1_last (W3 m) c) (fun _ => rfl)
    (fun c => (pdats m 1 c).share_full fun _ => rfl)
    (W3 m) (W4 m) (fun c b hb => Pipeline.afterRegion_off (dat1 (W3 m) c) (W3 m c) (Pipeline.ucRefs τ sig) b (Finset.mem_sdiff.mp hb).1)
    (Tk m) (fun c => semVal (barCell c) 0) (Xk m) (fun c => semVal (barCell c) 0) (hopen1 m) (hin1 m) (hout1 m)
    (fun c => by iintro H; imodintro; iexact H)
    (fun _ => 0)
    ⟨fun c w s => by rw [L_tc]; exact Finset.mem_singleton_self _, fun c w s => (stage_lv1 w s).le, fun c t g i h => cut1 m c t g i h⟩
    (fun _ => iprop(emp))
    (fun _ _ => rfl) (fun c w => (Pipeline.afterRegion_arr (dat1 (W3 m) c) (W3 m c) arr_inj1 w).symm)

theorem reg1_pre (c : Dev nD) : iprop(StableHlo.held (c : Thread nD τ) (Pipeline.ucRefs τ sig) (W3 m c)
      ∗ (Tk m c ∗ prng c) ∗ ∃ Wd, owes (c : Thread nD τ) (O₀ c) Wd) ⊢ (reg1 m).pre c := by
  show _ ⊢ iprop(StableHlo.held (c.tc : Thread nD τ) (Pipeline.arrRefs (τ := τ) (pcfgs (F := F) 1).spec) (W3 m c) ∗ (∃ r, prngReg c r)
    ∗ (StableHlo.held (c.tc : Thread nD τ) side1 (W3 m c) ∗ emp) ∗ Tk m c ∗ ∃ Wd, owes (c : Thread nD τ) (0 + O₀ c) Wd)
  rw [zero_add, show (StableHlo.held (c : Thread nD τ) (Pipeline.ucRefs τ sig) (W3 m c) : sProp 𝕄) = _ from
    StableHlo.held_sub_split (c.tc : Thread nD τ) arr1_sub (W3 m c)]
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

theorem reg1_post (c : Dev nD) : (reg1 m).post c
    ⊢ iprop(StableHlo.held (c : Thread nD τ) (Pipeline.ucRefs τ sig) (W4 m c) ∗ semVal (barCell c) 0 ∗ ∃ Wd, owes (c : Thread nD τ) (0 : CellTallies nD τ sig Unit) Wd) := by
  show iprop(StableHlo.held (c.tc : Thread nD τ) (Pipeline.arrRefs (τ := τ) (pcfgs (F := F) 1).spec) (W4 m c) ∗ (∃ r, prngReg c r)
    ∗ (StableHlo.held (c.tc : Thread nD τ) side1 (W4 m c) ∗ emp) ∗ semVal (barCell c) 0 ∗ ∃ Wd, owes (c : Thread nD τ) (0 : CellTallies nD τ sig Unit) Wd) ⊢ _
  rw [show (StableHlo.held (c : Thread nD τ) (Pipeline.ucRefs τ sig) (W4 m c) : sProp 𝕄) = _ from
    StableHlo.held_sub_split (c.tc : Thread nD τ) arr1_sub (W4 m c)]
  iintro ⟨Ha, -, ⟨Hr, -⟩, Hb, HO⟩
  isplitl [Ha Hr]
  · isplitl [Ha]; · iexact Ha
    iexact Hr
  isplitl [Hb]; · iexact Hb
  iexact HO

end Cert.KernelIdeal.Gen
-- ==== Proof.Deal.lean ====
module

public import proofs.«01_k».proof.Proof.Enter

/-! # The launch: the exchange's cells funded, the tokens dealt -/

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What is funded -/

theorem disjoint_cells : Disjoint (barCells : Finset (GSem nD τ sig)) trCells := by
  rw [Finset.disjoint_left]
  rintro g h₁ h₂
  obtain ⟨c, -, rfl⟩ := Finset.mem_map.mp h₁
  obtain ⟨x, -, h⟩ := Finset.mem_map.mp h₂
  exact absurd (semOf_inj (a₁ := some x.2) (a₂ := none) (congrArg Prod.snd h)) (by simp)

/-- The token of each duty: three on a barrier cell, one on each cell of the exchange. -/
def tokOf : Dev nD × (Fin 3 ⊕ (Bool × Tr)) → GSem nD τ sig × ℕ × Fin 3
  | (c, .inl k) => (barCell c, 0, k)
  | (c, .inr x) => (cell c (some x), 0, 0)

theorem tokOf_inj : Function.Injective tokOf := by
  rintro ⟨c, k | x⟩ ⟨c', k' | x'⟩ h
  · have h1 := congrArg (fun t : GSem nD τ sig × ℕ × Fin 3 => t.1.1.1) h
    have h2 := congrArg (fun t : GSem nD τ sig × ℕ × Fin 3 => t.2.2) h
    exact Prod.ext h1 (congrArg Sum.inl h2)
  · exact absurd (semOf_inj (a₁ := none) (a₂ := some x') (congrArg (fun t : GSem nD τ sig × ℕ × Fin 3 => t.1.2) h)) (by simp)
  · exact absurd (semOf_inj (a₁ := some x) (a₂ := none) (congrArg (fun t : GSem nD τ sig × ℕ × Fin 3 => t.1.2) h)) (by simp)
  · have h1 := congrArg (fun t : GSem nD τ sig × ℕ × Fin 3 => t.1.1.1) h
    have h2 := semOf_inj (a₁ := some x) (a₂ := some x') (congrArg (fun t : GSem nD τ sig × ℕ × Fin 3 => t.1.2) h)
    exact Prod.ext h1 (congrArg Sum.inr (Option.some.inj h2))

def toks : Finset (GSem nD τ sig × ℕ × Fin 3) := Finset.univ.map ⟨tokOf, tokOf_inj⟩

/-- The launch element. -/
def u₀ : UU :=
  (initOf (Pipeline.cells (Pipeline.pin (pcfgs (F := F)) adm) cellOf_inj) (Pipeline.launchToks (Pipeline.pin (pcfgs (F := F)) adm) cellOf_inj),
    launchOf barCells trCells toks)

/-- All of a resource on device 0. -/
def onFirst (X : sProp 𝕄) (c : Dev nD) : sProp 𝕄 := if c = 0 then X else iprop(emp)
theorem over_first (X : sProp 𝕄) : bigSep Finset.univ (onFirst X) = X := by
  rw [BI.bigSep_univ_at _ (0 : Dev nD), BI.bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp BI.sep_emp

def GG : Dev nD → sProp 𝕄 := onFirst (BI.own (ER (launchOf barCells trCells toks)))

/-! ## The tokens, each handed to the device that pays -/

theorem turn {ι : Type} [Fintype ι] (f : ι → Dev nD → Dev nD) (hf : ∀ i c, f i (f i c) = c) (Φ : Dev nD → ι → sProp 𝕄) :
    (bigSep Finset.univ fun c => bigSep Finset.univ fun i => Φ c i) = bigSep Finset.univ fun c => bigSep Finset.univ fun i => Φ (f i c) i := by
  rw [show (bigSep Finset.univ fun c => bigSep Finset.univ fun i => Φ c i) = bigSep Finset.univ fun p : Dev nD × ι => Φ p.1 p.2 from
      (BI.bigSep_univ_prod (fun p : Dev nD × ι => Φ p.1 p.2)).symm,
    BI.bigSep_univ_equiv (⟨fun p => (f p.2 p.1, p.2), fun p => (f p.2 p.1, p.2), fun p => Prod.ext (hf _ _) rfl, fun p => Prod.ext (hf _ _) rfl⟩ :
      Dev nD × ι ≃ Dev nD × ι), BI.bigSep_univ_prod]
  rfl

theorem toks_eq : bigSep toks (fun x => (dutyTok ER x.1 x.2.1 x.2.2 : sProp 𝕄))
    = bigSep Finset.univ fun c : Dev nD => iprop((bigSep Finset.univ fun k : Fin 3 => dutyTok ER (barCell c) 0 k)
      ∗ (bigSep Finset.univ fun i : Tr => dutyTok ER (sndCell c i) 0 0) ∗ (bigSep Finset.univ fun i : Tr => dutyTok ER (rcvCell c i) 0 0)) := by
  unfold toks
  rw [BI.bigSep_map, BI.bigSep_univ_prod]
  refine BI.bigSep_congr fun c _ => ?_
  rw [BI.bigSep_univ_sum, over_cells]
  rfl

theorem toks_deal : bigSep toks (fun x => (dutyTok ER x.1 x.2.1 x.2.2 : sProp 𝕄))
    ⊢ bigSep Finset.univ fun c : Dev nD => iprop((bigSep Finset.univ fun k : Fin 3 => dutyTok ER (barCell (pr k c)) 0 k)
      ∗ (bigSep Finset.univ fun i : Tr => dutyTok ER (sndCell c i) 0 0) ∗ (bigSep Finset.univ fun i : Tr => dutyTok ER (rcvCell (pt i c) i) 0 0)) := by
  rw [toks_eq, BI.bigSep_sep', BI.bigSep_sep', BI.bigSep_sep', BI.bigSep_sep',
    turn (fun k c => pr k c) (fun k c => pr_pr k c) (fun c k => dutyTok ER (barCell c) 0 k),
    turn (fun i c => pt i c) (fun i c => pt_pt i c) (fun c i => dutyTok ER (rcvCell c i) 0 0)]

/-! ## The launch credit -/

theorem cell_eq {d c : Dev nD} {x y : Ci} (h : cell d x = cell c y) : d = c ∧ x = y :=
  ⟨congrArg (fun g : GSem nD τ sig => g.1.1) h, semOf_inj (congrArg Prod.snd h)⟩

theorem owe_bar (d c : Dev nD) (l : List Tr) : owe d l (barCell c) () = 0 := by
  by_contra h
  obtain ⟨i, -, e⟩ := owe_mem d l (barCell c) () (Nat.pos_of_ne_zero h)
  exact absurd (cell_eq (x := none) (y := some (true, i)) e).2 (by simp)

theorem owe_rcv (d c : Dev nD) (i : Tr) : ∀ l : List Tr, l.Nodup → owe d l (rcvCell c i) () = if i ∈ l ∧ d = pt i c then NN i else 0
  | [], _ => by rw [if_neg (fun h => List.not_mem_nil h.1)]; rfl
  | j :: l, hl => by
    have ih := owe_rcv d c i l (List.nodup_cons.mp hl).2
    have e : owe d (j :: l) (rcvCell c i) () = owe d l (rcvCell c i) () + tallyAt (rcvCell (pt j d) j) () (NN j) (rcvCell c i) () := rfl
    rw [e, ih, tallyAt_apply]
    by_cases hij : i = j
    · subst hij
      rw [if_neg (fun h => (List.nodup_cons.mp hl).1 h.1)]
      by_cases hd : d = pt i c
      · subst hd
        rw [if_pos ⟨by rw [pt_pt], rfl⟩, if_pos ⟨List.mem_cons_self, rfl⟩, zero_add]
      · rw [if_neg (fun h => hd ((pt_pt i d).symm.trans (congrArg (pt i) (cell_eq (x := some (true, i)) (y := some (true, i)) h.1).1.symm))), if_neg (fun h => hd h.2)]
    · rw [if_neg (c := rcvCell c i = rcvCell (pt j d) j ∧ () = ())
        (fun h => hij (congrArg Prod.snd (Option.some.inj (cell_eq (x := some (true, i)) (y := some (true, j)) h.1).2))), add_zero]
      simp only [List.mem_cons, hij, false_or]

theorem bar_at (k : Fin 3) (d c : Dev nD) : (tallyAt (barCell (pr k d)) () 1 : CellTallies nD τ sig Unit) (barCell c) () = if d = pr k c then 1 else 0 := by
  rw [tallyAt_apply]
  by_cases h : d = pr k c
  · subst h; rw [pr_pr, if_pos ⟨rfl, rfl⟩, if_pos rfl]
  · rw [if_neg (fun h' => h ((pr_pr k d).symm.trans (congrArg (pr k) (cell_eq (x := none) (y := none) h'.1).1.symm))), if_neg h]
theorem bar_rcv (k : Fin 3) (d c : Dev nD) (i : Tr) : (tallyAt (barCell (pr k d)) () 1 : CellTallies nD τ sig Unit) (rcvCell c i) () = 0 := by
  rw [tallyAt_apply, if_neg]
  exact fun h => absurd (cell_eq (x := some (true, i)) (y := none) h.1).2 (by simp)

theorem sum_bar (c : Dev nD) : ∑ d, O₀ d (barCell c) () = 3 := by
  have e : ∀ d, O₀ d (barCell c) () = (if d = pr 2 c then 1 else 0) + (if d = pr 1 c then 1 else 0) + (if d = pr 0 c then 1 else 0) := fun d => by
    rw [← bar_at, ← bar_at, ← bar_at]
    show owe d order (barCell c) () + _ + _ + _ = _
    rw [owe_bar, zero_add]
  rw [Finset.sum_congr rfl fun d _ => e d, Finset.sum_add_distrib, Finset.sum_add_distrib]
  simp only [Finset.sum_ite_eq', Finset.mem_univ, if_true]

theorem sum_rcv (c : Dev nD) (i : Tr) : ∑ d, O₀ d (rcvCell c i) () = NN i := by
  have e : ∀ d, O₀ d (rcvCell c i) () = if d = pt i c then NN i else 0 := fun d => by
    show owe d order (rcvCell c i) () + tallyAt (barCell (pr 2 d)) () 1 (rcvCell c i) () + tallyAt (barCell (pr 1 d)) () 1 (rcvCell c i) ()
      + tallyAt (barCell (pr 0 d)) () 1 (rcvCell c i) () = _
    rw [bar_rcv, bar_rcv, bar_rcv, owe_rcv d c i order order_nodup]
    have hi : i ∈ order := List.mem_toFinset.mp (order_univ ▸ Finset.mem_univ i)
    simp only [hi, true_and, add_zero]
  rw [Finset.sum_congr rfl fun d _ => e d]
  simp only [Finset.sum_ite_eq', Finset.mem_univ, if_true]

theorem launch_at (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

def rcvEmb : Tr ↪ SemLoc sig := ⟨fun i => semOf (some (true, i)), fun _ _ h => congrArg Prod.snd (Option.some.inj (semOf_inj h))⟩

theorem creds (c : Dev nD) : (Pipeline.launchCred O₀ c : sProp 𝕄) ⊢ Credit (F := F) c := by
  unfold Pipeline.launchCred Credit
  rw [BI.bigSep_univ_at _ (SemLoc.reg barS), launch_at (barCell c) 3 (sum_bar c)]
  refine sep_mono_right ?_
  refine (BI.bigSep_subset (t := Finset.univ.map rcvEmb) fun sm h => ?_).trans ?_
  · obtain ⟨i, -, rfl⟩ := Finset.mem_map.mp h
    exact Finset.mem_erase.mpr ⟨fun e => absurd (semOf_inj (a₁ := some (true, i)) (a₂ := none) e) (by simp), Finset.mem_univ _⟩
  · rw [BI.bigSep_map]
    exact BI.bigSep_mono fun i _ => Entails.of_eq (congrArg cred (launch_at (rcvCell c i) (NN i) (sum_rcv c i)))

/-! ## The first state of the devices -/

/-- What rides beside the buffers up to the exchange. -/
abbrev ride (c : Dev nD) : sProp 𝕄 := iprop((Tk m c ∗ prng c) ∗ ∃ Wd, owes (c : Thread nD τ) (O₀ c) Wd)
abbrev T₀ (c : Dev nD) : sProp 𝕄 := iprop(StableHlo.held (c : Thread nD τ) (Pipeline.ucRefs τ sig) (V0 m c) ∗ ride m c)

/-- What of a device's launch holdings is not the exchange's ghost state. -/
def holds (c : Dev nD) : sProp 𝕄 :=
  iprop(StableHlo.held (c : Thread nD τ) (Pipeline.ucRefs τ sig) (V0 m c) ∗ Credit c ∗ owes (c : Thread nD τ) (O₀ c) ∅ ∗ prng c)

theorem T₀_intro (K : GSem nD τ sig → ℕ) (c : Dev nD) : iprop(Records (II m) K ∗ (Linear c ∗ holds m c)) ⊢ T₀ m c := by
  unfold holds T₀ ride Tk
  iintro ⟨#HR, Hl, Hh, HC, HO, Hp⟩
  isplitl [Hh]; · iexact Hh
  isplitr [HO]
  · isplitr [Hp]
    · isplitl [Hl]
      · iexists K
        isplitr; · iexact HR
        iexact Hl
      iexact HC
    iexact Hp
  · iexists ∅; iexact HO

theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem unscoped_eq : ∀ sm : SemLoc sig, sm.isScoped .tc = false → sm = .reg barS := by decide +kernel

abbrev given (ρ : Dev nD → PrngReg) (c : Dev nD) : sProp 𝕄 :=
  iprop(unscopedBufs c (fun b => m ((c : Thread nD τ).loc b)) ∗ unscopedSems0 c ∗ owes (c : Thread nD τ) (O₀ c) ∅ ∗ Pipeline.launchCred O₀ c ∗ prngReg c (ρ c) ∗ GG c)

theorem given_split (ρ : Dev nD → PrngReg) (c : Dev nD) : given m ρ c ⊢ iprop(holds m c ∗ (semVal (barCell c) 0 ∗ GG (F := F) c)) := by
  unfold given
  rw [show unscopedBufs c (fun b => m ((c : Thread nD τ).loc b)) = (StableHlo.held (c : Thread nD τ) (Pipeline.ucRefs τ sig) (V0 m c) : sProp 𝕄) from
    Pipeline.unscopedBufs_held c (V0 m c), unscoped_bar]
  unfold holds
  iintro ⟨Hh, Hus, HO, Hcr, Hp, HG⟩
  isplitl [Hh HO Hcr Hp]
  · isplitl [Hh]; · iexact Hh
    isplitl [Hcr]; · iapply (creds (F := F) c); iexact Hcr
    isplitl [HO]; · iexact HO
    iexists (ρ c); iexact Hp
  isplitl [Hus]; · iexact Hus
  iexact HG

theorem first_states (ρ : Dev nD → PrngReg) :
    iprop((bigSep Finset.univ fun c : Dev nD => given m ρ c) ∗ levAts L lv) ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep trCells (fun g => (openTok ER g : sProp 𝕄))
      ⊢ bigSep Finset.univ (fun c : Dev nD => bigSep Finset.univ fun x : Bool × Tr => openTok ER (cell c (some x))) :=
    Entails.of_eq (by rw [BI.bigSep_map, BI.bigSep_univ_prod]; rfl)
  iintro ⟨H, -⟩
  ihave H' := (show (bigSep Finset.univ fun c : Dev nD => given m ρ c) ⊢ (iprop((bigSep Finset.univ (holds m))
      ∗ ((bigSep Finset.univ fun c : Dev nD => semVal (barCell c) 0) ∗ bigSep Finset.univ (GG (F := F)))) : sProp 𝕄) from
    (BI.bigSep_mono fun c _ => given_split m ρ c).trans
      ((Entails.of_eq (BI.bigSep_sep' _ _ _)).trans (sep_mono_right (Entails.of_eq (BI.bigSep_sep' _ _ _))))) $$ H
  icases H' with ⟨HB, Hv, HG⟩
  ihave Hu := (show bigSep Finset.univ (GG (F := F)) ⊢ BI.own (ER (launchOf barCells trCells toks)) from
    Entails.of_eq (over_first (F := F) (BI.own (ER (launchOf barCells trCells toks))))) $$ HG
  imod (Rounds.fund_launch ER (Rd (II m)) disjoint_cells (fun g _ h => h) toks) $$ [Hv Hu] with ⟨%K, -, #Hinv, #Hr, Hat, Hopen, Htok⟩
  · isplitl [Hv]
    · iapply hv $$ Hv
    · iexact Hu
  imodintro
  iapply (BI.bigSep_with_persistent (R := Records (II m) K) (Φ := fun c => iprop(Linear c ∗ holds m c)) fun c _ => T₀_intro m K c)
  isplitr
  · unfold Records
    isplitr; · iexact Hinv
    iexact Hr
  iapply pair_up
  isplitr [HB]
  · unfold Linear
    iapply pair_up; isplitl [Hat]; · iapply hat $$ Hat
    iapply pair_up; isplitl [Hopen]; · iapply hopen $$ Hopen
    iapply (toks_deal (F := F)); iexact Htok
  · iexact HB

end Cert.KernelIdeal.Gen
-- ==== Proof.Whole.lean ====
module

public import proofs.«01_k».proof.Proof.Deal

/-! # The run of the whole program -/

@[expose] public section

noncomputable section

namespace Cert.KernelIdeal.Gen

open Idealize.ShloMosaic Idealize.ShloMosaic.TcCoe
open Idealize.SL
open Idealize.SL.BI (sProp bigSep bigSepL)
open scoped Idealize.SL.BI
open Idealize.SL.BI.BIBase Idealize.SL.BI.Laws Idealize.SL.Sem Idealize.SL.ProofMode Idealize.SL.RA
open Idealize.ShloMosaic.Rounds Idealize.ShloMosaic.Tactic
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

abbrev HSeg := Pipeline.HostSeg (Ix := Unit) (Name := ℕ) (U := UU) (Lvl := ℕ) (pcfgs (F := F)) defs₀ Variants.none L lv

/-- The three host stretches, the exchange's share riding past the first two. -/
def host0 : HSeg (F := F) :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (ride m)
def host1 : HSeg (F := F) :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) (ride m)
def host2 : HSeg (F := F) :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m)
    (fun c => iprop(semVal (barCell c) 0 ∗ ∃ Wd, owes (c : Thread nD τ) (0 : CellTallies nD τ sig Unit) Wd))

/-- @main as the list. -/
def items : List (Pipeline.Seg (pcfgs (F := F)) adm (pdats m) () defs₀ Variants.none L lv) :=
  [.host (host0 m), .region (reg0 m), .host (host1 m), .region (reg1 m), .host (host2 m)]

theorem main_items (c : Dev nD) : main (F := F) c = Pipeline.Seg.run (items m) := by
  rw [main_chain c, Pipeline.Seg.run_eq_chain]
  rfl

abbrev Tₙ (c : Dev nD) : sProp 𝕄 := iprop(StableHlo.held (c : Thread nD τ) (Pipeline.ucRefs τ sig) (W5 m c) ∗ semVal (barCell c) 0)

/-- The buffers beside the attention region's arrays. -/
abbrev side0 : Finset (DevRef τ sig) := Pipeline.ucRefs τ sig \ Pipeline.arrRefs (τ := τ) spec0

theorem reg0_pre (c : Dev nD) : iprop(StableHlo.held (c : Thread nD τ) (Pipeline.ucRefs τ sig) (V1 m c) ∗ ride m c) ⊢ (reg0 m).pre c := by
  show _ ⊢ iprop(StableHlo.held (c.tc : Thread nD τ) (Pipeline.arrRefs (τ := τ) (pcfgs (F := F) 0).spec) (V1 m c) ∗ emp
    ∗ (StableHlo.held (c.tc : Thread nD τ) side0 (V1 m c) ∗ (Tk m c ∗ prng c)) ∗ ∃ Wd, owes (c : Thread nD τ) (O₀ c) Wd)
  rw [show (StableHlo.held (c : Thread nD τ) (Pipeline.ucRefs τ sig) (V1 m c) : sProp 𝕄) = _ from
    StableHlo.held_sub_split (c.tc : Thread nD τ) arr0_sub (V1 m c)]
  unfold ride
  iintro ⟨⟨Ha, Hr⟩, HT, HO⟩
  isplitl [Ha]; · iexact Ha
  isplitr; · iempintro
  isplitl [Hr HT]
  · isplitl [Hr]; · iexact Hr
    iexact HT
  iexact HO

theorem reg0_post (c : Dev nD) : (reg0 m).post c ⊢ iprop(StableHlo.held (c : Thread nD τ) (Pipeline.ucRefs τ sig) (W2 m c) ∗ ride m c) := by
  show iprop(StableHlo.held (c.tc : Thread nD τ) (Pipeline.arrRefs (τ := τ) (pcfgs (F := F) 0).spec) (W2 m c) ∗ emp
    ∗ (StableHlo.held (c.tc : Thread nD τ) side0 (V1 m c) ∗ (Tk m c ∗ prng c)) ∗ ∃ Wd, owes (c : Thread nD τ) (O₀ c) Wd) ⊢ _
  rw [show (StableHlo.held (c : Thread nD τ) (Pipeline.ucRefs τ sig) (W2 m c) : sProp 𝕄) = _ from
      StableHlo.held_sub_split (c.tc : Thread nD τ) arr0_sub (W2 m c),
    StableHlo.held_congr (c.tc : Thread nD τ) (S := side0) (V := W2 m c) (V' := V1 m c)
      (Pipeline.afterRegion_off (dat0 (V1 m) c) (V1 m c) (Pipeline.ucRefs τ sig))]
  unfold ride
  iintro ⟨Ha, -, ⟨Hr, HT⟩, HO⟩
  isplitl [Ha Hr]
  · isplitl [Ha]; · iexact Ha
    iexact Hr
  isplitl [HT]; · iexact HT
  iexact HO

set_option backward.isDefEq.respectTransparency.types false in
theorem chains : Pipeline.Seg.Chains (T₀ m) (items m)
    fun c => iprop(Tₙ m c ∗ ∃ W, owes (c : Thread nD τ) (0 : CellTallies nD τ sig Unit) W) := by
  refine ⟨fun c => .rfl, fun c => ?_, fun c => ?_, reg1_pre m, reg1_post m, fun c => ?_⟩
  · show iprop(StableHlo.held (c : Thread nD τ) (Pipeline.ucRefs τ sig) (V1 m c) ∗ ride m c) ⊢ (reg0 m).pre c
    exact reg0_pre m c
  · show (reg0 m).post c ⊢ iprop(StableHlo.held (c : Thread nD τ) (Pipeline.ucRefs τ sig) (W2 m c) ∗ ride m c)
    exact reg0_post m c
  · show iprop(StableHlo.held (c : Thread nD τ) (Pipeline.ucRefs τ sig) (W5 m c)
        ∗ (semVal (barCell c) 0 ∗ ∃ W, owes (c : Thread nD τ) (0 : CellTallies nD τ sig Unit) W))
      ⊢ iprop(Tₙ m c ∗ ∃ W, owes (c : Thread nD τ) (0 : CellTallies nD τ sig Unit) W)
    iintro ⟨Hh, Hb, HO⟩
    isplitr [HO]
    · isplitl [Hh]; · iexact Hh
      iexact Hb
    · iexact HO

/-! ## No item writes an argument -/

theorem W5_of (c : Dev nD) (r : Ref sig .tc) (h2 : r ∉ hostOps2_W) (h1 : r ∉ hostOps1_W) (h0 : r ∉ hostOps0_W)
    (a1 : ∀ w, Pipeline.arrRef spec1 w = r → (spec1 w).isOut = false) (a0 : ∀ w, Pipeline.arrRef spec0 w = r → (spec0 w).isOut = false) :
    W5 m c (Proc.devRef .tc r) = m ((c : Thread nD τ).loc r) :=
  (StableHlo.after_of_writes_sub hostOps2 (W4 m c) hostOps2_writes h2).trans <|
  (Pipeline.afterRegion_keeps (dat1 (W3 m) c) (W3 m c) arr_inj1 (fun _ => rfl) r a1).trans <|
  (StableHlo.after_of_writes_sub hostOps1 (W2 m c) hostOps1_writes h1).trans <|
  (Pipeline.afterRegion_keeps (dat0 (V1 m) c) (V1 m c) arr_inj0 (fun _ => rfl) r a0).trans <|
  (V1_of m c r h0).trans rfl

/-- The five arguments of a device, and its result. -/
def Ends (s : MemSt nD τ sig (Elt F)) (c : Dev nD) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v35) = W5 m c (Proc.devRef .tc main_v35)

set_option backward.isDefEq.respectTransparency.types false in
/-- The run: from any memory, with every counter at zero, every fair execution of @main on the eight devices ends; the arguments stay as
    they were, the result buffer holds what the last valuation says, and every counter is at zero. -/
theorem run_main [∀ e, Nonempty (Elt F e)] (ρ : Dev nD → PrngReg) : θ_run defs (onTc (τ := τ) (main (F := F))) ⟨m, fun _ => 0, ρ⟩
    (fun r => (∀ c : Dev nD, Ends m r.2 c) ∧ r.2.sem = fun _ => 0) :=
  Pipeline.θ_run_regions_kit_sems (pcfgs (F := F)) adm (pdats m) () cellOf_inj EP defs₀ Variants.none L lv m ρ main (items m)
    (fun c Q => by rw [main_items m])
    (by simp only [items, Pipeline.Seg.pipes_host, Pipeline.Seg.pipes_region, Pipeline.Seg.pipes_nil]; decide)
    (O₀ := O₀) (hL := L_of_ne) (G := GG (F := F)) (u₀ := u₀ (F := F))
    (hu₀ := by
      unfold u₀ GG
      iintro Hu
      ihave H := (ownU_pair _ _) $$ Hu
      icases H with ⟨HP, HX⟩
      imodintro
      isplitl [HP]; · iexact HP
      rw [over_first]; iexact HX)
    (T₀ := T₀ m) (Tₙ := Tₙ m)
    (hch := chains m)
    (hinit := first_states m ρ)
    (QY := fun c s => Ends m s c ∧ s.sem (barCell c) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (W5 m c) s') $$ [Hh HSI]
      · isplitl [Hh]; · iexact Hh
        iexact HSI
      icases Hr with ⟨%h, HSI⟩
      imodintro
      isplitr
      · ipureintro
        have g : ∀ r : Ref sig .tc, ¬ (r.isScoped = true) → s'.mem.mem ((c : Thread nD τ).loc r) = W5 m c (Proc.devRef .tc r) := fun r hr =>
          h (Proc.devRef .tc r) (Finset.mem_filter.mpr ⟨StableHlo.devRef_mem_tcRefs r, hr⟩)
        exact ⟨⟨⟨(g main_arg0 (by decide)).trans (W5_of m c main_arg0 (by decide) (by decide) (by decide) (by decide) (by decide)),
          (g main_arg1 (by decide)).trans (W5_of m c main_arg1 (by decide) (by decide) (by decide) (by decide) (by decide)),
          (g main_arg2 (by decide)).trans (W5_of m c main_arg2 (by decide) (by decide) (by decide) (by decide) (by decide)),
          (g main_arg3 (by decide)).trans (W5_of m c main_arg3 (by decide) (by decide) (by decide) (by decide) (by decide)),
          (g main_arg4 (by decide)).trans (W5_of m c main_arg4 (by decide) (by decide) (by decide) (by decide) (by decide))⟩,
          g main_v35 (by decide)⟩, by simpa using hb⟩
      iexact HSI)
    (hQ := fun s h hs => ⟨fun c => (h c).1, sem_eq_zero hs fun c sm hsm => by
        obtain rfl := unscoped_eq sm hsm
        exact (h c).2⟩)

end Cert.KernelIdeal.Gen
-- ==== Proof.Same.lean ====
/-
  The program as printed and its idealization are the same text, declared twice. Here their functions and
  their main programs are shown to be equal, so that a run of the one is a run of the other.
-/
module

public import proofs.«01_k».proof.Kernel
public import proofs.«01_k».proof.KernelIdeal
public import proofs.«01_k».proof.Proof.Gen.Kernel
public import proofs.«01_k».proof.Proof.Gen.KernelIdeal

@[expose] public section

namespace Cert.Same

open Idealize.ShloMosaic

variable {F : FTy → Type} [FloatOps F]

set_option maxRecDepth 100000 in
set_option maxHeartbeats 8000000 in
/-- The two kernels' bodies agree. -/
theorem bodies : (Cert.Kernel.defs₀ (F := F)) = (Cert.KernelIdeal.defs₀ (F := F)) := by
  refine congrArg Defs.onTc (funext fun l => ?_)
  match l with
  | ⟨0, _⟩ =>
    refine funext fun x => ?_
    obtain ⟨t, s⟩ := x
    show Cert.Kernel.cc0__attn_body _ _ _ _ _ _ _ _ _ _ _ _ = Cert.KernelIdeal.cc0__attn_body _ _ _ _ _ _ _ _ _ _ _ _
    rfl
  | ⟨1, _⟩ =>
    refine funext fun x => ?_
    obtain ⟨t, s⟩ := x
    show Cert.Kernel.cc1__combine_body _ _ _ _ _ _ _ _ _ _ _ _ _ _ _ _ _ _ _ _ _ _ _ _ _ _ _ _ _ _ _ _ _ _ _ _ _ _ _ _ _ _ _ _ = Cert.KernelIdeal.cc1__combine_body _ _ _ _ _ _ _ _ _ _ _ _ _ _ _ _ _ _ _ _ _ _ _ _ _ _ _ _ _ _ _ _ _ _ _ _ _ _ _ _ _ _ _ _
    rfl
  | ⟨_ + 2, h⟩ => exact absurd h (Nat.not_lt.2 (Nat.le_add_left _ _))

/-- So do all their functions. -/
theorem functions : (Cert.Kernel.defs (F := F)) = (Cert.KernelIdeal.defs (F := F)) := congrArg (Pipeline.defs _) bodies

set_option maxHeartbeats 8000000 in
/-- So do the main programs. -/
theorem mains : (Cert.Kernel.main (F := F)) = (Cert.KernelIdeal.main (F := F)) := rfl

end Cert.Same
-- ==== Proof.ValAttn.lean ====
/-
  What the attention region computes over the extended reals: for every head and every group of 512 permuted rows, the
  sums of the exponentials of the scores, plain and weighted by the values.
-/
module

public import proofs.«01_k».proof.Proof.Quiet
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe
open Idealize.SL
open Idealize.SL.Sem

variable {F : FTy → Type} [FloatOps F]

/-- The weights of one head and one group of rows: the exponentials of the scaled scores. -/
def wts (q : FVec F S2048x1024 .bf16) (o : Fin 2 → ℕ) (h : S2048x1024.Slices o S512x128) (k : Vec F S512x128 .bf16) : FVec F S512x512 .f32 :=
  exp (mulf (matmul dot_S512x128_S512x128_S512x512_1_1_0_0_n_n none (extractStridedSlice S512x128 o q h)
    (shapeCast S512x128 k shapeCasts_S512x128_S512x128) (constant S512x512 .f32 0x00000000#32))
    (broadcast S512x512 (Scalar.ofBits .f32 0x3DB504F3#32)))
/-- The values so weighted. -/
def wvs (p : FVec F S512x512 .f32) (v : Vec F S512x128 .bf16) : FVec F S512x128 .bf16 :=
  truncf .bf16 (matmul dot_S512x512_S512x128_S512x128_1_0_0_1_n_n none (truncf .bf16 p bitsLt_bf16_f32)
    (shapeCast S512x128 v shapeCasts_S512x128_S512x128) (constant S512x128 .f32 0x00000000#32)) bitsLt_bf16_f32
/-- The weights added. -/
def wss (p : FVec F S512x512 .f32) : FVec F S512x1 .f32 :=
  shapeCast S512x1 (multiReduction .add [1] S512 p 0x00000000#32 reduces_S512x512_S512 (.inl rfl) rfl) shapeCasts_S512_S512x1

/-- The scale. -/
def scale : EReal := Ideal.ofBits .f32 0x3DB504F3#32

/-- The weights at an entry, -/
theorem wts_at (q : FVec Ideal S2048x1024 .bf16) (o : Fin 2 → ℕ) (h) (k : Vec Ideal S512x128 .bf16) (a b : Fin 512) (i : Fin 2048)
    (e : Fin 128 → Fin 1024) (hi : i.val = o 0 + a.val) (he : ∀ d, (e d).val = o 1 + d.val) :
    wts q o h k (ix2 a b) = Ideal.exp ((∑ d : Fin 128, q (ix2 i (e d)) * k (ix2 b d)) * scale) := by
  pointwise [wts]
  refine congrArg Ideal.exp (congrArg (fun z : EReal => z * scale) (Finset.sum_congr rfl fun d _ => ?_))
  refine congrArg (fun z : EReal => z * k (ix2 b d)) (congrArg q ?_)
  exact congrArg₂ ix2 (Fin.ext hi.symm) (Fin.ext (he d).symm)
/-- the weighted values, -/
theorem wvs_at (p : FVec Ideal S512x512 .f32) (v : Vec Ideal S512x128 .bf16) (a : Fin 512) (d : Fin 128) :
    wvs p v (ix2 a d) = ∑ b : Fin 512, p (ix2 a b) * v (ix2 b d) := by
  pointwise [wvs]
/-- the sums of the weights. -/
theorem wss_at (p : FVec Ideal S512x512 .f32) (a : Fin 512) (z : Fin 1) : wss p (ix2 a z) = ∑ b : Fin 512, p (ix2 a b) := by
  pointwise [wss]

/-- The projected queries. -/
theorem query_at (x : Vec Ideal S2048x1024 .bf16) (w : Vec Ideal S1024x1024 .bf16) (i : Fin 2048) (e : Fin 1024) :
    k0_pay4 x w (ix2 i e) = ∑ k : Fin 1024, x (ix2 i k) * w (ix2 k e) := by
  pointwise [k0_pay4]

/-- A group of rows, and a head's columns. -/
def grow (r : Fin 4) (a : Fin 512) : Fin 2048 := ⟨512 * r.val + a.val, by omega⟩
/-- A head's column. -/
def hcol (h : Fin 8) (d : Fin 128) : Fin 1024 := ⟨128 * h.val + d.val, by omega⟩

variable (x : Vec Ideal S2048x1024 .bf16) (w : Vec Ideal S1024x1024 .bf16) (k v : Vec Ideal S2048x1024 .bf16)

/-- The weight of a key for a row, by group and head. -/
def wt (r : Fin 4) (h : Fin 8) (a b : Fin 512) : EReal :=
  Ideal.exp ((∑ d : Fin 128, (∑ e : Fin 1024, x (ix2 (grow r a) e) * w (ix2 e (hcol h d))) * k (ix2 (grow r b) (hcol h d))) * scale)

variable (c : Dev nD)

/-- A block of 512 rows and 128 columns, at an entry. -/
theorem ld_block (f : Vec Ideal S2048x1024 .bf16) (o : Fin 2 → ℕ) (hb) (r : Fin 4) (h : Fin 8) (h0 : o 0 = 512 * r.val) (h1 : o 1 = 128 * h.val)
    (b : Fin 512) (d : Fin 128) : View.ld f (Rect.unit (s := S2048x1024) o S512x128.size hb) (ix2 b d) = f (ix2 (grow r b) (hcol h d)) := by
  refine congrArg f (funext fun a => Fin.ext ?_)
  show o a + 1 * (ix2 b d a).val = _
  rw [Nat.one_mul]
  fin_cases a
  · show o 0 + b.val = 512 * r.val + b.val; rw [h0]
  · show o 1 + d.val = 128 * h.val + d.val; rw [h1]

/-- A stored piece. -/
theorem piece_at (o : Fin 2 → ℕ) (hs hb) (r : Fin 4) (h : Fin 8) (h0 : o 0 = 512 * r.val) (h1 : o 1 = 128 * h.val) (a : Fin 512) (d : Fin 128) :
    wvs (wts (k0_pay4 x w) o hs (View.ld k (Rect.unit (s := S2048x1024) o S512x128.size hb)))
      (View.ld v (Rect.unit (s := S2048x1024) o S512x128.size hb)) (ix2 a d)
      = ∑ b : Fin 512, wt x w k r h a b * v (ix2 (grow r b) (hcol h d)) := by
  rw [wvs_at]
  refine Finset.sum_congr rfl fun b _ => ?_
  rw [wts_at _ _ _ _ a b (grow r a) (hcol h) (by rw [h0]; rfl) (fun d => by rw [h1]; rfl), ld_block v o hb r h h0 h1]
  unfold wt
  refine congrArg (fun z : EReal => Ideal.exp (z * scale) * v (ix2 (grow r b) (hcol h d))) (Finset.sum_congr rfl fun d _ => ?_)
  rw [ld_block k o hb r h h0 h1, query_at]

/-- and the sums of the weights. -/
theorem sums_at (o : Fin 2 → ℕ) (hs hb) (r : Fin 4) (h : Fin 8) (h0 : o 0 = 512 * r.val) (h1 : o 1 = 128 * h.val) (a : Fin 512) (z : Fin 1) :
    wss (wts (k0_pay4 x w) o hs (View.ld k (Rect.unit (s := S2048x1024) o S512x128.size hb))) (ix2 a z) = ∑ b : Fin 512, wt x w k r h a b := by
  rw [wss_at]
  refine Finset.sum_congr rfl fun b _ => ?_
  rw [wts_at _ _ _ _ a b (grow r a) (hcol h) (by rw [h0]; rfl) (fun d => by rw [h1]; rfl)]
  unfold wt
  refine congrArg (fun z : EReal => Ideal.exp (z * scale)) (Finset.sum_congr rfl fun d _ => ?_)
  rw [ld_block k o hb r h h0 h1, query_at]

end Cert.KernelIdeal.Gen
-- ==== Proof.ValHost.lean ====
/-
  What the host makes of the arguments before the two regions: blocks of 64 rows gathered in the order of the permutation.
-/
module

public import proofs.«01_k».proof.Proof.ValAttn
public import Idealize.ShloMosaic.Lib.StableHlo.ReadAt

@[expose] public section

set_option maxRecDepth 16384

noncomputable section

namespace Cert.KernelIdeal.Gen

open Idealize.ShloMosaic Idealize.ShloMosaic.TcCoe
open Idealize.SL
open Idealize.SL.Sem

/-- The row that the permutation puts at place `p`. -/
def orow (p : Fin 2048) : Fin 2048 := ⟨64 * (p.val / 64 % 8 * 4 + p.val / 64 / 8) + p.val % 64, by omega⟩

/-- The gather over blocks: where the words hold a block's number, that block. -/
theorem gather_block {α : Type} (x : S32x64x1024.Idx → α) (idx : IVec S32x1 32) (p b : Fin 32) (hb : idx (ix2 p 0) = BitVec.ofNat 32 b.val)
    (j : Fin 64) (k : Fin 1024) :
    Host.gather gather_S32x64x1024_S32x1_S32x64x1024_12_0_n_n_0_1_1641024 x idx (ix3 p j k) = x (ix3 b j k) := by
  unfold Host.gather
  refine congrArg x (funext fun a => Fin.ext ?_)
  have hi : ∀ h, gather_S32x64x1024_S32x1_S32x64x1024_12_0_n_n_0_1_1641024.siIdx (ix3 p j k) ⟨0, h⟩ = ix2 p 0 := fun h => by
    funext b'; fin_cases b' <;> rfl
  have hn : ∀ b : Fin 32, min (BitVec.ofNat 32 b.val).toInt.toNat 31 = b.val := by decide
  match a with
  | ⟨0, _⟩ =>
    show min (idx (gather_S32x64x1024_S32x1_S32x64x1024_12_0_n_n_0_1_1641024.siIdx (ix3 p j k) ⟨0, by decide⟩)).toInt.toNat 31 + 0 + 0 = b.val
    rw [hi, hb, hn]; rfl
  | ⟨1, _⟩ => show 0 + 0 + j.val = j.val; omega
  | ⟨2, _⟩ => show 0 + 0 + k.val = k.val; omega

/-- The words of the permutation. -/
abbrev words : IVec S32x1 32 := broadcastInDim S32x1 ![0] bcast_S32_S32x1_0
  (select (cmpi .slt (fun i => lit0 (S32.rowMajor i)) (broadcastInDim S32 ![] bcast_S_S32 (constantI S_ 32 0#32)))
    (addi (fun i => lit0 (S32.rowMajor i)) (broadcastInDim S32 ![] bcast_S_S32 (constantI S_ 32 32#32))) fun i => lit0 (S32.rowMajor i))
/-- The permutation's word at a place. -/
theorem words_at (p : Fin 32) : words (ix2 p 0) = BitVec.ofNat 32 (p.val % 8 * 4 + p.val / 8) := by
  pointwise
  revert p
  decide

/-- An array cut into blocks of 64 rows, gathered and put together again, at a row. -/
theorem permuted {α : Type} (x : S32x64x1024.Idx → α) (p : Fin 2048) (k : Fin 1024) (h0 h1) :
    Host.gather gather_S32x64x1024_S32x1_S32x64x1024_12_0_n_n_0_1_1641024 x words (ix3 ⟨p.val / 64, h0⟩ ⟨p.val % 64, h1⟩ k)
      = x (ix3 ⟨p.val / 64 % 8 * 4 + p.val / 64 / 8, by omega⟩ ⟨p.val % 64, h1⟩ k) :=
  gather_block x words _ ⟨p.val / 64 % 8 * 4 + p.val / 64 / 8, by omega⟩ (words_at _) _ _

variable (m : (ℓ : Loc nD τ sig) → Buf (Elt Ideal) ℓ) (c : Dev nD)

/-- The arguments as the device holds them. -/
abbrev inX : Vec Ideal S1x2048x1024 .f32 := m ((c : Thread nD τ).loc main_arg0)
/-- The query weights. -/
abbrev inQ : Vec Ideal S1024x1024 .f32 := m ((c : Thread nD τ).loc main_arg1)
/-- The device's keys. -/
abbrev inK : Vec Ideal S1x2048x8x128 .f32 := m ((c : Thread nD τ).loc main_arg2)
/-- The device's values. -/
abbrev inV : Vec Ideal S1x2048x8x128 .f32 := m ((c : Thread nD τ).loc main_arg3)
/-- The output projection. -/
abbrev inW : Vec Ideal S1024x1024 .f32 := m ((c : Thread nD τ).loc main_arg4)

/-- The inputs permuted, at an entry; -/
theorem v10_at (p : Fin 2048) (k : Fin 1024) :
    @Eq EReal (V1 m c (Proc.devRef .tc main_v10) (ix2 p k)) (inX m c (ix3 0 (orow p) k)) := by
  unfold V1
  after_reads_at
  refine (permuted (α := EReal) _ p k _ _).trans (congrArg (inX m c) ?_)
  exact congrArg (fun r => ix3 0 r k) (Fin.ext (by show (p.val / 64 % 8 * 4 + p.val / 64 / 8) * 64 + p.val % 64 = 64 * _ + _; rw [Nat.mul_comm]))
/-- the keys permuted, -/
theorem v20_at (p : Fin 2048) (k : Fin 1024) :
    @Eq EReal (V1 m c (Proc.devRef .tc main_v20) (ix2 p k)) (inK m c (ix4 0 (orow p) ⟨k.val / 128, by omega⟩ ⟨k.val % 128, by omega⟩)) := by
  unfold V1
  after_reads_at
  refine (permuted (α := EReal) _ p k _ _).trans (congrArg (inK m c) ?_)
  exact congrArg (fun r => ix4 0 r _ _) (Fin.ext (by show (p.val / 64 % 8 * 4 + p.val / 64 / 8) * 64 + p.val % 64 = 64 * _ + _; rw [Nat.mul_comm]))
/-- the values permuted, -/
theorem v30_at (p : Fin 2048) (k : Fin 1024) :
    @Eq EReal (V1 m c (Proc.devRef .tc main_v30) (ix2 p k)) (inV m c (ix4 0 (orow p) ⟨k.val / 128, by omega⟩ ⟨k.val % 128, by omega⟩)) := by
  unfold V1
  after_reads_at
  refine (permuted (α := EReal) _ p k _ _).trans (congrArg (inV m c) ?_)
  exact congrArg (fun r => ix4 0 r _ _) (Fin.ext (by show (p.val / 64 % 8 * 4 + p.val / 64 / 8) * 64 + p.val % 64 = 64 * _ + _; rw [Nat.mul_comm]))
/-- and the query weights, which stay. -/
theorem v31_at (p : Fin 1024) (k : Fin 1024) :
    @Eq EReal (V1 m c (Proc.devRef .tc main_v31) (ix2 p k)) (inQ m c (ix2 p k)) := by
  unfold V1
  after_reads_at

end Cert.KernelIdeal.Gen
-- ==== Proof.ValTiles.lean ====
/-
  What the attention region leaves in its two result buffers.
-/
module

public import proofs.«01_k».proof.Proof.ValAttn

@[expose] public section

set_option maxRecDepth 16384

noncomputable section

namespace Cert.KernelIdeal.Gen

open Idealize.ShloMosaic Idealize.ShloMosaic.TcCoe
open Idealize.SL
open Idealize.SL.Sem

section
variable (X : Vec Ideal S2048x1024 .bf16) (W : Vec Ideal S1024x1024 .bf16) (K U : Vec Ideal S2048x1024 .bf16)

/-- The group of a row, the row in it, and the column in a head. -/
def grpOf (p : Fin 2048) : Fin 4 := ⟨p.val / 512, by omega⟩
/-- The row in its group. -/
def inGrp (p : Fin 2048) : Fin 512 := ⟨p.val % 512, by omega⟩
/-- The head of a column. -/
def colHead (e : Fin 1024) : Fin 8 := ⟨e.val / 128, by omega⟩

/-- The weighted values at a row and a column, the sums at a row and a head. -/
def attO (y : S2048x1024.Idx) : EReal :=
  ∑ b : Fin 512, wt X W K (grpOf (y 0)) (colHead (y 1)) (inGrp (y 0)) b * U (ix2 (grow (grpOf (y 0)) b) (y 1))
/-- The sum of the weights at a row and a head. -/
def attL (y : S2048x8.Idx) : EReal := ∑ b : Fin 512, wt X W K (grpOf (y 0)) (y 1) (inGrp (y 0)) b

/-- One head of one group, as stored: the weighted values at a row and a column, -/
theorem piece_p (o : Fin 2 → ℕ) (hs hb) (a : Fin 512) (d : Fin 128) (p : Fin 2048) (e : Fin 1024) (o0 : o 0 % 512 = 0) (o1 : o 1 % 128 = 0)
    (h0 : p.val = o 0 + a.val) (h1 : e.val = o 1 + d.val) :
    wvs (wts (k0_pay4 X W) o hs (View.ld K (Rect.unit (s := S2048x1024) o S512x128.size hb)))
      (View.ld U (Rect.unit (s := S2048x1024) o S512x128.size hb)) (ix2 a d) = attO X W K U (ix2 p e) := by
  rw [piece_at X W K U o hs hb (grpOf p) (colHead e) (by show _ = 512 * (p.val / 512); omega)
    (by show _ = 128 * (e.val / 128); omega)]
  have ha : a = inGrp p := Fin.ext (by show a.val = p.val % 512; omega)
  have hc : hcol (colHead e) d = e := Fin.ext (by show 128 * (e.val / 128) + d.val = e.val; omega)
  rw [ha, hc]
  rfl
/-- the same at an index of the whole array. -/
theorem piece_y (o : Fin 2 → ℕ) (hs hb) (z : S512x128.Idx) (y : S2048x1024.Idx) (o0 : o 0 % 512 = 0) (o1 : o 1 % 128 = 0)
    (h0 : (y 0).val = o 0 + (z 0).val) (h1 : (y 1).val = o 1 + (z 1).val) :
    wvs (wts (k0_pay4 X W) o hs (View.ld K (Rect.unit (s := S2048x1024) o S512x128.size hb)))
      (View.ld U (Rect.unit (s := S2048x1024) o S512x128.size hb)) z = attO X W K U y := by
  rw [eq_ix2 z, eq_ix2 y]
  exact piece_p X W K U o hs hb (z 0) (z 1) (y 0) (y 1) o0 o1 h0 h1

/-- Eight columns side by side, read at one of them. -/
theorem eight_eq (g0 g1 g2 g3 g4 g5 g6 g7 : FVec Ideal S512x1 .f32) (z : S512x8.Idx) (T : Fin 8 → EReal)
    (e0 : g0 (ix2 (z 0) 0) = T 0) (e1 : g1 (ix2 (z 0) 0) = T 1) (e2 : g2 (ix2 (z 0) 0) = T 2) (e3 : g3 (ix2 (z 0) 0) = T 3)
    (e4 : g4 (ix2 (z 0) 0) = T 4) (e5 : g5 (ix2 (z 0) 0) = T 5) (e6 : g6 (ix2 (z 0) 0) = T 6) (e7 : g7 (ix2 (z 0) 0) = T 7) :
    concatenate S512x8 1 [⟨S512x1, g0⟩, ⟨S512x1, g1⟩, ⟨S512x1, g2⟩, ⟨S512x1, g3⟩, ⟨S512x1, g4⟩, ⟨S512x1, g5⟩, ⟨S512x1, g6⟩, ⟨S512x1, g7⟩]
      concatenates_S512x1_S512x1_S512x1_S512x1_S512x1_S512x1_S512x1_S512x1_S512x8_d1 z = T (z 1) := by
  obtain ⟨a, h, rfl⟩ : ∃ (a : Fin 512) (h : Fin 8), z = ix2 a h := ⟨z 0, z 1, eq_ix2 z⟩
  pointwise
  fin_vals h with hk
  all_goals simp only [hk, Nat.reduceSub, Nat.reduceLT, ↓reduceDIte]
  · exact e0.trans (congrArg T (Fin.ext hk.symm))
  · exact e1.trans (congrArg T (Fin.ext hk.symm))
  · exact e2.trans (congrArg T (Fin.ext hk.symm))
  · exact e3.trans (congrArg T (Fin.ext hk.symm))
  · exact e4.trans (congrArg T (Fin.ext hk.symm))
  · exact e5.trans (congrArg T (Fin.ext hk.symm))
  · exact e6.trans (congrArg T (Fin.ext hk.symm))
  · exact e7.trans (congrArg T (Fin.ext hk.symm))

/-- The sums of a group of rows, by head, are those of the row. -/
theorem sums_y (r : Fin 4) (z : S512x8.Idx) (y : S2048x8.Idx) (h0 : (y 0).val = 512 * r.val + (z 0).val) (h1 : (y 1).val = (z 1).val) :
    (∑ b : Fin 512, wt X W K r (z 1) (z 0) b) = attL X W K y := by
  have hz : (z 0).val < 512 := (z 0).2
  have e1 : (z 1 : Fin 8) = y 1 := Fin.ext h1.symm
  have e0 : (z 0 : Fin 512) = inGrp (y 0) := Fin.ext (by show (z 0).val = (y 0).val % 512; omega)
  have er : r = grpOf (y 0) := Fin.ext (by show r.val = (y 0).val / 512; omega)
  rw [e1, e0, er]
  rfl

end

/-- What the first call leaves: the weighted values at an index, -/
theorem attnO_at (V : Dev nD → Valuation τ sig (Elt Ideal)) (c : Dev nD) (y : S2048x1024.Idx) :
    (ran0 V c).1.1 y = attO (fed0_0 V c) (fed0_1 V c) (fed0_2 V c) (fed0_3 V c) y := by
  unfold ran0 attnRun
  refine (View.read_writes_junk_apply_eq_canon (Val := Elt Ideal) (View.whole cc0_stg4_0) y _).trans ?_
  frame_out
  canon_tiles x h
  all_goals
    refine piece_y (fed0_0 V c) (fed0_1 V c) (fed0_2 V c) (fed0_3 V c) _ ?_ _ x y ?_ ?_ ?_ ?_
  all_goals first | rfl | assumption | exact h0.trans (Nat.zero_add _).symm | exact h1.trans (Nat.zero_add _).symm | decide

set_option maxHeartbeats 2000000 in
/-- and the sums of the weights. -/
theorem attnL_at (V : Dev nD → Valuation τ sig (Elt Ideal)) (c : Dev nD) (y : S2048x8.Idx) :
    (ran0 V c).1.2 y = attL (fed0_0 V c) (fed0_1 V c) (fed0_2 V c) y := by
  unfold ran0 attnRun
  refine (View.read_writes_junk_apply_eq_canon (Val := Elt Ideal) (View.whole cc0_stg5_0) y _).trans ?_
  frame_out
  canon_tiles x h
  · refine Eq.trans (eight_eq _ _ _ _ _ _ _ _ x (fun h => ∑ b : Fin 512, wt (fed0_0 V c) (fed0_1 V c) (fed0_2 V c) 3 h (x 0) b) ?_ ?_ ?_ ?_ ?_ ?_ ?_ ?_)
      (sums_y (fed0_0 V c) (fed0_1 V c) (fed0_2 V c) 3 x y h0 h1)
    all_goals exact sums_at (fed0_0 V c) (fed0_1 V c) (fed0_2 V c) _ _ _ 3 _ rfl rfl (x 0) 0
  · refine Eq.trans (eight_eq _ _ _ _ _ _ _ _ x (fun h => ∑ b : Fin 512, wt (fed0_0 V c) (fed0_1 V c) (fed0_2 V c) 2 h (x 0) b) ?_ ?_ ?_ ?_ ?_ ?_ ?_ ?_)
      (sums_y (fed0_0 V c) (fed0_1 V c) (fed0_2 V c) 2 x y h0 h1)
    all_goals exact sums_at (fed0_0 V c) (fed0_1 V c) (fed0_2 V c) _ _ _ 2 _ rfl rfl (x 0) 0
  · refine Eq.trans (eight_eq _ _ _ _ _ _ _ _ x (fun h => ∑ b : Fin 512, wt (fed0_0 V c) (fed0_1 V c) (fed0_2 V c) 1 h (x 0) b) ?_ ?_ ?_ ?_ ?_ ?_ ?_ ?_)
      (sums_y (fed0_0 V c) (fed0_1 V c) (fed0_2 V c) 1 x y h0 h1)
    all_goals first
      | exact sums_at (fed0_0 V c) (fed0_1 V c) (fed0_2 V c) _ _ _ 1 _ rfl rfl (x 0) 0
      | exact sums_at (fed0_0 V c) (fed0_1 V c) (fed0_2 V c) _ (by decide) _ 1 _ rfl rfl (x 0) 0
  · refine Eq.trans (eight_eq _ _ _ _ _ _ _ _ x (fun h => ∑ b : Fin 512, wt (fed0_0 V c) (fed0_1 V c) (fed0_2 V c) 0 h (x 0) b) ?_ ?_ ?_ ?_ ?_ ?_ ?_ ?_)
      (sums_y (fed0_0 V c) (fed0_1 V c) (fed0_2 V c) 0 x y (h0.trans (Nat.zero_add _).symm) h1)
    all_goals first
      | exact sums_at (fed0_0 V c) (fed0_1 V c) (fed0_2 V c) _ _ _ 0 _ rfl rfl (x 0) 0
      | exact sums_at (fed0_0 V c) (fed0_1 V c) (fed0_2 V c) _ (by decide) _ 0 _ rfl rfl (x 0) 0

end Cert.KernelIdeal.Gen
-- ==== Proof.ValComb.lean ====
/-
  What the combine region computes over the extended reals: every device ends with the sum over the devices of the
  partial outputs and sums of its own chunk, divided head by head and multiplied by the output projection.
-/
module

public import proofs.«01_k».proof.Proof.Cover
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe
open Idealize.SL
open Idealize.SL.Sem

/-! ## The trees as sums -/

/-- One stage of a tree at one element, values in any type with an addition. -/
def gadd {M : Type} [Add M] (t : Fin 2) (k : Fin 3) (x : Fin 8 → M) (r : ℕ → M) (l : List { j : Fin 4 // j.val < nn 0 k }) : Fin 8 → M :=
  l.foldl (fun x j => Function.update x (sp t k j.1.val) (x (sp t k j.1.val) + r j.1.val)) x
/-- One stage: every device adds what its partner holds. -/
def gstep {M : Type} [Add M] (t : Fin 2) (k : Fin 3) (x : Dev nD → Fin 8 → M) : Dev nD → Fin 8 → M := fun c =>
  gadd t k (x c) (fun j => x (pt (t, 0, k) c) (sn t k j)) (slots k)
/-- The whole tree at one element. -/
def gtree {M : Type} [Add M] (t : Fin 2) (x : Dev nD → Fin 8 → M) : Dev nD → Fin 8 → M := gstep t 2 (gstep t 1 (gstep t 0 x))

/-- A stage's additions at an entry: of the weighted values, -/
theorem addO_at (t : Fin 2) (k : Fin 3) (r : ℕ → Vec Ideal (Sh 256 512) .bf16) (y) (l) : ∀ (X : Fin 8 → Vec Ideal (Sh 256 512) .f32) (s : Fin 8),
    addO t k X r l s y = gadd (M := EReal) t k (fun s => X s y) (fun j => r j y) l s := by
  induction l with
  | nil => intro X s; rfl
  | cons j l ih =>
    intro X s
    refine (ih _ s).trans ?_
    refine congrArg (fun z => gadd (M := EReal) t k z (fun j => r j y) l s) ?_
    funext s'
    beta_reduce
    by_cases h : s' = sp t k j.1.val
    · subst h; rw [Function.update_self, Function.update_self]; pointwise [k1_pay23]
    · rw [Function.update_of_ne h, Function.update_of_ne h]
/-- of the sums. -/
theorem addL_at (t : Fin 2) (k : Fin 3) (r : ℕ → Vec Ideal (Sh 256 4) .f32) (y) (l) : ∀ (X : Fin 8 → Vec Ideal (Sh 256 4) .f32) (s : Fin 8),
    addL t k X r l s y = gadd (M := EReal) t k (fun s => X s y) (fun j => r j y) l s := by
  induction l with
  | nil => intro X s; rfl
  | cons j l ih =>
    intro X s
    refine (ih _ s).trans ?_
    refine congrArg (fun z => gadd (M := EReal) t k z (fun j => r j y) l s) ?_
    funext s'
    beta_reduce
    by_cases h : s' = sp t k j.1.val
    · subst h; rw [Function.update_self, Function.update_self]; pointwise [k1_pay22]
    · rw [Function.update_of_ne h, Function.update_of_ne h]

/-- What is packed for sending has the same entries: of the weighted values, -/
theorem pay5_at (x : Vec Ideal (Sh 256 512) .f32) (y) : k1_pay5 x y = x y := by pointwise [k1_pay5]
/-- of the sums. -/
theorem pay6_at (x : Vec Ideal (Sh 256 4) .f32) (y) : k1_pay6 x y = x y := by pointwise [k1_pay6]

/-- A stage on the weighted values, at an entry; -/
theorem stepO_at (t : Fin 2) (k : Fin 3) (X : StO Ideal) (y) :
    (fun c s => stepO t k X c s y) = gstep (M := EReal) t k (fun c s => X c s y) := by
  funext c s
  unfold stepO gstep
  rw [addO_at]
  congr 1
  funext j
  exact pay5_at _ _
/-- on the sums. -/
theorem stepL_at (t : Fin 2) (k : Fin 3) (X : StL Ideal) (y) :
    (fun c s => stepL t k X c s y) = gstep (M := EReal) t k (fun c s => X c s y) := by
  funext c s
  unfold stepL gstep
  rw [addL_at]
  congr 1
  funext j
  refine (pay6_at _ _).trans ?_
  have : pt (t, 1, k) c = pt (t, 0, k) c := rfl
  rw [this]

/-- After the three stages the weighted values are the tree of additions, entry by entry; -/
theorem AO_at (I : Ins Ideal) (t : Fin 2) (y) (c s) : AO I t 3 c s y = gtree (M := EReal) t (fun c s => O0 I t c s y) c s := by
  have h := congrFun (congrFun (stepO_at t 2 (stepO t 1 (stepO t 0 (O0 I t))) y) c) s
  rw [stepO_at, stepO_at] at h
  exact h
/-- the sums too. -/
theorem AL_at (I : Ins Ideal) (t : Fin 2) (y) (c s) : AL I t 3 c s y = gtree (M := EReal) t (fun c s => L0 I t c s y) c s := by
  have h := congrFun (congrFun (stepL_at t 2 (stepL t 1 (stepL t 0 (L0 I t))) y) c) s
  rw [stepL_at, stepL_at] at h
  exact h

/-- The trees' first slots written out. -/
theorem gtree0 {M : Type} [Add M] (x : Dev nD → Fin 8 → M) (c : Dev nD) :
    gtree 0 x c 0 = ((x c 0 + x (pr 0 c) 1) + (x (pr 1 c) 3 + x (pr 0 (pr 1 c)) 2))
      + ((x (pr 2 c) 4 + x (pr 0 (pr 2 c)) 5) + (x (pr 1 (pr 2 c)) 7 + x (pr 0 (pr 1 (pr 2 c))) 6)) := rfl
/-- and for the second. -/
theorem gtree1 {M : Type} [Add M] (x : Dev nD → Fin 8 → M) (c : Dev nD) :
    gtree 1 x c 0 = ((x c 0 + x (pr 2 c) 4) + (x (pr 0 c) 1 + x (pr 2 (pr 0 c)) 5))
      + ((x (pr 1 c) 3 + x (pr 2 (pr 1 c)) 7) + (x (pr 0 (pr 1 c)) 2 + x (pr 2 (pr 0 (pr 1 c))) 6)) := rfl

/-- The eight devices as one device's partners. -/
theorem partners : ∀ c : Dev nD, c = xr 0 c ∧ pr 0 c = xr 1 c ∧ pr 0 (pr 1 c) = xr 2 c ∧ pr 1 c = xr 3 c ∧ pr 2 c = xr 4 c
    ∧ pr 0 (pr 2 c) = xr 5 c ∧ pr 0 (pr 1 (pr 2 c)) = xr 6 c ∧ pr 1 (pr 2 c) = xr 7 c ∧ pr 2 (pr 0 c) = xr 5 c
    ∧ pr 2 (pr 1 c) = xr 7 c ∧ pr 2 (pr 0 (pr 1 c)) = xr 6 c := by decide +kernel
/-- Exclusive or of device numbers: applied twice it gives back, -/
theorem xr_xr : ∀ s c : Dev nD, xr (xr s c) c = s := by decide +kernel
/-- and it commutes. -/
theorem xr_swap : ∀ s c : Dev nD, xr c s = xr s c := by decide +kernel

/-- The tree's first slot: the chunk's value on every device. -/
theorem gtree_zero {M : Type} [AddCommMonoid M] (t : Fin 2) (x : Dev nD → Fin 8 → M) (c : Dev nD) :
    gtree t x c 0 = ∑ c' : Dev nD, x c' (xr c c') := by
  have hs : (∑ c' : Dev nD, x c' (xr c c')) = ∑ s : Fin 8, x (xr s c) s := by
    refine (Fintype.sum_bijective (fun s : Fin 8 => xr s c) ?_ _ _ fun s => ?_).symm
    · exact Function.Involutive.bijective fun s => xr_xr s c
    · show x (xr s c) s = x (xr s c) (xr c (xr s c))
      rw [xr_swap (xr s c) c, xr_xr]
  rw [hs, Fin.sum_univ_eight]
  obtain ⟨e0, e1, e2, e3, e4, e5, e6, e7, e8, e9, ea⟩ := partners c
  rw [← e0, ← e1, ← e2, ← e3, ← e4]
  fin_cases t
  · refine (gtree0 x c).trans ?_
    rw [← e5, ← e6, ← e7]; ac_rfl
  · refine (gtree1 x c).trans ?_
    rw [← e8, ← e9, ← ea]; ac_rfl

/-- Where a chunk starts: of the weighted values, -/
theorem offO_val : ∀ (t : Fin 2) (c : Dev nD) (s : Fin 8), offO t c s = ![256 * (xr s c).val, 512 * t.val] := by decide +kernel
/-- of the sums. -/
theorem offL_val : ∀ (t : Fin 2) (c : Dev nD) (s : Fin 8), offL t c s = ![256 * (xr s c).val, 4 * t.val] := by decide +kernel

/-- What is accumulated to begin with has the operand's entries, -/
theorem pay3_at (x : Vec Ideal S2048x1024 .bf16) (y) : k1_pay3 x y = x y := by pointwise [k1_pay3]
/-- the sums too. -/
theorem pay4_at (x : Vec Ideal S2048x8 .f32) (y) : k1_pay4 x y = x y := by pointwise [k1_pay4]

/-- A chunk's row of the permuted rows. -/
def crow (c : Dev nD) (a : Fin 256) : Fin 2048 := ⟨256 * c.val + a.val, by have : c.val < 8 := c.isLt; omega⟩

/-- An index of a block, in the whole array. -/
theorem emb_val {R C R' C' : ℕ} (o : Fin 2 → ℕ) (h : Fits R C o R' C') (y : (Sh R' C').Idx) (j : (Sh R C).Idx)
    (h0 : o 0 + (y 0).val = (j 0).val) (h1 : o 1 + (y 1).val = (j 1).val) : (bx o R' C' h).emb y = j := by
  refine funext fun a => Fin.ext ?_
  show o a + 1 * (y a).val = (j a).val
  rw [Nat.one_mul]
  fin_cases a
  · exact h0
  · exact h1

/-- A chunk before the exchange, at an entry: of the weighted values, -/
theorem O0_at (I : Ins Ideal) (t : Fin 2) (c c' : Dev nD) (a : Fin 256) (b : Fin 512) (e : Fin 1024) (he : e.val = 512 * t.val + b.val) :
    O0 I t c' (xr c c') (ix2 a b) = I.o c' (ix2 (crow c a) e) := by
  refine (pay3_at _ _).trans (congrArg _ ?_)
  refine emb_val _ _ _ _ ?_ ?_
  · rw [offO_val, xr_xr]; rfl
  · rw [offO_val]; exact he.symm
/-- of the sums. -/
theorem L0_at (I : Ins Ideal) (t : Fin 2) (c c' : Dev nD) (a : Fin 256) (b : Fin 4) (e : Fin 8) (he : e.val = 4 * t.val + b.val) :
    L0 I t c' (xr c c') (ix2 a b) = I.l c' (ix2 (crow c a) e) := by
  refine (pay4_at _ _).trans (congrArg _ ?_)
  refine emb_val _ _ _ _ ?_ ?_
  · rw [offL_val, xr_xr]; rfl
  · rw [offL_val]; exact he.symm

/-- The partial outputs and sums added over the devices. -/
def sumO (I : Ins Ideal) (p : Fin 2048) (e : Fin 1024) : EReal := ∑ c' : Dev nD, I.o c' (ix2 p e)
/-- The weights' sums over all devices. -/
def sumL (I : Ins Ideal) (p : Fin 2048) (h : Fin 8) : EReal := ∑ c' : Dev nD, I.l c' (ix2 p h)

/-- A device's own chunk after the exchange is summed over all devices, -/
theorem AO_sum (I : Ins Ideal) (t : Fin 2) (c : Dev nD) (a : Fin 256) (b : Fin 512) (e : Fin 1024) (he : e.val = 512 * t.val + b.val) :
    AO I t 3 c 0 (ix2 a b) = sumO I (crow c a) e := by
  rw [AO_at, gtree_zero]
  exact Finset.sum_congr rfl fun c' _ => O0_at I t c c' a b e he
/-- the sums too. -/
theorem AL_sum (I : Ins Ideal) (t : Fin 2) (c : Dev nD) (a : Fin 256) (b : Fin 4) (e : Fin 8) (he : e.val = 4 * t.val + b.val) :
    AL I t 3 c 0 (ix2 a b) = sumL I (crow c a) e := by
  rw [AL_at, gtree_zero]
  exact Finset.sum_congr rfl fun c' _ => L0_at I t c c' a b e he

/-- The four heads of a half: a head's columns, -/
theorem headO_at (x : Vec Ideal (Sh 256 512) .f32) (h : Fin 4) (a : Fin 256) (d : Fin 128) :
    headO x h (ix2 a d) = x (ix2 a ⟨128 * h.val + d.val, by omega⟩) :=
  congrArg x (emb_val _ _ _ _ (Nat.zero_add _) rfl)
/-- and a head's sum. -/
theorem headL_at (x : Vec Ideal (Sh 256 4) .f32) (h : Fin 4) (a : Fin 256) (d : Fin 1) :
    headL x h (ix2 a d) = x (ix2 a h) :=
  congrArg x (emb_val _ _ _ _ (Nat.zero_add _) (by show h.val + d.val = h.val; omega))

/-- The head of a column. -/
def headOf (e : Fin 1024) : Fin 8 := ⟨e.val / 128, by omega⟩

/-- The finishing arithmetic at an index. -/
theorem fin_at (x0 x1 : Vec Ideal (Sh 256 512) .f32) (l0 l1 : Vec Ideal (Sh 256 4) .f32) (w : Vec Ideal S1024x1024 .bf16) (a : Fin 256) (n : Fin 1024)
    (O : Fin 1024 → EReal) (L : Fin 8 → EReal)
    (h0 : ∀ (b : Fin 512) (e : Fin 1024), e.val = b.val → x0 (ix2 a b) = O e)
    (h1 : ∀ (b : Fin 512) (e : Fin 1024), e.val = 512 + b.val → x1 (ix2 a b) = O e)
    (k0 : ∀ (b : Fin 4) (h : Fin 8), h.val = b.val → l0 (ix2 a b) = L h)
    (k1 : ∀ (b : Fin 4) (h : Fin 8), h.val = 4 + b.val → l1 (ix2 a b) = L h) :
    fin x0 x1 l0 l1 w (ix2 a n) = ∑ e : Fin 1024, Ideal.div (O e) (L (headOf e)) * w (ix2 e n) := by
  have p0 : ∀ (h : Fin 4) (d : Fin 128) (e : Fin 1024), e.val = 128 * h.val + d.val →
      Ideal.div (headO x0 h (ix2 a d)) (headL l0 h (ix2 a 0)) = Ideal.div (O e) (L (headOf e)) := fun h d e he => by
    rw [headO_at, headL_at, h0 _ e he, k0 h (headOf e) (by show e.val / 128 = _; omega)]
  have p1 : ∀ (h : Fin 4) (d : Fin 128) (e : Fin 1024), e.val = 512 + 128 * h.val + d.val →
      Ideal.div (headO x1 h (ix2 a d)) (headL l1 h (ix2 a 0)) = Ideal.div (O e) (L (headOf e)) := fun h d e he => by
    rw [headO_at, headL_at, h1 _ e (by show _ = 512 + (128 * h.val + d.val); omega), k1 h (headOf e) (by show e.val / 128 = _; omega)]
  unfold fin
  pointwise [k1_pay66, k1_pay67, k1_pay68]
  refine Finset.sum_congr rfl fun e _ => congrArg (fun z : EReal => z * w (ix2 e n)) ?_
  have := e.isLt
  split
  · exact p0 0 _ e (Nat.zero_add _).symm
  split
  · refine p0 1 _ e ?_
    show e.val = 128 + (e.val - 128); omega
  split
  · refine p0 2 _ e ?_
    show e.val = 256 + (e.val - 128 - 128); omega
  split
  · refine p0 3 _ e ?_
    show e.val = 384 + (e.val - 128 - 128 - 128); omega
  split
  · refine p1 0 _ e ?_
    show e.val = 512 + (e.val - 128 - 128 - 128 - 128); omega
  split
  · refine p1 1 _ e ?_
    show e.val = 640 + (e.val - 128 - 128 - 128 - 128 - 128); omega
  split
  · refine p1 2 _ e ?_
    show e.val = 768 + (e.val - 128 - 128 - 128 - 128 - 128 - 128); omega
  · refine p1 3 _ e ?_
    show e.val = 896 + (e.val - 128 - 128 - 128 - 128 - 128 - 128 - 128); omega

/-- A finished chunk: the sums divided head by head, multiplied by the projection. -/
theorem done_at (I : Ins Ideal) (c : Dev nD) (a : Fin 256) (n : Fin 1024) :
    done I c (ix2 a n) = ∑ e : Fin 1024, Ideal.div (sumO I (crow c a) e) (sumL I (crow c a) (headOf e)) * I.w c (ix2 e n) :=
  fin_at _ _ _ _ _ a n (sumO I (crow c a)) (sumL I (crow c a))
    (fun b e he => AO_sum I 0 c a b e (he.trans (Nat.zero_add _).symm)) (fun b e he => AO_sum I 1 c a b e he)
    (fun b e he => AL_sum I 0 c a b e (he.trans (Nat.zero_add _).symm)) (fun b e he => AL_sum I 1 c a b e he)

/-! ## The result -/

/-- Sixty-four rows of the device's own chunk, -/
theorem ownP_at (j : Fin 4) (v : FVec Ideal S256x1024 .f32) (a : Fin 64) (n : Fin 1024) :
    (ownP j v : FVec Ideal S64x1024 .f32) (ix2 a n) = v (ix2 ⟨64 * j.val + a.val, by omega⟩ n) := by
  pointwise [ownP]
/-- and of a chunk received. -/
theorem gotP_at (j : Fin 4) (v : FVec Ideal S256x512 .bf16) (a : Fin 64) (n : Fin 512) :
    (gotP j v : FVec Ideal S64x512 .f32) (ix2 a n) = v (ix2 ⟨64 * j.val + a.val, by omega⟩ n) := by
  pointwise [gotP]
/-- A chunk received has the sender's entries. -/
theorem YY_at (I : Ins Ideal) (t : Fin 2) (c : Dev nD) (a : Fin 256) (b : Fin 512) :
    YY I t c (ix2 a b) = done I c (ix2 a ⟨512 * t.val + b.val, by omega⟩) := by
  match t with
  | 0 => show k1_pay73 _ _ = _; pointwise [k1_pay73]
  | 1 => show k1_pay74 _ _ = _; pointwise [k1_pay74]

/-- The permuted row of a row of the result. -/
def prow (i : Fin 2048) : Fin 2048 := ⟨512 * (i.val / 64 % 4) + 64 * (i.val / 64 / 4) + i.val % 64, by omega⟩

/-- The combine region's result at an index. -/
theorem outv_at (I : Ins Ideal) (w : Vec Ideal S1024x1024 .bf16) (hw : ∀ c, I.w c = w) (c : Dev nD) (i : Fin 2048) (n : Fin 1024) :
    outv I c (ix2 i n) = ∑ e : Fin 1024, Ideal.div (sumO I (prow i) e) (sumL I (prow i) (headOf e)) * w (ix2 e n) := by
  have key : ∀ (c' : Dev nD) (a : Fin 256), c' = chunkOf (blockOf (ix2 i n)) → a.val = 64 * (placeOf (blockOf (ix2 i n))).val + i.val % 64 →
      done I c' (ix2 a n) = ∑ e : Fin 1024, Ideal.div (sumO I (prow i) e) (sumL I (prow i) (headOf e)) * w (ix2 e n) := fun c' a h h' => by
    rw [done_at, hw]
    have : crow c' a = prow i := by
      refine Fin.ext ?_
      have e1 : c'.val = 2 * (i.val / 64 % 4) + i.val / 64 / 4 / 4 := by rw [h]; rfl
      have e2 : a.val = 64 * (i.val / 64 / 4 % 4) + i.val % 64 := h'
      show 256 * c'.val + a.val = 512 * (i.val / 64 % 4) + 64 * (i.val / 64 / 4) + i.val % 64
      omega
    rw [this]
  unfold outv
  split
  · next hc =>
    refine (ownP_at _ _ (rowIn (ix2 i n)) n).trans (key c _ hc.symm rfl)
  · next hc =>
    refine (gotP_at _ _ (rowIn (ix2 i n)) (colIn (ix2 i n))).trans ((YY_at _ _ _ _ _).trans ?_)
    have : (⟨512 * (halfOf (ix2 i n)).val + (colIn (ix2 i n)).val, by omega⟩ : Fin 1024) = n :=
      Fin.ext (by show 512 * (n.val / 512) + n.val % 512 = n.val; omega)
    rw [this]
    exact key _ _ rfl rfl

end Cert.KernelIdeal.Gen
-- ==== Proof.ValEnds.lean ====
/-
  The result buffer at the end of the run, entry by entry, from the two regions' results.
-/
module

public import proofs.«01_k».proof.Proof.ValHost
public import proofs.«01_k».proof.Proof.ValTiles
public import proofs.«01_k».proof.Proof.ValComb
public import proofs.«01_k».proof.Proof.Whole

@[expose] public section

set_option maxRecDepth 16384

noncomputable section

namespace Cert.KernelIdeal.Gen

open Idealize.ShloMosaic Idealize.ShloMosaic.TcCoe
open Idealize.SL
open Idealize.SL.Sem

section
variable (V : Dev nD → Valuation τ sig (Elt Ideal)) (c : Dev nD)

/-- The blocks fetched are the whole arrays: the first call's inputs, -/
theorem fed0_0_eq : fed0_0 V c = V c (Proc.devRef .tc main_v10) :=
  funext fun y => congrArg (V c (Proc.devRef .tc main_v10)) (funext fun a => Fin.ext (by
    blk_simp; rw [(by decide +kernel : ∀ a, win0_0.index t0_0 a = 0) a, Nat.zero_mul, Nat.zero_add]) :
    ((cfg0.win 0).blk t0_0).view.emb y = y)
/-- its query weights, -/
theorem fed0_1_eq : fed0_1 V c = V c (Proc.devRef .tc main_v31) :=
  funext fun y => congrArg (V c (Proc.devRef .tc main_v31)) (funext fun a => Fin.ext (by
    blk_simp; rw [(by decide +kernel : ∀ a, win0_1.index t0_0 a = 0) a, Nat.zero_mul, Nat.zero_add]) :
    ((cfg0.win 1).blk t0_0).view.emb y = y)
/-- its keys, -/
theorem fed0_2_eq : fed0_2 V c = V c (Proc.devRef .tc main_v20) :=
  funext fun y => congrArg (V c (Proc.devRef .tc main_v20)) (funext fun a => Fin.ext (by
    blk_simp; rw [(by decide +kernel : ∀ a, win0_2.index t0_0 a = 0) a, Nat.zero_mul, Nat.zero_add]) :
    ((cfg0.win 2).blk t0_0).view.emb y = y)
/-- its values; -/
theorem fed0_3_eq : fed0_3 V c = V c (Proc.devRef .tc main_v30) :=
  funext fun y => congrArg (V c (Proc.devRef .tc main_v30)) (funext fun a => Fin.ext (by
    blk_simp; rw [(by decide +kernel : ∀ a, win0_3.index t0_0 a = 0) a, Nat.zero_mul, Nat.zero_add]) :
    ((cfg0.win 3).blk t0_0).view.emb y = y)
/-- the second call's weighted values, -/
theorem fed1_0_eq : fed1_0 V c = V c (Proc.devRef .tc main_v32_0) :=
  funext fun y => congrArg (V c (Proc.devRef .tc main_v32_0)) (funext fun a => Fin.ext (by
    blk_simp; rw [(by decide +kernel : ∀ a, win1_0.index t1_0 a = 0) a, Nat.zero_mul, Nat.zero_add]) :
    ((cfg1.win 0).blk t1_0).view.emb y = y)
/-- its sums, -/
theorem fed1_1_eq : fed1_1 V c = V c (Proc.devRef .tc main_v32_1) :=
  funext fun y => congrArg (V c (Proc.devRef .tc main_v32_1)) (funext fun a => Fin.ext (by
    blk_simp; rw [(by decide +kernel : ∀ a, win1_1.index t1_0 a = 0) a, Nat.zero_mul, Nat.zero_add]) :
    ((cfg1.win 1).blk t1_0).view.emb y = y)
/-- its projection. -/
theorem fed1_2_eq : fed1_2 V c = V c (Proc.devRef .tc main_v33) :=
  funext fun y => congrArg (V c (Proc.devRef .tc main_v33)) (funext fun a => Fin.ext (by
    blk_simp; rw [(by decide +kernel : ∀ a, win1_2.index t1_0 a = 0) a, Nat.zero_mul, Nat.zero_add]) :
    ((cfg1.win 2).blk t1_0).view.emb y = y)
/-- After the first call its first result array holds what the body left, -/
theorem out0_o : (dat0 V c).arrAt 4 cfg0.N = (ran0 V c).1.1 := by
  refine (dat0 V c).arrAt_eq_of_after_last 4 t0_0 (by decide +kernel) _ fun j => ?_
  rfl
/-- and its second. -/
theorem out0_l : (dat0 V c).arrAt 5 cfg0.N = (ran0 V c).1.2 := by
  refine (dat0 V c).arrAt_eq_of_after_last 5 t0_0 (by decide +kernel) _ fun j => ?_
  rfl
/-- After the second call its result array holds what the body left. -/
theorem out1 : (dat1 V c).arrAt 3 cfg1.N = outv (ins V) c := by
  refine (dat1 V c).arrAt_eq_of_after_last 3 t1_0 (by decide +kernel) _ fun j => ?_
  rfl
end

section
variable (m : (ℓ : Loc nD τ sig) → Buf (Elt Ideal) ℓ) (c : Dev nD)

/-- What the buffers hold, step by step: the weighted values after the first call, -/
theorem W2_o : W2 m c (Proc.devRef .tc main_v32_0) = (ran0 (V1 m) c).1.1 :=
  (Pipeline.afterRegion_arr (dat0 (V1 m) c) (V1 m c) arr_inj0 4).trans (out0_o (V1 m) c)
/-- the sums after it; -/
theorem W2_l : W2 m c (Proc.devRef .tc main_v32_1) = (ran0 (V1 m) c).1.2 :=
  (Pipeline.afterRegion_arr (dat0 (V1 m) c) (V1 m c) arr_inj0 5).trans (out0_l (V1 m) c)
/-- both the same when the second call is entered, -/
theorem W3_o : W3 m c (Proc.devRef .tc main_v32_0) = (ran0 (V1 m) c).1.1 :=
  (StableHlo.after_of_writes_sub hostOps1 (W2 m c) hostOps1_writes (by decide)).trans (W2_o m c)
/-- the sums too; -/
theorem W3_l : W3 m c (Proc.devRef .tc main_v32_1) = (ran0 (V1 m) c).1.2 :=
  (StableHlo.after_of_writes_sub hostOps1 (W2 m c) hostOps1_writes (by decide)).trans (W2_l m c)
/-- the projection's argument is still as it was, -/
theorem W2_arg4 : W2 m c (Proc.devRef .tc main_arg4) = inW m c :=
  (Pipeline.afterRegion_keeps (dat0 (V1 m) c) (V1 m c) arr_inj0 (fun _ => rfl) main_arg4 (by decide)).trans <|
  (V1_of m c main_arg4 (by decide)).trans rfl
/-- and its cast has the same entries; -/
theorem W3_w (a b : Fin 1024) : @Eq EReal (W3 m c (Proc.devRef .tc main_v33) (ix2 a b)) (inW m c (ix2 a b)) := by
  rw [← W2_arg4 m c]
  unfold W3
  generalize W2 m c = X
  unfold hostOps1
  after_reads_at
/-- the second call's result, -/
theorem W4_r : W4 m c (Proc.devRef .tc main_v34) = outv (II m) c :=
  (Pipeline.afterRegion_arr (dat1 (W3 m) c) (W3 m c) arr_inj1 3).trans (out1 (W3 m) c)
/-- and the reshaped result, entry by entry. -/
theorem W5_r (i : Fin 2048) (n : Fin 1024) : @Eq EReal (W5 m c (Proc.devRef .tc main_v35) (ix3 0 i n)) (outv (II m) c (ix2 i n)) := by
  rw [← W4_r m c]
  unfold W5
  generalize W4 m c = X
  unfold hostOps2
  after_reads_at
end

end Cert.KernelIdeal.Gen
-- ==== Proof.ValRef.lean ====
/-
  The reference in layers: which keys a row keeps, the masked scores, the weights, the result.
-/
module

public import proofs.«01_k».proof.Proof.Gen.ReferenceIdeal.Run
public import Idealize.ShloMosaic.Lib.Pointwise
public import Idealize.ShloMosaic.Lib.Routing.OpsSearch
public import Idealize.ShloMosaic.Lib.Routing.OpsOrder

@[expose] public section

set_option maxRecDepth 16384

noncomputable section

namespace Cert.ReferenceIdeal.Value

open Cert.ReferenceIdeal.Gen Idealize.ShloMosaic Idealize.ShloMosaic.TcCoe
open Idealize.SL
open Idealize.SL.Sem

variable {F : FTy → Type} [FloatOps F]

/-- The block of each row. -/
def qblk : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))
/-- The block of each key. -/
def kblk : IVec S16384 32 :=
  select (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32))))
        (broadcastInDim S16384 ![] bcast_S_S16384 (constantI S_ 32 0#32))))
    (subi (Host.divsi (iotaInDim S16384 32 0) (broadcastInDim S16384 ![] bcast_S_S16384 (id (constantI S_ 32 64#32))))
      (broadcastInDim S16384 ![] bcast_S_S16384 (constantI S_ 32 1#32)))
    (Host.divsi (iotaInDim S16384 32 0) (broadcastInDim S16384 ![] bcast_S_S16384 (id (constantI S_ 32 64#32))))
/-- The modulus. -/
def four : IVec S_ 32 :=
  select (cmpi .eq (id (constantI S_ 32 4#32)) (constantI S_ 32 0#32)) (constantI S_ 32 1#32) (id (constantI S_ 32 4#32))
/-- A key's block modulo four. -/
def kres (b : IVec S16384 32) : IVec S1x16384 32 :=
  let b1 := broadcastInDim S1x16384 ![1] bcast_S16384_S1x16384_1 b
  let d := broadcastInDim S1x16384 ![] bcast_S_S1x16384 four
  let z := broadcastInDim S1x16384 ![] bcast_S_S1x16384 (constantI S_ 32 0#32)
  select (andi (cmpi .ne (cmpi .slt (Host.remsi b1 d) z) (broadcastInDim S1x16384 ![] bcast_S_S1x16384 (cmpi .slt four (constantI S_ 32 0#32))))
    (cmpi .ne (Host.remsi b1 d) z)) (addi (Host.remsi b1 d) d) (Host.remsi b1 d)
/-- A row's block modulo four. -/
def qres (b : IVec S2048 32) : IVec S2048x1 32 :=
  let b1 := broadcastInDim S2048x1 ![0] bcast_S2048_S2048x1_0 b
  let d := broadcastInDim S2048x1 ![] bcast_S_S2048x1 four
  let z := broadcastInDim S2048x1 ![] bcast_S_S2048x1 (constantI S_ 32 0#32)
  select (andi (cmpi .ne (cmpi .slt (Host.remsi b1 d) z) (broadcastInDim S2048x1 ![] bcast_S_S2048x1 (cmpi .slt four (constantI S_ 32 0#32))))
    (cmpi .ne (Host.remsi b1 d) z)) (addi (Host.remsi b1 d) d) (Host.remsi b1 d)
/-- The mask from the blocks and their residues. -/
def maskOf (qb : IVec S2048 32) (kb : IVec S16384 32) (qr : IVec S2048x1 32) (kr : IVec S1x16384 32) : IVec S2048x16384 1 :=
  ori (cmpi .eq (broadcastInDim S2048x16384 ![0, 1] bcast_S2048x1_S2048x16384_0_1 (broadcastInDim S2048x1 ![0] bcast_S2048_S2048x1_0 qb))
      (broadcastInDim S2048x16384 ![0, 1] bcast_S1x16384_S2048x16384_0_1 (broadcastInDim S1x16384 ![1] bcast_S16384_S1x16384_1 kb)))
    (cmpi .eq (broadcastInDim S2048x16384 ![0, 1] bcast_S1x16384_S2048x16384_0_1 kr)
      (broadcastInDim S2048x16384 ![0, 1] bcast_S2048x1_S2048x16384_0_1 qr))
/-- Which keys a row keeps. -/
def kept : IVec S2048x16384 1 := maskOf qblk kblk (qres qblk) (kres kblk)
/-- Which rows keep any. -/
def rowsOf (k : IVec S2048x16384 1) : IVec S2048 1 :=
  Host.reduce IntOp.ori k (constantI S_ 1 0#1) reducesTo_S2048x16384_S2048_d1 h_S_

/-- The scores, masked. -/
def scored (k : IVec S2048x16384 1) (x : FVec F S1x2048x1024 .f32) (q : FVec F S1024x1024 .f32) (y : FVec F S1x16384x8x128 .f32) :
    FVec F S1x8x2048x16384 .f32 :=
  select (broadcastInDim S1x8x2048x16384 ![0, 1, 2, 3] bcast_S1x1x2048x16384_S1x8x2048x16384_0_1_2_3
      (broadcastInDim S1x1x2048x16384 ![2, 3] bcast_S2048x16384_S1x1x2048x16384_2_3 k))
    (mulf (Host.dotGeneral dot_S1x2048x8x128_S1x16384x8x128_S1x8x2048x16384_3_3_1_1_02_02 none
        (shapeCast S1x2048x8x128 (Host.dotGeneral dot_S1x2048x1024_S1024x1024_S1x2048x1024_2_0_01_1_n_n none x q)
          shapeCasts_S1x2048x1024_S1x2048x8x128) y)
      (broadcastInDim S1x8x2048x16384 ![] bcast_S_S1x8x2048x16384 (constant S_ .f32 0x3DB504F3#32)))
    (broadcastInDim S1x8x2048x16384 ![] bcast_S_S1x8x2048x16384 (id (constant S_ .f32 0xFF800000#32)))
/-- The exponentials of the scores less their largest. -/
def lifted (s : FVec F S1x8x2048x16384 .f32) : FVec F S1x8x2048x16384 .f32 :=
  Host.exp (subf s (broadcastInDim S1x8x2048x16384 ![0, 1, 2, 3] bcast_S1x8x2048x1_S1x8x2048x16384_0_1_2_3
    (broadcastInDim S1x8x2048x1 ![0, 1, 2] bcast_S1x8x2048_S1x8x2048x1_0_1_2
      (Host.reduce FloatOps.maximumf s (constant S_ .f32 0xFF800000#32) reducesTo_S1x8x2048x16384_S1x8x2048_d3 h_S_))))
/-- The weights. -/
def weighed (r : IVec S2048 1) (e : FVec F S1x8x2048x16384 .f32) : FVec F S1x8x2048x16384 .f32 :=
  let r4 := broadcastInDim S1x1x2048x1 ![2] bcast_S2048_S1x1x2048x1_2 r
  select (broadcastInDim S1x8x2048x16384 ![0, 1, 2, 3] bcast_S1x1x2048x1_S1x8x2048x16384_0_1_2_3 r4)
    (Host.divf e (broadcastInDim S1x8x2048x16384 ![0, 1, 2, 3] bcast_S1x8x2048x1_S1x8x2048x16384_0_1_2_3
      (select (broadcastInDim S1x8x2048x1 ![0, 1, 2, 3] bcast_S1x1x2048x1_S1x8x2048x1_0_1_2_3 r4)
        (broadcastInDim S1x8x2048x1 ![0, 1, 2] bcast_S1x8x2048_S1x8x2048x1_0_1_2
          (Host.reduceAdd e (constant S_ .f32 0x00000000#32) reducesTo_S1x8x2048x16384_S1x8x2048_d3 h_S_))
        (broadcastInDim S1x8x2048x1 ![] bcast_S_S1x8x2048x1 (id (constant S_ .f32 0x3F800000#32))))))
    (broadcastInDim S1x8x2048x16384 ![] bcast_S_S1x8x2048x16384 (id (constant S_ .f32 0x00000000#32)))
/-- The weighted values, projected. -/
def projected (w : FVec F S1x8x2048x16384 .f32) (v : FVec F S1x16384x8x128 .f32) (o : FVec F S1024x1024 .f32) : FVec F S1x2048x1024 .f32 :=
  Host.dotGeneral dot_S1x2048x1024_S1024x1024_S1x2048x1024_2_0_01_1_n_n none
    (shapeCast S1x2048x1024 (transpose S1x2048x8x128 [0, 3, 1, 2]
      (Host.dotGeneral dot_S1x16384x8x128_S1x8x2048x16384_S1x8x128x2048_1_3_3_2_02_01 none v w)
      transposes_S1x8x128x2048_S1x2048x8x128_0_3_1_2) shapeCasts_S1x2048x8x128_S1x2048x1024) o

/-- The reference's result is the layers one on another. -/
theorem res_eq (m : (ℓ : Loc nD τ sig) → Buf (Elt F) ℓ) (c : Dev nD) :
    res_main_v39 m c = projected (weighed (rowsOf kept) (lifted (scored kept (m ((c.tc : Thread nD τ).loc main_arg0))
      (m ((c.tc : Thread nD τ).loc main_arg1)) (m ((c.tc : Thread nD τ).loc main_arg2)))))
      (m ((c.tc : Thread nD τ).loc main_arg3)) (m ((c.tc : Thread nD τ).loc main_arg4)) := rfl

/-- A row's block, as a word; -/
theorem qblk_at (i : Fin 2048) : qblk (ix1 i) = BitVec.ofNat 32 (i.val / 64) :=
  Routing.pyDiv0_ap (fun _ => BitVec.ofNat 32 i.val) (fun _ => 64#32) rfl rfl (by omega) (by decide) (by decide)
/-- a key's. -/
theorem kblk_at (j : Fin 16384) : kblk (ix1 j) = BitVec.ofNat 32 (j.val / 64) :=
  Routing.pyDiv0_ap (fun _ => BitVec.ofNat 32 j.val) (fun _ => 64#32) rfl rfl (by omega) (by decide) (by decide)
/-- A remainder modulo four that is not negative needs no correction. -/
theorem mod_word (r : Fin 4) : Scalar.select (IntOp.andi (IntOp.cmpi .ne (IntOp.cmpi .slt (BitVec.ofNat 32 r.val) 0#32) (IntOp.cmpi .slt 4#32 0#32))
    (IntOp.cmpi .ne (BitVec.ofNat 32 r.val) 0#32)) (IntOp.addi (BitVec.ofNat 32 r.val) 4#32) (BitVec.ofNat 32 r.val) = BitVec.ofNat 32 r.val := by
  revert r; decide
/-- The modulus is four. -/
theorem four_at : four ix0 = 4#32 := by rfl
/-- A row's block modulo four, as a word; -/
theorem qres_at (b : IVec S2048 32) (i : Fin 2048) (n : ℕ) (hn : n < 2 ^ 31) (hb : b (ix1 i) = BitVec.ofNat 32 n) :
    qres b (ix2 i 0) = BitVec.ofNat 32 (n % 4) := by
  pointwise [qres]
  rw [hb, four_at, Routing.remsi_word .host hn (b := 4) (by decide) (by decide)]
  exact mod_word ⟨n % 4, by omega⟩
/-- a key's. -/
theorem kres_at (b : IVec S16384 32) (j : Fin 16384) (n : ℕ) (hn : n < 2 ^ 31) (hb : b (ix1 j) = BitVec.ofNat 32 n) :
    kres b (ix2 0 j) = BitVec.ofNat 32 (n % 4) := by
  pointwise [kres]
  rw [hb, four_at, Routing.remsi_word .host hn (b := 4) (by decide) (by decide)]
  exact mod_word ⟨n % 4, by omega⟩

/-- The mask at a row and a key. -/
theorem mask_at (qb : IVec S2048 32) (kb : IVec S16384 32) (qr : IVec S2048x1 32) (kr : IVec S1x16384 32) (i : Fin 2048) (j : Fin 16384) :
    maskOf qb kb qr kr (ix2 i j) = IntOp.ori (IntOp.cmpi .eq (qb (ix1 i)) (kb (ix1 j))) (IntOp.cmpi .eq (kr (ix2 0 j)) (qr (ix2 i 0))) := by
  pointwise [maskOf]

/-- A row keeps the keys whose block is the row's block modulo four. -/
theorem kept_at (i : Fin 2048) (j : Fin 16384) : kept (ix2 i j) = BitVec.ofBool (decide (j.val / 64 % 4 = i.val / 64 % 4)) := by
  unfold kept
  rw [mask_at, qblk_at, kblk_at, qres_at qblk i _ (by omega) (qblk_at i), kres_at kblk j _ (by omega) (kblk_at j)]
  have e : ∀ a b : ℕ, a < 2 ^ 32 → b < 2 ^ 32 → IntOp.cmpi .eq (BitVec.ofNat 32 a) (BitVec.ofNat 32 b) = BitVec.ofBool (decide (a = b)) := by
    intro a b ha hb
    show BitVec.ofBool (BitVec.ofNat 32 a == BitVec.ofNat 32 b) = _
    congr 1
    rw [Bool.eq_iff_iff, beq_iff_eq, decide_eq_true_iff]
    refine ⟨fun h => ?_, fun h => by rw [h]⟩
    have := congrArg BitVec.toNat h
    rwa [BitVec.toNat_ofNat, BitVec.toNat_ofNat, Nat.mod_eq_of_lt ha, Nat.mod_eq_of_lt hb] at this
  rw [e _ _ (by omega) (by omega), e _ _ (by omega) (by omega)]
  by_cases h1 : j.val / 64 % 4 = i.val / 64 % 4
  · rw [decide_eq_true h1]
    by_cases h2 : i.val / 64 = j.val / 64
    · rw [decide_eq_true h2]; rfl
    · rw [decide_eq_false h2]; rfl
  · rw [decide_eq_false h1, decide_eq_false (fun h2 => h1 (by rw [h2]))]; rfl

/-- A row that keeps a key keeps any. -/
theorem rows_at (k : IVec S2048x16384 1) (i : Fin 2048) (j : Fin 16384) (h : k (ix2 i j) = 1#1) : rowsOf k (ix1 i) = 1#1 := by
  pointwise [rowsOf]
  exact (Routing.fold_ori _ _).mpr ⟨j, Finset.mem_univ _, h⟩

section
variable (k : IVec S2048x16384 1) (x : FVec Ideal S1x2048x1024 .f32) (q : FVec Ideal S1024x1024 .f32) (y : FVec Ideal S1x16384x8x128 .f32)

/-- The score of row `i` against key `j` in head `h`. -/
def score (h : Fin 8) (i : Fin 2048) (j : Fin 16384) : EReal :=
  (∑ d : Fin 128, (∑ e : Fin 1024, x (ix3 0 i e) * q (ix2 e ⟨h.val * 128 + d.val, by omega⟩)) * y (ix4 0 j h d)) * Ideal.ofBits .f32 0x3DB504F3#32
/-- The pattern of minus infinity. -/
theorem low_eq : Ideal.ofBits .f32 0xFF800000#32 = (⊥ : EReal) := by simp [Ideal.ofBits, Ideal.ieee]

/-- The masked scores at an entry, -/
theorem scored_at (h : Fin 8) (i : Fin 2048) (j : Fin 16384) :
    @Eq EReal (scored k x q y (ix4 0 h i j)) (Scalar.select (k (ix2 i j)) (score x q y h i j) ⊥) := by
  pointwise [scored]
  exact congrArg (Scalar.select (k (ix2 i j)) (score x q y h i j)) low_eq
/-- the exponentials less the largest score, -/
theorem lifted_at (s : FVec Ideal S1x8x2048x16384 .f32) (h : Fin 8) (i : Fin 2048) (j : Fin 16384) :
    @Eq EReal (lifted s (ix4 0 h i j)) (Ideal.exp (s (ix4 0 h i j) - Finset.fold max (⊥ : EReal) (fun j => s (ix4 0 h i j)) Finset.univ)) := by
  pointwise [lifted]
  rw [low_eq]
/-- the weights of a row that keeps any key, -/
theorem weighed_at (r : IVec S2048 1) (s : FVec Ideal S1x8x2048x16384 .f32) (h : Fin 8) (i : Fin 2048) (j : Fin 16384) (hr : r (ix1 i) = 1#1) :
    @Eq EReal (weighed r s (ix4 0 h i j)) (Ideal.div (s (ix4 0 h i j)) (∑ j : Fin 16384, s (ix4 0 h i j))) := by
  pointwise [weighed]
  have sel : ∀ {α : Type} (a b : α), Scalar.select 1#1 a b = a := fun _ _ => rfl
  rw [hr, sel, sel]
/-- and the weighted values projected. -/
theorem projected_at (s : FVec Ideal S1x8x2048x16384 .f32) (o : FVec Ideal S1024x1024 .f32) (i : Fin 2048) (n : Fin 1024) :
    @Eq EReal (projected s y o (ix3 0 i n))
      (∑ e : Fin 1024, (∑ j : Fin 16384, y (ix4 0 j ⟨e.val / 128, by omega⟩ ⟨e.val % 128, by omega⟩) * s (ix4 0 ⟨e.val / 128, by omega⟩ i j)) * o (ix2 e n)) := by
  pointwise [projected]
end

/-- A row's masked score. -/
def masked (x : FVec Ideal S1x2048x1024 .f32) (q : FVec Ideal S1024x1024 .f32) (y : FVec Ideal S1x16384x8x128 .f32) (h : Fin 8) (i : Fin 2048)
    (j : Fin 16384) : EReal := if j.val / 64 % 4 = i.val / 64 % 4 then score x q y h i j else ⊥

/-- The masked scores are the scores on the kept keys and `⊥` elsewhere. -/
theorem masked_at (x : FVec Ideal S1x2048x1024 .f32) (q : FVec Ideal S1024x1024 .f32) (y : FVec Ideal S1x16384x8x128 .f32) (h : Fin 8)
    (i : Fin 2048) (j : Fin 16384) : @Eq EReal (scored kept x q y (ix4 0 h i j)) (masked x q y h i j) := by
  rw [scored_at, kept_at]
  unfold masked
  split
  · rename_i e; rw [decide_eq_true e]; rfl
  · rename_i e; rw [decide_eq_false e]; rfl

/-- The reference's result: each row's masked softmax over all keys, applied to the values, projected. -/
theorem ref_at (x : FVec Ideal S1x2048x1024 .f32) (q : FVec Ideal S1024x1024 .f32) (y v : FVec Ideal S1x16384x8x128 .f32) (o : FVec Ideal S1024x1024 .f32)
    (i : Fin 2048) (n : Fin 1024) :
    @Eq EReal (projected (weighed (rowsOf kept) (lifted (scored kept x q y))) v o (ix3 0 i n))
      (∑ e : Fin 1024, (∑ j : Fin 16384, (v (ix4 0 j ⟨e.val / 128, by omega⟩ ⟨e.val % 128, by omega⟩) : EReal) *
        Ideal.div (Ideal.exp (masked x q y ⟨e.val / 128, by omega⟩ i j - Finset.fold max ⊥ (masked x q y ⟨e.val / 128, by omega⟩ i) Finset.univ))
          (∑ j' : Fin 16384, Ideal.exp (masked x q y ⟨e.val / 128, by omega⟩ i j' - Finset.fold max ⊥ (masked x q y ⟨e.val / 128, by omega⟩ i) Finset.univ)))
        * (o (ix2 e n) : EReal)) := by
  have hr : rowsOf kept (ix1 i) = 1#1 := rows_at kept i ⟨i.val, by omega⟩ (by rw [kept_at]; simp)
  have hl : ∀ (h : Fin 8) (j : Fin 16384), @Eq EReal (lifted (scored kept x q y) (ix4 0 h i j))
      (Ideal.exp (masked x q y h i j - Finset.fold max ⊥ (masked x q y h i) Finset.univ)) := fun h j => by
    rw [lifted_at, masked_at, show (fun j => (scored kept x q y (ix4 0 h i j) : EReal)) = masked x q y h i from funext fun j => masked_at x q y h i j]
  rw [projected_at]
  refine Finset.sum_congr rfl fun e _ => ?_
  refine congrArg (· * (o (ix2 e n) : EReal)) (Finset.sum_congr rfl fun j _ => congrArg (_ * ·) ?_)
  rw [weighed_at _ _ _ _ _ hr, hl]
  exact congrArg (Ideal.div _) (Finset.sum_congr rfl fun j' _ => hl _ j')

end Cert.ReferenceIdeal.Value
-- ==== Proof.ValSoft.lean ====
/-
  The one identity of real analysis behind the value claim: a masked softmax with its largest score taken off, applied
  to values, is the quotient of two sums over the kept keys of plain exponentials.
-/
module

public import Idealize.ShloMosaic.PureOps.Ideal
public import Mathlib.Data.EReal.Operations

@[expose] public section

noncomputable section

namespace Cert.Soft

open Idealize.ShloMosaic

/-- An extended real that is a real number. -/
def IsR (z : EReal) : Prop := ∃ r : ℝ, z = (r : EReal)

/-- A sum of two real numbers is real. -/
theorem IsR.add {a b : EReal} (ha : IsR a) (hb : IsR b) : IsR (a + b) := by
  obtain ⟨r, rfl⟩ := ha; obtain ⟨s, rfl⟩ := hb; exact ⟨r + s, (EReal.coe_add r s).symm⟩
/-- A product of two real numbers is real. -/
theorem IsR.mul {a b : EReal} (ha : IsR a) (hb : IsR b) : IsR (a * b) := by
  obtain ⟨r, rfl⟩ := ha; obtain ⟨s, rfl⟩ := hb; exact ⟨r * s, (EReal.coe_mul r s).symm⟩
/-- A finite sum of real numbers is real. -/
theorem IsR.sum {ι : Type} (s : Finset ι) (f : ι → EReal) (h : ∀ i, IsR (f i)) : IsR (∑ i ∈ s, f i) := by
  classical
  induction s using Finset.induction_on with
  | empty => exact ⟨0, by rw [Finset.sum_empty]; rfl⟩
  | insert a s ha ih => rw [Finset.sum_insert ha]; exact (h a).add ih

/-- A sum of real numbers, coerced. -/
theorem sum_real {ι : Type} (s : Finset ι) (f : ι → ℝ) : (∑ i ∈ s, (f i : EReal)) = ((∑ i ∈ s, f i : ℝ) : EReal) := by
  classical
  induction s using Finset.induction_on with
  | empty => rw [Finset.sum_empty, Finset.sum_empty]; rfl
  | insert a s ha ih => rw [Finset.sum_insert ha, Finset.sum_insert ha, ih, EReal.coe_add]

/-- A real factor that is not negative comes out of any sum of extended reals. -/
theorem sum_scaled {ι : Type} (s : Finset ι) (f : ι → EReal) {r : ℝ} (hr : 0 ≤ r) : (∑ i ∈ s, f i * (r : EReal)) = (∑ i ∈ s, f i) * (r : EReal) := by
  classical
  induction s using Finset.induction_on with
  | empty => rw [Finset.sum_empty, Finset.sum_empty, zero_mul]
  | insert a s ha ih =>
    rw [Finset.sum_insert ha, Finset.sum_insert ha, ih, EReal.right_distrib_of_nonneg_of_ne_top (EReal.coe_nonneg.mpr hr) (EReal.coe_ne_top r)]

/-- A sum over all keys of what vanishes off the kept ones is a sum over the kept ones. -/
theorem sum_kept {ι κ : Type} [Fintype ι] [Fintype κ] [DecidableEq ι] (g : κ → ι) (hg : Function.Injective g) (f : ι → EReal)
    (h : ∀ j, (∀ k, g k ≠ j) → f j = 0) : (∑ j, f j) = ∑ k, f (g k) := by
  rw [← Finset.sum_image (s := Finset.univ) (g := g) (f := f) (fun a _ b _ e => hg e)]
  refine (Finset.sum_subset (Finset.subset_univ _) fun j _ hj => h j fun k e => hj ?_).symm
  exact Finset.mem_image.mpr ⟨k, Finset.mem_univ _, e⟩

/-- The largest of some scores that are real numbers or `⊥`, one of them real, is real. -/
theorem fold_real {ι : Type} [Fintype ι] (s : ι → EReal) (hs : ∀ j, s j ≠ ⊤) (j0 : ι) (h0 : IsR (s j0)) :
    IsR (Finset.fold max ⊥ s Finset.univ) := by
  have ht : Finset.fold max ⊥ s Finset.univ ≠ ⊤ := by
    refine ne_of_lt (Finset.fold_max_lt ⊤ |>.mpr ⟨bot_lt_top, fun j _ => lt_top_iff_ne_top.mpr (hs j)⟩)
  have hb : Finset.fold max ⊥ s Finset.univ ≠ ⊥ := by
    obtain ⟨r, hr⟩ := h0
    have : s j0 ≤ Finset.fold max ⊥ s Finset.univ := (Finset.le_fold_max _).mpr (.inr ⟨j0, Finset.mem_univ _, le_rfl⟩)
    exact fun e => by rw [e, hr] at this; exact absurd (le_bot_iff.mp this) (EReal.coe_ne_bot r)
  exact ⟨_, (EReal.coe_toReal ht hb).symm⟩

/-- The masked softmax of scores `s` (`⊥` off the kept keys `g k`, real on them), applied to any values `v`, is the sum over the kept keys of the values times plain exponentials, divided by the sum of the exponentials. -/
theorem softmax_kept {ι κ : Type} [Fintype ι] [Fintype κ] [Nonempty κ] [DecidableEq ι] (g : κ → ι) (hg : Function.Injective g)
    (s : ι → EReal) (v : ι → EReal) (hk : ∀ k, IsR (s (g k))) (hb : ∀ j, (∀ k, g k ≠ j) → s j = ⊥) :
    (∑ j, v j * Ideal.div (Ideal.exp (s j - Finset.fold max ⊥ s Finset.univ)) (∑ j', Ideal.exp (s j' - Finset.fold max ⊥ s Finset.univ)))
      = Ideal.div (∑ k, Ideal.exp (s (g k)) * v (g k)) (∑ k, Ideal.exp (s (g k))) := by
  choose t ht using hk
  obtain ⟨k0⟩ := ‹Nonempty κ›
  obtain ⟨M, hM⟩ := fold_real s (fun j => by
    by_cases h : ∃ k, g k = j
    · obtain ⟨k, rfl⟩ := h; rw [ht]; exact EReal.coe_ne_top _
    · rw [hb j fun k e => h ⟨k, e⟩]; exact bot_ne_top) (g k0) ⟨_, ht k0⟩
  rw [hM]
  have hoff : ∀ j, (∀ k, g k ≠ j) → Ideal.exp (s j - (M : EReal)) = 0 := fun j h => by
    rw [hb j h, EReal.bot_sub]; exact Ideal.exp_bot
  have hon : ∀ k, Ideal.exp (s (g k) - (M : EReal)) = ((Real.exp (t k) * Real.exp (-M) : ℝ) : EReal) := fun k => by
    rw [ht, ← EReal.coe_sub, Ideal.exp_coe, sub_eq_add_neg, Real.exp_add]
  have hsum : (∑ j', Ideal.exp (s j' - (M : EReal))) = (((∑ k, Real.exp (t k)) * Real.exp (-M) : ℝ) : EReal) := by
    rw [sum_kept g hg _ hoff, Finset.sum_congr rfl fun k _ => hon k, sum_real, Finset.sum_mul]
  have hZ : 0 < ∑ k, Real.exp (t k) := Finset.sum_pos (fun k _ => Real.exp_pos _) ⟨k0, Finset.mem_univ _⟩
  have hden : (∑ k, Ideal.exp (s (g k))) = ((∑ k, Real.exp (t k) : ℝ) : EReal) := by
    rw [← sum_real]; exact Finset.sum_congr rfl fun k _ => by rw [ht, Ideal.exp_coe]
  have he : 0 < Real.exp (-M) := Real.exp_pos _
  rw [hsum, hden, Ideal.div_coe hZ.ne', ← sum_scaled _ _ (by positivity),
    sum_kept g hg _ (fun j h => by rw [hoff j h, Ideal.div_coe (by positivity), zero_mul, mul_zero])]
  refine Finset.sum_congr rfl fun k _ => ?_
  rw [hon, Ideal.div_coe (by positivity), ← EReal.coe_mul, ht, Ideal.exp_coe, mul_comm (_ : EReal) (v (g k)), mul_assoc (v (g k)), ← EReal.coe_mul]
  congr 2
  field_simp

end Cert.Soft
-- ==== Proof.Value.lean ====
/-
  The kernel's result is the reference's: the kept keys of a row, dealt over the devices, and the two quotients compared.
-/
module

public import proofs.«01_k».proof.Proof.ValEnds
public import proofs.«01_k».proof.Proof.ValRef
public import proofs.«01_k».proof.Proof.ValSoft

@[expose] public section

set_option maxRecDepth 16384

noncomputable section

namespace Cert.KernelIdeal.Gen

open Idealize.ShloMosaic Idealize.ShloMosaic.TcCoe
open Idealize.SL
open Idealize.SL.Sem
open Cert.Soft
open Cert.ReferenceIdeal.Value (score masked)

/-- The key that device `c` weighs in place `b` for row `i`. -/
def key (c : Dev nD) (i : Fin 2048) (b : Fin 512) : Fin 16384 :=
  ⟨2048 * c.val + (orow (grow (grpOf (prow i)) b)).val, by have : c.val < 8 := c.isLt; omega⟩

/-- That key's number. -/
theorem key_val (c : Dev nD) (i : Fin 2048) (b : Fin 512) :
    (key c i b).val = 2048 * c.val + 256 * (b.val / 64) + 64 * (i.val / 64 % 4) + b.val % 64 := by
  simp only [key, orow, grow, grpOf, prow]
  omega

/-- The permuted row of a row, put back. -/
theorem orow_prow (i : Fin 2048) : orow (grow (grpOf (prow i)) (inGrp (prow i))) = i := by
  refine Fin.ext ?_
  simp only [orow, grow, grpOf, inGrp, prow]
  omega

/-- The keys that the devices weigh for a row are kept ones, -/
theorem key_kept (c : Dev nD) (i : Fin 2048) (b : Fin 512) : (key c i b).val / 64 % 4 = i.val / 64 % 4 := by
  rw [key_val]; omega

/-- none is weighed twice, -/
theorem key_inj (i : Fin 2048) : Function.Injective fun k : Dev nD × Fin 512 => key k.1 i k.2 := by
  rintro ⟨c, b⟩ ⟨c', b'⟩ h
  have h := congrArg Fin.val h
  simp only [key_val] at h
  have hc : c.val < 8 := c.isLt
  have hc' : c'.val < 8 := c'.isLt
  exact Prod.ext (Fin.ext (show c.val = c'.val by omega)) (Fin.ext (show b.val = b'.val by omega))

/-- and every kept key is weighed. -/
theorem key_all (i : Fin 2048) (j : Fin 16384) (h : j.val / 64 % 4 = i.val / 64 % 4) : ∃ k : Dev nD × Fin 512, key k.1 i k.2 = j :=
  ⟨(⟨j.val / 2048, by show _ < 8; omega⟩, ⟨j.val / 256 % 8 * 64 + j.val % 64, by omega⟩), Fin.ext (by rw [key_val]; dsimp only; omega)⟩

/-- A device's block of an array cut along its rows. -/
theorem block_at (v : FVec Ideal Cert.ReferenceIdeal.S1x16384x8x128 .f32) (c : Dev nD) (r : Fin 2048) (h : Fin 8) (d : Fin 128) (j : Fin 16384)
    (hj : j.val = 2048 * c.val + r.val) :
    Layout.block ⟨4, ![1, 2048, 8, 128]⟩ ⟨4, ![1, 16384, 8, 128]⟩ 1 8 c v (by decide) (ix4 0 r h d) = v (ix4 0 j h d) := by
  refine congrArg v (funext fun a => Fin.ext ?_)
  match a with
  | ⟨0, _⟩ => rfl
  | ⟨1, _⟩ => exact (Nat.mul_comm c.val 2048 ▸ hj.symm : c.val * 2048 + r.val = j.val)
  | ⟨2, _⟩ => rfl
  | ⟨3, _⟩ => rfl

section
variable (m : (ℓ : Loc nD τ sig) → Buf (Elt Ideal) ℓ)
  (X : FVec Ideal Cert.ReferenceIdeal.S1x2048x1024 .f32) (Q : FVec Ideal Cert.ReferenceIdeal.S1024x1024 .f32)
  (K V : FVec Ideal Cert.ReferenceIdeal.S1x16384x8x128 .f32) (O : FVec Ideal Cert.ReferenceIdeal.S1024x1024 .f32)
  (hX : ∀ c, inX m c = X) (hQ : ∀ c, inQ m c = Q)
  (hK : ∀ c, inK m c = Layout.block ⟨4, ![1, 2048, 8, 128]⟩ ⟨4, ![1, 16384, 8, 128]⟩ 1 8 c K)
  (hV : ∀ c, inV m c = Layout.block ⟨4, ![1, 2048, 8, 128]⟩ ⟨4, ![1, 16384, 8, 128]⟩ 1 8 c V)
  (hO : ∀ c, inW m c = O)

include hX hQ hK in
/-- A weight of the kernel is the exponential of the reference's score. -/
theorem wt_at (c : Dev nD) (i : Fin 2048) (h : Fin 8) (b : Fin 512) :
    wt (fed0_0 (V1 m) c) (fed0_1 (V1 m) c) (fed0_2 (V1 m) c) (grpOf (prow i)) h (inGrp (prow i)) b
      = Ideal.exp (score X Q K h i (key c i b)) := by
  have mul2 : ∀ {a a' b b' : EReal}, a = a' → b = b' → a * b = a' * b' := fun h h' => by rw [h, h']
  rw [fed0_0_eq, fed0_1_eq, fed0_2_eq]
  refine congrArg Ideal.exp (mul2 (Finset.sum_congr rfl fun d _ => mul2 (Finset.sum_congr rfl fun e _ => mul2 ?_ ?_) ?_) rfl)
  · refine (v10_at m c _ e).trans ?_
    rw [hX, orow_prow]
  · refine (v31_at m c e _).trans ?_
    rw [hQ]
    exact congrArg (fun z => Q (ix2 e z)) (Fin.ext (by show 128 * h.val + d.val = h.val * 128 + d.val; omega))
  · refine (v20_at m c _ _).trans ?_
    rw [hK]
    refine (block_at K c _ _ _ (key c i b) rfl).trans ?_
    exact congrArg₂ (fun z w => K (ix4 0 (key c i b) z w)) (Fin.ext (by show (128 * h.val + d.val) / 128 = h.val; omega))
      (Fin.ext (by show (128 * h.val + d.val) % 128 = d.val; omega))

include hX hQ hK hV in
/-- The weighted values summed over the devices, as one sum over the kept keys; -/
theorem sumO_at (i : Fin 2048) (e : Fin 1024) :
    sumO (II m) (prow i) e = ∑ k : Dev nD × Fin 512, Ideal.exp (score X Q K ⟨e.val / 128, by omega⟩ i (key k.1 i k.2))
      * (V (ix4 0 (key k.1 i k.2) ⟨e.val / 128, by omega⟩ ⟨e.val % 128, by omega⟩) : EReal) := by
  rw [Fintype.sum_prod_type]
  refine Finset.sum_congr rfl fun c _ => ?_
  refine (congrFun ((fed1_0_eq (W3 m) c).trans (W3_o m c)) (ix2 (prow i) e)).trans ?_
  refine Eq.trans (α := EReal) (attnO_at (V1 m) c (ix2 (prow i) e)) (Finset.sum_congr (M := EReal) rfl fun b _ => ?_)
  have mul2 : ∀ {a a' b b' : EReal}, a = a' → b = b' → a * b = a' * b' := fun h h' => by rw [h, h']
  refine mul2 (wt_at m X Q K hX hQ hK c i _ b) ?_
  rw [fed0_3_eq]
  refine (v30_at m c _ _).trans ?_
  rw [hV]
  exact block_at V c _ _ _ (key c i b) rfl

include hX hQ hK in
/-- the weights. -/
theorem sumL_at (i : Fin 2048) (h : Fin 8) :
    sumL (II m) (prow i) h = ∑ k : Dev nD × Fin 512, Ideal.exp (score X Q K h i (key k.1 i k.2)) := by
  rw [Fintype.sum_prod_type]
  refine Finset.sum_congr rfl fun c _ => ?_
  refine (congrFun ((fed1_1_eq (W3 m) c).trans (W3_l m c)) (ix2 (prow i) h)).trans ?_
  refine Eq.trans (α := EReal) (attnL_at (V1 m) c (ix2 (prow i) h)) (Finset.sum_congr (M := EReal) rfl fun b _ => ?_)
  exact wt_at m X Q K hX hQ hK c i _ b

include hO in
/-- Every device projects with the same weights. -/
theorem ins_w (c : Dev nD) : (II m).w c = O := by
  refine (fed1_2_eq (W3 m) c).trans (funext fun y => ?_)
  obtain ⟨a, b, rfl⟩ : ∃ a b, y = ix2 a b := ⟨y 0, y 1, eq_ix2 y⟩
  rw [← hO c]
  exact W3_w m c a b

include hX hQ hK hV hO in
/-- The kernel's result at an entry is the reference's expression, where the scores of the kept keys are real. -/
theorem kernel_at (hr : ∀ h i c b, IsR (score X Q K h i (key c i b))) (c : Dev nD) (i : Fin 2048) (n : Fin 1024) :
    @Eq EReal (W5 m c (Proc.devRef .tc main_v35) (ix3 0 i n)) (∑ e : Fin 1024,
      (∑ j : Fin 16384, (V (ix4 0 j ⟨e.val / 128, by omega⟩ ⟨e.val % 128, by omega⟩) : EReal) *
        Ideal.div (Ideal.exp (masked X Q K ⟨e.val / 128, by omega⟩ i j - Finset.fold max ⊥ (masked X Q K ⟨e.val / 128, by omega⟩ i) Finset.univ))
          (∑ j' : Fin 16384, Ideal.exp (masked X Q K ⟨e.val / 128, by omega⟩ i j' - Finset.fold max ⊥ (masked X Q K ⟨e.val / 128, by omega⟩ i) Finset.univ)))
        * (O (ix2 e n) : EReal)) := by
  have mul2 : ∀ {a a' b b' : EReal}, a = a' → b = b' → a * b = a' * b' := fun h h' => by rw [h, h']
  refine (W5_r m c i n).trans ((outv_at (II m) O (ins_w m O hO) c i n).trans (Finset.sum_congr rfl fun e _ => mul2 ?_ rfl))
  have hm : ∀ (h : Fin 8) (k : Dev nD × Fin 512), masked X Q K h i (key k.1 i k.2) = score X Q K h i (key k.1 i k.2) :=
    fun h k => if_pos (key_kept k.1 i k.2)
  haveI : Nonempty (Dev nD × Fin 512) := ⟨(⟨0, by decide⟩, 0)⟩
  rw [softmax_kept (fun k : Dev nD × Fin 512 => key k.1 i k.2) (key_inj i) (masked X Q K ⟨e.val / 128, by omega⟩ i)
    (fun j => (V (ix4 0 j ⟨e.val / 128, by omega⟩ ⟨e.val % 128, by omega⟩) : EReal))
    (fun k => by rw [hm]; exact hr _ _ _ _)
    (fun j hj => if_neg fun h => by obtain ⟨k, hk⟩ := key_all i j h; exact hj k hk),
    sumO_at m X Q K V hX hQ hK hV, sumL_at m X Q K hX hQ hK]
  simp only [hm]
  rfl

end

end Cert.KernelIdeal.Gen
-- ==== Proof.ValPre.lean ====
/-
  What the precondition says of a device's blocks: the inputs, the query weights and the keys are real numbers.
-/
module

public import proofs.«01_k».proof.Pre_finite_KernelIdeal
public import proofs.«01_k».proof.Pre_finite_ReferenceIdeal
public import proofs.«01_k».proof.Proof.ValSoft
public import Idealize.ShloMosaic.Lib.Pointwise
public import Idealize.ShloMosaic.Lib.ReduceAll

@[expose] public section

set_option maxRecDepth 16384

noncomputable section

namespace Cert.Pre_finite_KernelIdeal

open Idealize.ShloMosaic Cert.Soft
open Facts

/-- The side conditions hold. -/
theorem facts : Facts := ⟨by decide, by decide, by decide, by decide, by decide, by decide, by decide⟩

/-- A value of absolute value below plus infinity is a real number. -/
theorem real_of_lt (z : EReal) (h : Ideal.cmp .olt (max z (-z)) (Ideal.ofBits .f32 0x7F800000#32) = 1#1) : IsR z := by
  have ht : Ideal.ofBits .f32 0x7F800000#32 = (⊤ : EReal) := by simp [Ideal.ofBits, Ideal.ieee]
  rw [ht] at h
  induction z using EReal.rec with
  | bot => exact absurd h (by simp [Ideal.cmp])
  | top => exact absurd h (by simp [Ideal.cmp])
  | coe r => exact ⟨r, rfl⟩

/-- Where the precondition answers yes, every element of the first three arguments is a real number. -/
theorem real_of_fn [Facts] (a0 : FVec Ideal S1x2048x1024 .f32) (a1 : FVec Ideal S1024x1024 .f32) (a2 a3 : FVec Ideal S1x2048x8x128 .f32)
    (a4 : FVec Ideal S1024x1024 .f32) (h : fn a0 a1 a2 a3 a4 = fun _ => 1#1) :
    (∀ i, IsR (a0 i)) ∧ (∀ i, IsR (a1 i)) ∧ ∀ i, IsR (a2 i) := by
  have h0 := congrFun h ix0
  obtain ⟨h1, hk⟩ := IntOp.andi_eq_one.1 h0
  obtain ⟨hx, hq⟩ := IntOp.andi_eq_one.1 h1
  haveI : Subsingleton S_.Idx := ⟨fun a b => funext fun i => i.elim0⟩
  exact ⟨fun i => real_of_lt _ (Host.reduce_andi_all _ _ _ _ _ hx i), fun i => real_of_lt _ (Host.reduce_andi_all _ _ _ _ _ hq i),
    fun i => real_of_lt _ (Host.reduce_andi_all _ _ _ _ _ hk i)⟩

end Cert.Pre_finite_KernelIdeal

namespace Cert.Pre_finite_ReferenceIdeal

/-- The side conditions hold. -/
theorem facts : Facts := ⟨by decide, by decide, by decide, by decide, by decide, by decide, by decide⟩

end Cert.Pre_finite_ReferenceIdeal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Whole
public import proofs.«01_k».proof.Proof.Same
public import proofs.«01_k».proof.Proof.Value
public import proofs.«01_k».proof.Proof.ValPre

/-! # The certificate -/

@[expose] public section

noncomputable section

namespace Cert.Proof

open Idealize.ShloMosaic Idealize.SL.Sem

/-- The five arguments of a device end as they were. -/
abbrev Args {F : FTy → Type} [FloatOps F] (m : (ℓ : Loc Cert.KernelIdeal.nD Cert.KernelIdeal.τ Cert.KernelIdeal.sig) → Buf (Elt F) ℓ)
    (s : MemSt Cert.KernelIdeal.nD Cert.KernelIdeal.τ Cert.KernelIdeal.sig (Elt F)) (c : Dev Cert.KernelIdeal.nD) : Prop :=
  s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)

/-- The program as printed is the same text as its idealization, so one run serves both. -/
theorem frame_kernel : Cert.quiescent_Kernel := fun m ρ _ => by
  have h : θ_run Cert.KernelIdeal.defs (onTc (τ := Cert.KernelIdeal.τ) (Cert.KernelIdeal.main (F := Bits))) ⟨m, fun _ => 0, ρ⟩
      (fun r => (∀ c, Args m r.2 c) ∧ r.2.sem = fun _ => 0) :=
    (θ_run Cert.KernelIdeal.defs _ _).mono (fun _ h => ⟨fun c => (h.1 c).1, h.2⟩) (Cert.KernelIdeal.Gen.run_main (F := Bits) m ρ)
  show θ_run (Cert.Kernel.defs (F := Bits)) (onTc (τ := Cert.KernelIdeal.τ) (Cert.Kernel.main (F := Bits))) ⟨m, fun _ => 0, ρ⟩
      (fun r => (∀ c, Args m r.2 c) ∧ r.2.sem = fun _ => 0)
  rw [Cert.Same.functions, Cert.Same.mains]
  exact h

theorem frame_ideal : Cert.quiescent_KernelIdeal := fun m ρ _ =>
  (θ_run Cert.KernelIdeal.defs _ _).mono (fun _ h => ⟨fun c => (h.1 c).1, h.2⟩) (Cert.KernelIdeal.Gen.run_main (F := Ideal) m ρ)

/-- The reference declares no semaphore, and no operation of it writes an argument. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

section
open Cert.Soft

/-- The score's factor is a real number. -/
theorem scale_real : IsR (Ideal.ofBits .f32 0x3DB504F3#32) := by
  have ht : Ideal.ofBits .f32 0x3DB504F3#32 ≠ (⊤ : EReal) := by simp [Ideal.ofBits, Ideal.ieee, -EReal.coe_mul]
  have hb : Ideal.ofBits .f32 0x3DB504F3#32 ≠ (⊥ : EReal) := by simp [Ideal.ofBits, Ideal.ieee, -EReal.coe_mul]
  exact ⟨_, (EReal.coe_toReal ht hb).symm⟩

/-- The result on the eight devices is the reference's. -/
theorem value (hP : Cert.Pre_finite_KernelIdeal.Facts) :
    Cert.algebraic_KernelIdeal_ReferenceIdeal_pre_finite_KernelIdeal (hPre_finite_KernelIdeal := hP) := fun m ρ m' ρ' hpre hin => by
  refine ⟨Cert.ReferenceIdeal.Value.res_main_v39 m' 0, ?_, ?_⟩
  · refine (θ_run Cert.KernelIdeal.defs _ _).mono (fun r h c => ⟨(h.1 c).2.trans ?_, (h.1 c).1⟩) (Cert.KernelIdeal.Gen.run_main (F := Ideal) m ρ)
    have hreal := fun c => Cert.Pre_finite_KernelIdeal.real_of_fn _ _ _ _ _ (hpre c)
    rw [Cert.ReferenceIdeal.Value.res_eq]
    funext y
    obtain ⟨i, n, rfl⟩ : ∃ (i : Fin 2048) (n : Fin 1024), y = ix3 0 i n :=
      ⟨y 1, y 2, (eq_ix3 y).trans (congrArg (fun z => ix3 z (y 1) (y 2)) (Subsingleton.elim (α := Fin 1) _ _))⟩
    refine (Cert.KernelIdeal.Gen.kernel_at m _ _ _ _ _ (fun c => (hin c).1) (fun c => (hin c).2.1) (fun c => (hin c).2.2.1)
      (fun c => (hin c).2.2.2.1) (fun c => (hin c).2.2.2.2) (fun h i c b => ?_) c i n).trans
      (Cert.ReferenceIdeal.Value.ref_at _ _ _ _ _ i n).symm
    refine (IsR.sum _ _ fun d => (IsR.sum _ _ fun e => IsR.mul ?_ ?_).mul ?_).mul scale_real
    · rw [← (hin c).1]; exact (hreal c).1 _
    · rw [← (hin c).2.1]; exact (hreal c).2.1 _
    · have hk := (hreal c).2.2
      rw [(hin c).2.2.1] at hk
      exact (congrArg IsR (Cert.KernelIdeal.Gen.block_at _ c _ h d (Cert.KernelIdeal.Gen.key c i b) rfl)).mp (hk _)
  · exact (θ_run Cert.ReferenceIdeal.defs _ _).mono (fun r h => h 0) (Cert.ReferenceIdeal.Value.run (F := Ideal) m' ρ')

end

theorem claim : Cert.Claim := ⟨Cert.Kernel.Gen.facts, Cert.KernelIdeal.Gen.facts, Cert.ReferenceIdeal.Gen.facts,
  Cert.Pre_finite_KernelIdeal.facts, Cert.Pre_finite_ReferenceIdeal.facts,
  frame_kernel, frame_ideal, fun m ρ _ => frame_ideal m ρ trivial, frame_reference, fun m ρ _ => frame_reference m ρ trivial, trivial, value _⟩

end Cert.Proof

end
